-- ==== Defs.lean ====
def Pre_Kernel [hPre_ids_in_rows : Cert.Pre_ids_in_rows.Facts] (m : (ℓ : Loc Cert.Kernel.nD Cert.Kernel.τ Cert.Kernel.sig) → Buf (Elt Bits) ℓ) : Prop :=
  ∀ c : Dev Cert.Kernel.nD,
    (Cert.Pre_ids_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_rows : Cert.Pre_ids_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_ids_in_rows_pad_row_zero [hPre_ids_in_rows_pad_row_zero : Cert.Pre_ids_in_rows_pad_row_zero.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_rows_pad_row_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_rows_pad_row_zero [hPre_ids_in_rows_pad_row_zero : Cert.Pre_ids_in_rows_pad_row_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_rows_pad_row_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_Relayout (m : (ℓ : Loc Cert.Relayout.nD Cert.Relayout.τ Cert.Relayout.sig) → Buf (Elt Bits) ℓ) : Prop :=
  True

def Pre_RelayoutIdeal (m : (ℓ : Loc Cert.RelayoutIdeal.nD Cert.RelayoutIdeal.τ Cert.RelayoutIdeal.sig) → Buf (Elt Ideal) ℓ) : Prop :=
  True

def Pre_RelayoutReferenceIdeal (m : (ℓ : Loc Cert.RelayoutReferenceIdeal.nD Cert.RelayoutReferenceIdeal.τ Cert.RelayoutReferenceIdeal.sig) → Buf (Elt Ideal) ℓ) : Prop :=
  True

def quiescent_Kernel [hKernel : Cert.Kernel.Facts] [hPre_ids_in_rows : Cert.Pre_ids_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ids_in_rows_pad_row_zero [hKernelIdeal : Cert.KernelIdeal.Facts] [hPre_ids_in_rows_pad_row_zero : Cert.Pre_ids_in_rows_pad_row_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_rows_pad_row_zero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_rows_pad_row_zero [hReferenceIdeal : Cert.ReferenceIdeal.Facts] [hPre_ids_in_rows_pad_row_zero : Cert.Pre_ids_in_rows_pad_row_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_rows_pad_row_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def quiescent_Relayout [hRelayout : Cert.Relayout.Facts] : Prop :=
  ∀ (m : (ℓ : Loc Cert.Relayout.nD Cert.Relayout.τ Cert.Relayout.sig) → Buf (Elt Bits) ℓ) (g : Dev Cert.Relayout.nD → PrngReg), Pre_Relayout m →
    θ_run (Cert.Relayout.defs (F := Bits)) (onTc (τ := Cert.Relayout.τ) (Cert.Relayout.main (F := Bits))) ⟨m, fun _ => 0, g⟩ (fun r => (∀ c : Dev Cert.Relayout.nD,
      r.2.mem ((c.tc : Thread Cert.Relayout.nD Cert.Relayout.τ).loc Cert.Relayout.main_arg0) = m ((c.tc : Thread Cert.Relayout.nD Cert.Relayout.τ).loc Cert.Relayout.main_arg0))
      ∧ r.2.sem = fun _ => 0)

def quiescent_RelayoutIdeal [hRelayoutIdeal : Cert.RelayoutIdeal.Facts] : Prop :=
  ∀ (m : (ℓ : Loc Cert.RelayoutIdeal.nD Cert.RelayoutIdeal.τ Cert.RelayoutIdeal.sig) → Buf (Elt Ideal) ℓ) (g : Dev Cert.RelayoutIdeal.nD → PrngReg), Pre_RelayoutIdeal m →
    θ_run (Cert.RelayoutIdeal.defs (F := Ideal)) (onTc (τ := Cert.RelayoutIdeal.τ) (Cert.RelayoutIdeal.main (F := Ideal))) ⟨m, fun _ => 0, g⟩ (fun r => (∀ c : Dev Cert.RelayoutIdeal.nD,
      r.2.mem ((c.tc : Thread Cert.RelayoutIdeal.nD Cert.RelayoutIdeal.τ).loc Cert.RelayoutIdeal.main_arg0) = m ((c.tc : Thread Cert.RelayoutIdeal.nD Cert.RelayoutIdeal.τ).loc Cert.RelayoutIdeal.main_arg0))
      ∧ r.2.sem = fun _ => 0)

def quiescent_RelayoutReferenceIdeal [hRelayoutReferenceIdeal : Cert.RelayoutReferenceIdeal.Facts] : Prop :=
  ∀ (m : (ℓ : Loc Cert.RelayoutReferenceIdeal.nD Cert.RelayoutReferenceIdeal.τ Cert.RelayoutReferenceIdeal.sig) → Buf (Elt Ideal) ℓ) (g : Dev Cert.RelayoutReferenceIdeal.nD → PrngReg), Pre_RelayoutReferenceIdeal m →
    θ_run (Cert.RelayoutReferenceIdeal.defs (F := Ideal)) (onTc (τ := Cert.RelayoutReferenceIdeal.τ) (Cert.RelayoutReferenceIdeal.main (F := Ideal))) ⟨m, fun _ => 0, g⟩ (fun r => (∀ c : Dev Cert.RelayoutReferenceIdeal.nD,
      r.2.mem ((c.tc : Thread Cert.RelayoutReferenceIdeal.nD Cert.RelayoutReferenceIdeal.τ).loc Cert.RelayoutReferenceIdeal.main_arg0) = m ((c.tc : Thread Cert.RelayoutReferenceIdeal.nD Cert.RelayoutReferenceIdeal.τ).loc Cert.RelayoutReferenceIdeal.main_arg0))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.sign_bit.Statement Cert.KernelIdeal.S2048x64 .f32

def algebraic_KernelIdeal_ReferenceIdeal_pre_ids_in_rows_pad_row_zero [hKernelIdeal : Cert.KernelIdeal.Facts] [hReferenceIdeal : Cert.ReferenceIdeal.Facts] [hPre_ids_in_rows_pad_row_zero : Cert.Pre_ids_in_rows_pad_row_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_rows_pad_row_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Head_HeadIdeal : Prop :=
  IdealRules.named_const.Statement Cert.HeadIdeal.κ "inv_sqrt2" .f32 0x3F3504F3#32 (((Real.sqrt 2)⁻¹ : ℝ) : EReal)
  ∧ IdealRules.sign_bit.Statement Cert.HeadIdeal.S2048x64 .f32

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v70) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def preserves_Relayout_RelayoutIdeal : Prop :=
  True

def algebraic_RelayoutIdeal_RelayoutReferenceIdeal [hRelayoutIdeal : Cert.RelayoutIdeal.Facts] [hRelayoutReferenceIdeal : Cert.RelayoutReferenceIdeal.Facts] : Prop :=
  ∀ (m : (ℓ : Loc Cert.RelayoutIdeal.nD Cert.RelayoutIdeal.τ Cert.RelayoutIdeal.sig) → Buf (Elt Ideal) ℓ) (g : Dev Cert.RelayoutIdeal.nD → PrngReg)
    (m' : (ℓ : Loc Cert.RelayoutReferenceIdeal.nD Cert.RelayoutReferenceIdeal.τ Cert.RelayoutReferenceIdeal.sig) → Buf (Elt Ideal) ℓ) (g' : Dev Cert.RelayoutReferenceIdeal.nD → PrngReg), Pre_RelayoutIdeal m →
    (∀ c : Dev Cert.RelayoutIdeal.nD,
      m' ((c.tc : Thread Cert.RelayoutReferenceIdeal.nD Cert.RelayoutReferenceIdeal.τ).loc Cert.RelayoutReferenceIdeal.main_arg0) = m ((c.tc : Thread Cert.RelayoutIdeal.nD Cert.RelayoutIdeal.τ).loc Cert.RelayoutIdeal.main_arg0)) →
    ∃ (v0 : (c : Dev Cert.RelayoutIdeal.nD) → Buf (Elt Ideal) ((c.tc : Thread Cert.RelayoutIdeal.nD Cert.RelayoutIdeal.τ).loc Cert.RelayoutIdeal.main_v0)),
      θ_run (Cert.RelayoutIdeal.defs (F := Ideal)) (onTc (τ := Cert.RelayoutIdeal.τ) (Cert.RelayoutIdeal.main (F := Ideal))) ⟨m, fun _ => 0, g⟩ (fun r => ∀ c : Dev Cert.RelayoutIdeal.nD,
          r.2.mem ((c.tc : Thread Cert.RelayoutIdeal.nD Cert.RelayoutIdeal.τ).loc Cert.RelayoutIdeal.main_v0) = v0 c
          ∧ r.2.mem ((c.tc : Thread Cert.RelayoutIdeal.nD Cert.RelayoutIdeal.τ).loc Cert.RelayoutIdeal.main_arg0) = m ((c.tc : Thread Cert.RelayoutIdeal.nD Cert.RelayoutIdeal.τ).loc Cert.RelayoutIdeal.main_arg0))
      ∧ θ_run (Cert.RelayoutReferenceIdeal.defs (F := Ideal)) (onTc (τ := Cert.RelayoutReferenceIdeal.τ) (Cert.RelayoutReferenceIdeal.main (F := Ideal))) ⟨m', fun _ => 0, g'⟩ (fun r => ∀ c : Dev Cert.RelayoutReferenceIdeal.nD,
          r.2.mem ((c.tc : Thread Cert.RelayoutReferenceIdeal.nD Cert.RelayoutReferenceIdeal.τ).loc Cert.RelayoutReferenceIdeal.main_v1) = v0 c
          ∧ r.2.mem ((c.tc : Thread Cert.RelayoutReferenceIdeal.nD Cert.RelayoutReferenceIdeal.τ).loc Cert.RelayoutReferenceIdeal.main_arg0) = m' ((c.tc : Thread Cert.RelayoutReferenceIdeal.nD Cert.RelayoutReferenceIdeal.τ).loc Cert.RelayoutReferenceIdeal.main_arg0))

def Claim : Prop :=
  ∃ (hKernel : Cert.Kernel.Facts) (hKernelIdeal : Cert.KernelIdeal.Facts) (hReferenceIdeal : Cert.ReferenceIdeal.Facts) (hHead : Cert.Head.Facts) (hHeadIdeal : Cert.HeadIdeal.Facts) (hHeadReferenceIdeal : Cert.HeadReferenceIdeal.Facts) (hRelayout : Cert.Relayout.Facts) (hRelayoutIdeal : Cert.RelayoutIdeal.Facts) (hRelayoutReferenceIdeal : Cert.RelayoutReferenceIdeal.Facts) (hPre_ids_in_rows : Cert.Pre_ids_in_rows.Facts) (hPre_ids_in_rows_pad_row_zero : Cert.Pre_ids_in_rows_pad_row_zero.Facts),
    quiescent_Kernel (hKernel := hKernel) (hPre_ids_in_rows := hPre_ids_in_rows)
    ∧ quiescent_KernelIdeal (hKernelIdeal := hKernelIdeal) (hPre_ids_in_rows := hPre_ids_in_rows)
    ∧ quiescent_KernelIdeal_pre_ids_in_rows_pad_row_zero (hKernelIdeal := hKernelIdeal) (hPre_ids_in_rows_pad_row_zero := hPre_ids_in_rows_pad_row_zero)
    ∧ quiescent_ReferenceIdeal (hReferenceIdeal := hReferenceIdeal)
    ∧ quiescent_ReferenceIdeal_pre_ids_in_rows_pad_row_zero (hReferenceIdeal := hReferenceIdeal) (hPre_ids_in_rows_pad_row_zero := hPre_ids_in_rows_pad_row_zero)
    ∧ quiescent_Head (hHead := hHead)
    ∧ quiescent_HeadIdeal (hHeadIdeal := hHeadIdeal)
    ∧ quiescent_HeadReferenceIdeal (hHeadReferenceIdeal := hHeadReferenceIdeal)
    ∧ quiescent_Relayout (hRelayout := hRelayout)
    ∧ quiescent_RelayoutIdeal (hRelayoutIdeal := hRelayoutIdeal)
    ∧ quiescent_RelayoutReferenceIdeal (hRelayoutReferenceIdeal := hRelayoutReferenceIdeal)
    ∧ preserves_Kernel_KernelIdeal
    ∧ algebraic_KernelIdeal_ReferenceIdeal_pre_ids_in_rows_pad_row_zero (hKernelIdeal := hKernelIdeal) (hReferenceIdeal := hReferenceIdeal) (hPre_ids_in_rows_pad_row_zero := hPre_ids_in_rows_pad_row_zero)
    ∧ preserves_Head_HeadIdeal
    ∧ algebraic_HeadIdeal_HeadReferenceIdeal (hHeadIdeal := hHeadIdeal) (hHeadReferenceIdeal := hHeadReferenceIdeal)
    ∧ preserves_Relayout_RelayoutIdeal
    ∧ algebraic_RelayoutIdeal_RelayoutReferenceIdeal (hRelayoutIdeal := hRelayoutIdeal) (hRelayoutReferenceIdeal := hRelayoutReferenceIdeal)
-- ==== Pre_ids_in_rows.lean ====
abbrev S16384x200 : Shape := ⟨2, ![16384, 200]⟩
abbrev S1000000x64 : Shape := ⟨2, ![1000000, 64]⟩
abbrev S64 : Shape := ⟨1, ![64]⟩
abbrev S64x64 : Shape := ⟨2, ![64, 64]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S1000000x64 .f32) (main_arg2 : FVec F S64 .f32) (main_arg3 : FVec F S64 .f32) (main_arg4 : FVec F S64x64 .f32) (main_arg5 : FVec F S64 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 1000000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Pre_ids_in_rows_pad_row_zero.lean ====
abbrev S16384x200 : Shape := ⟨2, ![16384, 200]⟩
abbrev S1000000x64 : Shape := ⟨2, ![1000000, 64]⟩
abbrev S64 : Shape := ⟨1, ![64]⟩
abbrev S64x64 : Shape := ⟨2, ![64, 64]⟩
abbrev S_ : Shape := ⟨0, ![]⟩
abbrev S1x64 : Shape := ⟨2, ![1, 64]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  slices_S1000000x64_S1x64_0_0 : S1000000x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_

variable [Facts]

def fn {F : FTy → Type} [FloatOps F] (main_arg0 : IVec S16384x200 32) (main_arg1 : FVec F S1000000x64 .f32) (main_arg2 : FVec F S64 .f32) (main_arg3 : FVec F S64 .f32) (main_arg4 : FVec F S64x64 .f32) (main_arg5 : FVec F S64 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 1000000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  let main_v6 : FVec F S1x64 .f32 := (extractStridedSlice S1x64 ![0, 0] · slices_S1000000x64_S1x64_0_0) main_arg1
  let main_v7 : FVec F S64 .f32 := shapeCast S64 main_v6 shapeCasts_S1x64_S64
  let main_cst : FVec F S_ .f32 := constant S_ .f32 0x00000000#32
  let main_v8 : FVec F S64 .f32 := broadcastInDim S64 ![] bcast_S_S64 main_cst
  let main_v9 : IVec S64 1 := cmpf .oeq main_v7 main_v8
  let main_c_2 : IVec S_ 1 := constantI S_ 1 1#1
  let main_v10 : IVec S_ 1 := (fun x v => Host.reduce IntOp.andi x v reducesTo_S64_S_d0 h_S_) main_v9 main_c_2
  let main_v11 : IVec S_ 1 := andi main_v5 main_v10
  main_v11
-- ==== Kernel.lean ====
abbrev S16384x200 : Shape := ⟨2, ![16384, 200]⟩
abbrev S1000000x64 : Shape := ⟨2, ![1000000, 64]⟩
abbrev S64 : Shape := ⟨1, ![64]⟩
abbrev S64x64 : Shape := ⟨2, ![64, 64]⟩
abbrev S_ : Shape := ⟨0, ![]⟩
abbrev S1000000x128 : Shape := ⟨2, ![1000000, 128]⟩
abbrev S16384x64 : Shape := ⟨2, ![16384, 64]⟩
abbrev S128x200 : Shape := ⟨2, ![128, 200]⟩
abbrev S4x200x128 : Shape := ⟨3, ![4, 200, 128]⟩
abbrev S128x64 : Shape := ⟨2, ![128, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x72x128 : Shape := ⟨3, ![1, 72, 128]⟩
abbrev S72x128 : Shape := ⟨2, ![72, 128]⟩
abbrev S1x72 : Shape := ⟨2, ![1, 72]⟩
abbrev S72 : Shape := ⟨1, ![72]⟩
abbrev S16 : Shape := ⟨1, ![16]⟩
abbrev S1x1x16 : Shape := ⟨3, ![1, 1, 16]⟩
abbrev S1x16 : Shape := ⟨2, ![1, 16]⟩
abbrev S1x64 : Shape := ⟨2, ![1, 64]⟩
abbrev S2048x64 : Shape := ⟨2, ![2048, 64]⟩
abbrev S2048 : Shape := ⟨1, ![2048]⟩
abbrev S2048x1 : Shape := ⟨2, ![2048, 1]⟩

abbrev nBuf : Table → Nat
  | .hbm => 13
  | .local .tc .vmem => 8
  | .local .scVector .vmem => 3
  | _ => 0

abbrev bufTy : (tb : Table) → Fin (nBuf tb) → BufTy
  | .hbm, ⟨0, _⟩ => ⟨S16384x200, .i32⟩
  | .hbm, ⟨1, _⟩ => ⟨S1000000x64, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S_, .f32⟩
  | .hbm, ⟨7, _⟩ => ⟨S1000000x128, .f32⟩
  | .hbm, ⟨8, _⟩ => ⟨S16384x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S16384x64, .f32⟩
  | .local .tc .vmem, ⟨0, _⟩ => ⟨S2048x64, .f32⟩
  | .local .tc .vmem, ⟨1, _⟩ => ⟨S2048x64, .f32⟩
  | .local .tc .vmem, ⟨2, _⟩ => ⟨S1x64, .f32⟩
  | .local .tc .vmem, ⟨3, _⟩ => ⟨S1x64, .f32⟩
  | .local .tc .vmem, ⟨4, _⟩ => ⟨S64x64, .f32⟩
  | .local .tc .vmem, ⟨5, _⟩ => ⟨S1x64, .f32⟩
  | .local .tc .vmem, ⟨6, _⟩ => ⟨S2048x64, .f32⟩
  | .local .tc .vmem, ⟨7, _⟩ => ⟨S2048x64, .f32⟩
  | .local .scVector .vmem, ⟨0, _⟩ => ⟨S128x200, .i32⟩
  | .local .scVector .vmem, ⟨1, _⟩ => ⟨S4x200x128, .f32⟩
  | .local .scVector .vmem, ⟨2, _⟩ => ⟨S128x64, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg0_scv : Ref sig .scVector := ⟨.hbm, 0, rfl⟩
abbrev main_v0_scv : Ref sig .scVector := ⟨.hbm, 7, rfl⟩
abbrev main_v1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg16 : BitVec 32 := Scf.iv c0_i32_0 c1_i32 k0_t1
  let c128_i32 : BitVec 32 := 128#32
  let v5 : BitVec 32 := Scalar.muli arg16 c128_i32
  let v6 : BitVec 32 := Scalar.addi v2 v5
  let c0_i32_49_r0 : BitVec 32 := 0#32
  ![v6.toNat, 0]
@[reducible] def k0_t2_loop : Scf.Loop 32 :=
  let c0_i32_45 : BitVec 32 := 0#32
  let c32_i32 : BitVec 32 := 32#32
  let v37 : BitVec 32 := Scalar.addi c0_i32_45 c32_i32
  let c1_i32_46 : BitVec 32 := 1#32
  ⟨c0_i32_45, v37, c1_i32_46⟩
def k0_cond1 (k0_t2 : Fin k0_t2_loop.trips) : BitVec 1 :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let c0_i32_50 : BitVec 32 := 0#32
  let v40 : BitVec 32 := Scalar.addi v39 c0_i32_50
  let c4_i32_51 : BitVec 32 := 4#32
  let v41 : BitVec 32 := Scalar.addi v40 c4_i32_51
  let c1_i32_52 : BitVec 32 := 1#32
  let v42 : BitVec 32 := Scalar.subi v41 c1_i32_52
  let c128_i32_53 : BitVec 32 := 128#32
  let v43 : BitVec 1 := Scalar.cmpi .slt v42 c128_i32_53
  let v44 : BitVec 32 := Scalar.extui v43
  let c0_i32_54 : BitVec 32 := 0#32
  let v45 : BitVec 1 := Scalar.cmpi .ne v44 c0_i32_54
  v45

def k0_off2 (k0_t2 : Fin k0_t2_loop.trips) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let c0_i32_50 : BitVec 32 := 0#32
  let v40 : BitVec 32 := Scalar.addi v39 c0_i32_50
  let c4_i32_51 : BitVec 32 := 4#32
  let v41 : BitVec 32 := Scalar.addi v40 c4_i32_51
  let c1_i32_52 : BitVec 32 := 1#32
  let v42 : BitVec 32 := Scalar.subi v41 c1_i32_52
  let c0_i32_311 : BitVec 32 := 0#32
  ![v42.toNat, 0]
def k0_off3 (k0_t2 : Fin k0_t2_loop.trips) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let c0_i32_50 : BitVec 32 := 0#32
  let v40 : BitVec 32 := Scalar.addi v39 c0_i32_50
  let c4_i32_51 : BitVec 32 := 4#32
  let v41 : BitVec 32 := Scalar.addi v40 c4_i32_51
  let c1_i32_52 : BitVec 32 := 1#32
  let v42 : BitVec 32 := Scalar.subi v41 c1_i32_52
  let c128_i32_317 : BitVec 32 := 128#32
  ![v42.toNat, 128]
def k0_off4 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let c0_i32_58 : BitVec 32 := 0#32
  ![v40.toNat, 0]
def k0_off5 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let c128_i32_64 : BitVec 32 := 128#32
  ![v40.toNat, 128]
@[reducible] def k0_t3_loop : Scf.Loop 32 :=
  let c0_i32_67 : BitVec 32 := 0#32
  let c200_i32 : BitVec 32 := 200#32
  let v57 : BitVec 32 := Scalar.addi c0_i32_67 c200_i32
  let c1_i32_68 : BitVec 32 := 1#32
  ⟨c0_i32_67, v57, c1_i32_68⟩
def k0_off6 (k0_t3 : Fin k0_t3_loop.trips) : Fin 3 → Nat :=
  let c0_i32_308 : BitVec 32 := 0#32
  let v719 : Index := Scalar.indexCast c0_i32_308
  let c0_i32_67 : BitVec 32 := 0#32
  let c1_i32_68 : BitVec 32 := 1#32
  let arg20 : BitVec 32 := Scf.iv c0_i32_67 c1_i32_68 k0_t3
  let v720 : Index := Scalar.indexCast arg20
  let c0_309 : Index := 0#32
  ![0, v720.toNat, 0]
def k0_off7 (k0_t3 : Fin k0_t3_loop.trips) : Fin 3 → Nat :=
  let c0_i32_310 : BitVec 32 := 0#32
  let v723 : Index := Scalar.indexCast c0_i32_310
  let c0_i32_67 : BitVec 32 := 0#32
  let c1_i32_68 : BitVec 32 := 1#32
  let arg20 : BitVec 32 := Scf.iv c0_i32_67 c1_i32_68 k0_t3
  let v724 : Index := Scalar.indexCast arg20
  let c16_311 : Index := 16#32
  ![0, v724.toNat, 16]
def k0_off8 (k0_t3 : Fin k0_t3_loop.trips) : Fin 3 → Nat :=
  let c0_i32_312 : BitVec 32 := 0#32
  let v727 : Index := Scalar.indexCast c0_i32_312
  let c0_i32_67 : BitVec 32 := 0#32
  let c1_i32_68 : BitVec 32 := 1#32
  let arg20 : BitVec 32 := Scf.iv c0_i32_67 c1_i32_68 k0_t3
  let v728 : Index := Scalar.indexCast arg20
  let c32_313 : Index := 32#32
  ![0, v728.toNat, 32]
def k0_off9 (k0_t3 : Fin k0_t3_loop.trips) : Fin 3 → Nat :=
  let c0_i32_314 : BitVec 32 := 0#32
  let v731 : Index := Scalar.indexCast c0_i32_314
  let c0_i32_67 : BitVec 32 := 0#32
  let c1_i32_68 : BitVec 32 := 1#32
  let arg20 : BitVec 32 := Scf.iv c0_i32_67 c1_i32_68 k0_t3
  let v732 : Index := Scalar.indexCast arg20
  let c48_315 : Index := 48#32
  ![0, v732.toNat, 48]
def k0_off10 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v60 : Index := Scalar.indexCast v40
  let c0 : Index := 0#32
  ![v60.toNat, 0]
def k0_off11 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v70 : Index := Scalar.indexCast v40
  let c16 : Index := 16#32
  ![v70.toNat, 16]
def k0_off12 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v80 : Index := Scalar.indexCast v40
  let c32 : Index := 32#32
  ![v80.toNat, 32]
def k0_off13 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v90 : Index := Scalar.indexCast v40
  let c48 : Index := 48#32
  ![v90.toNat, 48]
def k0_off14 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v100 : Index := Scalar.indexCast v40
  let c64 : Index := 64#32
  ![v100.toNat, 64]
def k0_off15 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v110 : Index := Scalar.indexCast v40
  let c80 : Index := 80#32
  ![v110.toNat, 80]
def k0_off16 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v120 : Index := Scalar.indexCast v40
  let c96 : Index := 96#32
  ![v120.toNat, 96]
def k0_off17 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v130 : Index := Scalar.indexCast v40
  let c112 : Index := 112#32
  ![v130.toNat, 112]
def k0_off18 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v140 : Index := Scalar.indexCast v40
  let c128 : Index := 128#32
  ![v140.toNat, 128]
def k0_off19 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v150 : Index := Scalar.indexCast v40
  let c144 : Index := 144#32
  ![v150.toNat, 144]
def k0_off20 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v160 : Index := Scalar.indexCast v40
  let c160 : Index := 160#32
  ![v160.toNat, 160]
def k0_off21 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v170 : Index := Scalar.indexCast v40
  let c176 : Index := 176#32
  ![v170.toNat, 176]
def k0_off22 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v180 : Index := Scalar.indexCast v40
  let c184 : Index := 184#32
  ![v180.toNat, 184]
def k0_off23 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v198 : Index := Scalar.indexCast v40
  let c0_97 : Index := 0#32
  ![v198.toNat, 0]
def k0_off24 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v201 : Index := Scalar.indexCast v40
  let c16_98 : Index := 16#32
  ![v201.toNat, 16]
def k0_off25 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v204 : Index := Scalar.indexCast v40
  let c32_99 : Index := 32#32
  ![v204.toNat, 32]
def k0_off26 (k0_t2 : Fin k0_t2_loop.trips) (c0_i32_50 : BitVec 32) : Fin 2 → Nat :=
  let c4_i32_49 : BitVec 32 := 4#32
  let c0_i32_45 : BitVec 32 := 0#32
  let c1_i32_46 : BitVec 32 := 1#32
  let arg18 : BitVec 32 := Scf.iv c0_i32_45 c1_i32_46 k0_t2
  let v39 : BitVec 32 := Scalar.muli c4_i32_49 arg18
  let v40 : BitVec 32 := Scalar.addi v39 c0_i32_50
  let v207 : Index := Scalar.indexCast v40
  let c48_100 : Index := 48#32
  ![v207.toNat, 48]
def k0_cond2 (k0_t2 : Fin k0_t2_loop.trips) : BitVec 1 :=
  let c4_i32_101 : BitVec 32 := 4#32
  let c0_i32_45 : BitVec 32 := 0#32
  let c1_i32_46 : BitVec 32 := 1#32
  let arg18 : BitVec 32 := Scf.iv c0_i32_45 c1_i32_46 k0_t2
  let v209 : BitVec 32 := Scalar.muli c4_i32_101 arg18
  let c1_i32_102 : BitVec 32 := 1#32
  let v210 : BitVec 32 := Scalar.addi v209 c1_i32_102
  let c4_i32_103 : BitVec 32 := 4#32
  let v211 : BitVec 32 := Scalar.addi v210 c4_i32_103
  let c1_i32_104 : BitVec 32 := 1#32
  let v212 : BitVec 32 := Scalar.subi v211 c1_i32_104
  let c128_i32_105 : BitVec 32 := 128#32
  let v213 : BitVec 1 := Scalar.cmpi .slt v212 c128_i32_105
  let v214 : BitVec 32 := Scalar.extui v213
  let c0_i32_106 : BitVec 32 := 0#32
  let v215 : BitVec 1 := Scalar.cmpi .ne v214 c0_i32_106
  v215

def k0_off27 (k0_t2 : Fin k0_t2_loop.trips) : Fin 2 → Nat :=
  let c4_i32_101 : BitVec 32 := 4#32
  let c0_i32_45 : BitVec 32 := 0#32
  let c1_i32_46 : BitVec 32 := 1#32
  let arg18 : BitVec 32 := Scf.iv c0_i32_45 c1_i32_46 k0_t2
  let v209 : BitVec 32 := Scalar.muli c4_i32_101 arg18
  let c1_i32_102 : BitVec 32 := 1#32
  let v210 : BitVec 32 := Scalar.addi v209 c1_i32_102
  let c4_i32_103 : BitVec 32 := 4#32
  let v211 : BitVec 32 := Scalar.addi v210 c4_i32_103
  let c1_i32_104 : BitVec 32 := 1#32
  let v212 : BitVec 32 := Scalar.subi v211 c1_i32_104
  let c0_i32_311 : BitVec 32 := 0#32
  ![v212.toNat, 0]
def k0_off28 (k0_t2 : Fin k0_t2_loop.trips) : Fin 2 → Nat :=
  let c4_i32_101 : BitVec 32 := 4#32
  let c0_i32_45 : BitVec 32 := 0#32
  let c1_i32_46 : BitVec 32 := 1#32
  let arg18 : BitVec 32 := Scf.iv c0_i32_45 c1_i32_46 k0_t2
  let v209 : BitVec 32 := Scalar.muli c4_i32_101 arg18
  let c1_i32_102 : BitVec 32 := 1#32
  let v210 : BitVec 32 := Scalar.addi v209 c1_i32_102
  let c4_i32_103 : BitVec 32 := 4#32
  let v211 : BitVec 32 := Scalar.addi v210 c4_i32_103
  let c1_i32_104 : BitVec 32 := 1#32
  let v212 : BitVec 32 := Scalar.subi v211 c1_i32_104
  let c128_i32_317 : BitVec 32 := 128#32
  ![v212.toNat, 128]
@[reducible] def k0_t4_loop : Scf.Loop 32 :=
  let c0_i32_120 : BitVec 32 := 0#32
  let c200_i32_121 : BitVec 32 := 200#32
  let v227 : BitVec 32 := Scalar.addi c0_i32_120 c200_i32_121
  let c1_i32_122 : BitVec 32 := 1#32
  ⟨c0_i32_120, v227, c1_i32_122⟩
def k0_off29 (k0_t4 : Fin k0_t4_loop.trips) : Fin 3 → Nat :=
  let c1_i32_308 : BitVec 32 := 1#32
  let v719 : Index := Scalar.indexCast c1_i32_308
  let c0_i32_120 : BitVec 32 := 0#32
  let c1_i32_122 : BitVec 32 := 1#32
  let arg20 : BitVec 32 := Scf.iv c0_i32_120 c1_i32_122 k0_t4
  let v720 : Index := Scalar.indexCast arg20
  let c0_309 : Index := 0#32
  ![1, v720.toNat, 0]
def k0_off30 (k0_t4 : Fin k0_t4_loop.trips) : Fin 3 → Nat :=
  let c1_i32_310 : BitVec 32 := 1#32
  let v723 : Index := Scalar.indexCast c1_i32_310
  let c0_i32_120 : BitVec 32 := 0#32
  let c1_i32_122 : BitVec 32 := 1#32
  let arg20 : BitVec 32 := Scf.iv c0_i32_120 c1_i32_122 k0_t4
  let v724 : Index := Scalar.indexCast arg20
  let c16_311 : Index := 16#32
  ![1, v724.toNat, 16]
def k0_off31 (k0_t4 : Fin k0_t4_loop.trips) : Fin 3 → Nat :=
  let c1_i32_312 : BitVec 32 := 1#32
  let v727 : Index := Scalar.indexCast c1_i32_312
  let c0_i32_120 : BitVec 32 := 0#32
  let c1_i32_122 : BitVec 32 := 1#32
  let arg20 : BitVec 32 := Scf.iv c0_i32_120 c1_i32_122 k0_t4
  let v728 : Index := Scalar.indexCast arg20
  let c32_313 : Index := 32#32
  ![1, v728.toNat, 32]
def k0_off32 (k0_t4 : Fin k0_t4_loop.trips) : Fin 3 → Nat :=
  let c1_i32_314 : BitVec 32 := 1#32
  let v731 : Index := Scalar.indexCast c1_i32_314
  let c0_i32_120 : BitVec 32 := 0#32
  let c1_i32_122 : BitVec 32 := 1#32
  let arg20 : BitVec 32 := Scf.iv c0_i32_120 c1_i32_122 k0_t4
  let v732 : Index := Scalar.indexCast arg20
  let c48_315 : Index := 48#32
  ![1, v732.toNat, 48]
def k0_cond3 (k0_t2 : Fin k0_t2_loop.trips) : BitVec 1 :=
  let c4_i32_170 : BitVec 32 := 4#32
  let c0_i32_45 : BitVec 32 := 0#32
  let c1_i32_46 : BitVec 32 := 1#32
  let arg18 : BitVec 32 := Scf.iv c0_i32_45 c1_i32_46 k0_t2
  let v379 : BitVec 32 := Scalar.muli c4_i32_170 arg18
  let c2_i32_171 : BitVec 32 := 2#32
  let v380 : BitVec 32 := Scalar.addi v379 c2_i32_171
  let c4_i32_172 : BitVec 32 := 4#32
  let v381 : BitVec 32 := Scalar.addi v380 c4_i32_172
  let c1_i32_173 : BitVec 32 := 1#32
  let v382 : BitVec 32 := Scalar.subi v381 c1_i32_173
  let c128_i32_174 : BitVec 32 := 128#32
  let v383 : BitVec 1 := Scalar.cmpi .slt v382 c128_i32_174
  let v384 : BitVec 32 := Scalar.extui v383
  let c0_i32_175 : BitVec 32 := 0#32
  let v385 : BitVec 1 := Scalar.cmpi .ne v384 c0_i32_175
  v385

def k0_off33 (k0_t2 : Fin k0_t2_loop.trips) : Fin 2 → Nat :=
  let c4_i32_170 : BitVec 32 := 4#32
  let c0_i32_45 : BitVec 32 := 0#32
  let c1_i32_46 : BitVec 32 := 1#32
  let arg18 : BitVec 32 := Scf.iv c0_i32_45 c1_i32_46 k0_t2
  let v379 : BitVec 32 := Scalar.muli c4_i32_170 arg18
  let c2_i32_171 : BitVec 32 := 2#32
  let v380 : BitVec 32 := Scalar.addi v379 c2_i32_171
  let c4_i32_172 : BitVec 32 := 4#32
  let v381 : BitVec 32 := Scalar.addi v380 c4_i32_172
  let c1_i32_173 : BitVec 32 := 1#32
  let v382 : BitVec 32 := Scalar.subi v381 c1_i32_173
  let c0_i32_311 : BitVec 32 := 0#32
  ![v382.toNat, 0]
def k0_off34 (k0_t2 : Fin k0_t2_loop.trips) : Fin 2 → Nat :=
  let c4_i32_170 : BitVec 32 := 4#32
  let c0_i32_45 : BitVec 32 := 0#32
  let c1_i32_46 : BitVec 32 := 1#32
  let arg18 : BitVec 32 := Scf.iv c0_i32_45 c1_i32_46 k0_t2
  let v379 : BitVec 32 := Scalar.muli c4_i32_170 arg18
  let c2_i32_171 : BitVec 32 := 2#32
  let v380 : BitVec 32 := Scalar.addi v379 c2_i32_171
  let c4_i32_172 : BitVec 32 := 4#32
  let v381 : BitVec 32 := Scalar.addi v380 c4_i32_172
  let c1_i32_173 : BitVec 32 := 1#32
  let v382 : BitVec 32 := Scalar.subi v381 c1_i32_173
  let c128_i32_317 : BitVec 32 := 128#32
  ![v382.toNat, 128]
@[reducible] def k0_t5_loop : Scf.Loop 32 :=
  let c0_i32_189 : BitVec 32 := 0#32
  let c200_i32_190 : BitVec 32 := 200#32
  let v397 : BitVec 32 := Scalar.addi c0_i32_189 c200_i32_190
  let c1_i32_191 : BitVec 32 := 1#32
  ⟨c0_i32_189, v397, c1_i32_191⟩
def k0_off35 (k0_t5 : Fin k0_t5_loop.trips) : Fin 3 → Nat :=
  let c2_i32_308 : BitVec 32 := 2#32
  let v719 : Index := Scalar.indexCast c2_i32_308
  let c0_i32_189 : BitVec 32 := 0#32
  let c1_i32_191 : BitVec 32 := 1#32
  let arg20 : BitVec 32 := Scf.iv c0_i32_189 c1_i32_191 k0_t5
  let v720 : Index := Scalar.indexCast arg20
  let c0_309 : Index := 0#32
  ![2, v720.toNat, 0]
def k0_off36 (k0_t5 : Fin k0_t5_loop.trips) : Fin 3 → Nat :=
  let c2_i32_310 : BitVec 32 := 2#32
  let v723 : Index := Scalar.indexCast c2_i32_310
  let c0_i32_189 : BitVec 32 := 0#32
  let c1_i32_191 : BitVec 32 := 1#32
  let arg20 : BitVec 32 := Scf.iv c0_i32_189 c1_i32_191 k0_t5
  let v724 : Index := Scalar.indexCast arg20
  let c16_311 : Index := 16#32
  ![2, v724.toNat, 16]
def k0_off37 (k0_t5 : Fin k0_t5_loop.trips) : Fin 3 → Nat :=
  let c2_i32_312 : BitVec 32 := 2#32
  let v727 : Index := Scalar.indexCast c2_i32_312
  let c0_i32_189 : BitVec 32 := 0#32
  let c1_i32_191 : BitVec 32 := 1#32
  let arg20 : BitVec 32 := Scf.iv c0_i32_189 c1_i32_191 k0_t5
  let v728 : Index := Scalar.indexCast arg20
  let c32_313 : Index := 32#32
  ![2, v728.toNat, 32]
def k0_off38 (k0_t5 : Fin k0_t5_loop.trips) : Fin 3 → Nat :=
  let c2_i32_314 : BitVec 32 := 2#32
  let v731 : Index := Scalar.indexCast c2_i32_314
  let c0_i32_189 : BitVec 32 := 0#32
  let c1_i32_191 : BitVec 32 := 1#32
  let arg20 : BitVec 32 := Scf.iv c0_i32_189 c1_i32_191 k0_t5
  let v732 : Index := Scalar.indexCast arg20
  let c48_315 : Index := 48#32
  ![2, v732.toNat, 48]
def k0_cond4 (k0_t2 : Fin k0_t2_loop.trips) : BitVec 1 :=
  let c4_i32_239 : BitVec 32 := 4#32
  let c0_i32_45 : BitVec 32 := 0#32
  let c1_i32_46 : BitVec 32 := 1#32
  let arg18 : BitVec 32 := Scf.iv c0_i32_45 c1_i32_46 k0_t2
  let v549 : BitVec 32 := Scalar.muli c4_i32_239 arg18
  let c3_i32 : BitVec 32 := 3#32
  let v550 : BitVec 32 := Scalar.addi v549 c3_i32
  let c4_i32_240 : BitVec 32 := 4#32
  let v551 : BitVec 32 := Scalar.addi v550 c4_i32_240
  let c1_i32_241 : BitVec 32 := 1#32
  let v552 : BitVec 32 := Scalar.subi v551 c1_i32_241
  let c128_i32_242 : BitVec 32 := 128#32
  let v553 : BitVec 1 := Scalar.cmpi .slt v552 c128_i32_242
  let v554 : BitVec 32 := Scalar.extui v553
  let c0_i32_243 : BitVec 32 := 0#32
  let v555 : BitVec 1 := Scalar.cmpi .ne v554 c0_i32_243
  v555

def k0_off39 (k0_t2 : Fin k0_t2_loop.trips) : Fin 2 → Nat :=
  let c4_i32_239 : BitVec 32 := 4#32
  let c0_i32_45 : BitVec 32 := 0#32
  let c1_i32_46 : BitVec 32 := 1#32
  let arg18 : BitVec 32 := Scf.iv c0_i32_45 c1_i32_46 k0_t2
  let v549 : BitVec 32 := Scalar.muli c4_i32_239 arg18
  let c3_i32 : BitVec 32 := 3#32
  let v550 : BitVec 32 := Scalar.addi v549 c3_i32
  let c4_i32_240 : BitVec 32 := 4#32
  let v551 : BitVec 32 := Scalar.addi v550 c4_i32_240
  let c1_i32_241 : BitVec 32 := 1#32
  let v552 : BitVec 32 := Scalar.subi v551 c1_i32_241
  let c0_i32_311 : BitVec 32 := 0#32
  ![v552.toNat, 0]
def k0_off40 (k0_t2 : Fin k0_t2_loop.trips) : Fin 2 → Nat :=
  let c4_i32_239 : BitVec 32 := 4#32
  let c0_i32_45 : BitVec 32 := 0#32
  let c1_i32_46 : BitVec 32 := 1#32
  let arg18 : BitVec 32 := Scf.iv c0_i32_45 c1_i32_46 k0_t2
  let v549 : BitVec 32 := Scalar.muli c4_i32_239 arg18
  let c3_i32 : BitVec 32 := 3#32
  let v550 : BitVec 32 := Scalar.addi v549 c3_i32
  let c4_i32_240 : BitVec 32 := 4#32
  let v551 : BitVec 32 := Scalar.addi v550 c4_i32_240
  let c1_i32_241 : BitVec 32 := 1#32
  let v552 : BitVec 32 := Scalar.subi v551 c1_i32_241
  let c128_i32_317 : BitVec 32 := 128#32
  ![v552.toNat, 128]
@[reducible] def k0_t6_loop : Scf.Loop 32 :=
  let c0_i32_257 : BitVec 32 := 0#32
  let c200_i32_258 : BitVec 32 := 200#32
  let v567 : BitVec 32 := Scalar.addi c0_i32_257 c200_i32_258
  let c1_i32_259 : BitVec 32 := 1#32
  ⟨c0_i32_257, v567, c1_i32_259⟩
def k0_off41 (k0_t6 : Fin k0_t6_loop.trips) : Fin 3 → Nat :=
  let c3_i32_308 : BitVec 32 := 3#32
  let v719 : Index := Scalar.indexCast c3_i32_308
  let c0_i32_257 : BitVec 32 := 0#32
  let c1_i32_259 : BitVec 32 := 1#32
  let arg20 : BitVec 32 := Scf.iv c0_i32_257 c1_i32_259 k0_t6
  let v720 : Index := Scalar.indexCast arg20
  let c0_309 : Index := 0#32
  ![3, v720.toNat, 0]
def k0_off42 (k0_t6 : Fin k0_t6_loop.trips) : Fin 3 → Nat :=
  let c3_i32_310 : BitVec 32 := 3#32
  let v723 : Index := Scalar.indexCast c3_i32_310
  let c0_i32_257 : BitVec 32 := 0#32
  let c1_i32_259 : BitVec 32 := 1#32
  let arg20 : BitVec 32 := Scf.iv c0_i32_257 c1_i32_259 k0_t6
  let v724 : Index := Scalar.indexCast arg20
  let c16_311 : Index := 16#32
  ![3, v724.toNat, 16]
def k0_off43 (k0_t6 : Fin k0_t6_loop.trips) : Fin 3 → Nat :=
  let c3_i32_312 : BitVec 32 := 3#32
  let v727 : Index := Scalar.indexCast c3_i32_312
  let c0_i32_257 : BitVec 32 := 0#32
  let c1_i32_259 : BitVec 32 := 1#32
  let arg20 : BitVec 32 := Scf.iv c0_i32_257 c1_i32_259 k0_t6
  let v728 : Index := Scalar.indexCast arg20
  let c32_313 : Index := 32#32
  ![3, v728.toNat, 32]
def k0_off44 (k0_t6 : Fin k0_t6_loop.trips) : Fin 3 → Nat :=
  let c3_i32_314 : BitVec 32 := 3#32
  let v731 : Index := Scalar.indexCast c3_i32_314
  let c0_i32_257 : BitVec 32 := 0#32
  let c1_i32_259 : BitVec 32 := 1#32
  let arg20 : BitVec 32 := Scf.iv c0_i32_257 c1_i32_259 k0_t6
  let v732 : Index := Scalar.indexCast arg20
  let c48_315 : Index := 48#32
  ![3, v732.toNat, 48]
def k0_off45 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg16 : BitVec 32 := Scf.iv c0_i32_0 c1_i32 k0_t1
  let c128_i32 : BitVec 32 := 128#32
  let v5 : BitVec 32 := Scalar.muli arg16 c128_i32
  let v6 : BitVec 32 := Scalar.addi v2 v5
  let c0_i32_49_r1 : BitVec 32 := 0#32
  ![v6.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S16384x200 : Shape := ⟨2, ![16384, 200]⟩
abbrev S1000000x64 : Shape := ⟨2, ![1000000, 64]⟩
abbrev S64 : Shape := ⟨1, ![64]⟩
abbrev S64x64 : Shape := ⟨2, ![64, 64]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x64 : Shape := ⟨3, ![16384, 200, 64]⟩
abbrev S16384x64 : Shape := ⟨2, ![16384, 64]⟩
abbrev S16384x1 : Shape := ⟨2, ![16384, 1]⟩
abbrev S16384 : Shape := ⟨1, ![16384]⟩
abbrev S1x64 : Shape := ⟨2, ![1, 64]⟩

abbrev nBuf : Space → Nat
  | .hbm => 141
  | .vmem => 0
  | .smem => 0
  | _ => 0

abbrev hbmTy0_0 (i : Nat) : BufTy := match i % 128 with
  | 0 => ⟨S16384x200, .i32⟩
  | 1 => ⟨S1000000x64, .f32⟩
  | 2 => ⟨S64, .f32⟩
  | 3 => ⟨S64, .f32⟩
  | 4 => ⟨S64x64, .f32⟩
  | 5 => ⟨S64, .f32⟩
  | 6 => ⟨S_, .i32⟩
  | 7 => ⟨S16384x200, .i32⟩
  | 8 => ⟨S16384x200, .i1⟩
  | 9 => ⟨S_, .i32⟩
  | 10 => ⟨S16384x200, .i32⟩
  | 11 => ⟨S16384x200, .i32⟩
  | 12 => ⟨S16384x200, .i32⟩
  | 13 => ⟨S16384x200x1, .i32⟩
  | 14 => ⟨S1, .i32⟩
  | 15 => ⟨S_, .i32⟩
  | 16 => ⟨S16384x200x1, .i32⟩
  | 17 => ⟨S16384x200x1, .i1⟩
  | 18 => ⟨S1x1x1, .i32⟩
  | 19 => ⟨S16384x200x1, .i32⟩
  | 20 => ⟨S16384x200x1, .i1⟩
  | 21 => ⟨S16384x200x1, .i1⟩
  | 22 => ⟨S_, .i1⟩
  | 23 => ⟨S16384x200, .i1⟩
  | 24 => ⟨S16384x200x64, .f32⟩
  | 25 => ⟨S16384x200x64, .i1⟩
  | 26 => ⟨S_, .f32⟩
  | 27 => ⟨S16384x200x64, .f32⟩
  | 28 => ⟨S16384x200x64, .f32⟩
  | 29 => ⟨S_, .i32⟩
  | 30 => ⟨S16384x200, .i32⟩
  | 31 => ⟨S16384x200, .i1⟩
  | 32 => ⟨S16384x200x1, .i1⟩
  | 33 => ⟨S16384x200x1, .f32⟩
  | 34 => ⟨S16384x200x64, .f32⟩
  | 35 => ⟨S16384x200x64, .f32⟩
  | 36 => ⟨S_, .f32⟩
  | 37 => ⟨S16384x64, .f32⟩
  | 38 => ⟨S_, .f32⟩
  | 39 => ⟨S16384x1, .f32⟩
  | 40 => ⟨S_, .f32⟩
  | 41 => ⟨S_, .f32⟩
  | 42 => ⟨S16384x1, .f32⟩
  | 43 => ⟨S16384x1, .f32⟩
  | 44 => ⟨S16384x64, .f32⟩
  | 45 => ⟨S16384x64, .f32⟩
  | 46 => ⟨S_, .f32⟩
  | 47 => ⟨S16384, .f32⟩
  | 48 => ⟨S16384x1, .f32⟩
  | 49 => ⟨S_, .f32⟩
  | 50 => ⟨S16384x1, .f32⟩
  | 51 => ⟨S16384x1, .f32⟩
  | 52 => ⟨S16384x64, .f32⟩
  | 53 => ⟨S16384x64, .f32⟩
  | 54 => ⟨S16384x64, .f32⟩
  | 55 => ⟨S_, .f32⟩
  | 56 => ⟨S16384, .f32⟩
  | 57 => ⟨S16384x1, .f32⟩
  | 58 => ⟨S_, .f32⟩
  | 59 => ⟨S16384x1, .f32⟩
  | 60 => ⟨S16384x1, .f32⟩
  | 61 => ⟨S16384x64, .f32⟩
  | 62 => ⟨S16384x64, .f32⟩
  | 63 => ⟨S_, .f32⟩
  | 64 => ⟨S16384x1, .f32⟩
  | 65 => ⟨S16384x1, .f32⟩
  | 66 => ⟨S16384x1, .f32⟩
  | 67 => ⟨S16384x64, .f32⟩
  | 68 => ⟨S16384x64, .f32⟩
  | 69 => ⟨S1x64, .f32⟩
  | 70 => ⟨S16384x64, .f32⟩
  | 71 => ⟨S16384x64, .f32⟩
  | 72 => ⟨S1x64, .f32⟩
  | 73 => ⟨S16384x64, .f32⟩
  | 74 => ⟨S16384x64, .f32⟩
  | 75 => ⟨S64x64, .f32⟩
  | 76 => ⟨S16384x64, .f32⟩
  | 77 => ⟨S1x64, .f32⟩
  | 78 => ⟨S16384x64, .f32⟩
  | 79 => ⟨S16384x64, .f32⟩
  | 80 => ⟨S_, .f32⟩
  | 81 => ⟨S16384x64, .f32⟩
  | 82 => ⟨S16384x64, .f32⟩
  | 83 => ⟨S_, .f32⟩
  | 84 => ⟨S_, .f32⟩
  | 85 => ⟨S_, .f32⟩
  | 86 => ⟨S16384x64, .f32⟩
  | 87 => ⟨S16384x64, .f32⟩
  | 88 => ⟨S16384x64, .f32⟩
  | 89 => ⟨S_, .f32⟩
  | 90 => ⟨S16384x64, .f32⟩
  | 91 => ⟨S16384x64, .f32⟩
  | 92 => ⟨S_, .f32⟩
  | 93 => ⟨S16384x64, .f32⟩
  | 94 => ⟨S16384x64, .f32⟩
  | 95 => ⟨S_, .f32⟩
  | 96 => ⟨S16384x64, .f32⟩
  | 97 => ⟨S16384x64, .f32⟩
  | 98 => ⟨S_, .f32⟩
  | 99 => ⟨S16384x64, .f32⟩
  | 100 => ⟨S16384x64, .f32⟩
  | 101 => ⟨S_, .f32⟩
  | 102 => ⟨S16384x64, .f32⟩
  | 103 => ⟨S16384x64, .f32⟩
  | 104 => ⟨S16384x64, .f32⟩
  | 105 => ⟨S_, .f32⟩
  | 106 => ⟨S16384x64, .f32⟩
  | 107 => ⟨S16384x64, .f32⟩
  | 108 => ⟨S16384x64, .f32⟩
  | 109 => ⟨S_, .f32⟩
  | 110 => ⟨S16384x64, .f32⟩
  | 111 => ⟨S16384x64, .f32⟩
  | 112 => ⟨S16384x64, .f32⟩
  | 113 => ⟨S_, .f32⟩
  | 114 => ⟨S16384x64, .f32⟩
  | 115 => ⟨S16384x64, .f32⟩
  | 116 => ⟨S16384x64, .f32⟩
  | 117 => ⟨S16384x64, .f32⟩
  | 118 => ⟨S16384x64, .f32⟩
  | 119 => ⟨S16384x64, .f32⟩
  | 120 => ⟨S16384x64, .f32⟩
  | 121 => ⟨S16384x64, .f32⟩
  | 122 => ⟨S_, .f32⟩
  | 123 => ⟨S16384x64, .f32⟩
  | 124 => ⟨S16384x64, .f32⟩
  | 125 => ⟨S16384x64, .f32⟩
  | 126 => ⟨S_, .f32⟩
  | 127 => ⟨S16384x64, .f32⟩
  | _ => ⟨S16384x200, .i32⟩

abbrev hbmTy0_1 (i : Nat) : BufTy := match i % 128 with
  | 0 => ⟨S16384x64, .f32⟩
  | 1 => ⟨S16384x64, .f32⟩
  | 2 => ⟨S16384x64, .f32⟩
  | 3 => ⟨S_, .f32⟩
  | 4 => ⟨S16384, .f32⟩
  | 5 => ⟨S16384x1, .f32⟩
  | 6 => ⟨S16384x1, .f32⟩
  | 7 => ⟨S_, .f32⟩
  | 8 => ⟨S_, .f32⟩
  | 9 => ⟨S16384x1, .f32⟩
  | 10 => ⟨S16384x1, .f32⟩
  | 11 => ⟨S16384x64, .f32⟩
  | 12 => ⟨S16384x64, .f32⟩
  | _ => ⟨S16384x200, .i32⟩

abbrev hbmTy (i : Nat) : BufTy := match i / 128 with
  | 0 => hbmTy0_0 i
  | 1 => hbmTy0_1 i
  | _ => ⟨S16384x200, .i32⟩

abbrev bufTy : (tb : Table) → Fin (tcTables nBuf tb) → BufTy
  | .hbm, ⟨i, _⟩ => hbmTy i
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_4 : Ref sig .tc := ⟨.hbm, 55, rfl⟩
abbrev main_v19 : Ref sig .tc := ⟨.hbm, 56, rfl⟩
abbrev main_v20 : Ref sig .tc := ⟨.hbm, 57, rfl⟩
abbrev main_cst_5 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_6 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_7 : Ref sig .tc := ⟨.hbm, 80, rfl⟩
abbrev main_v41 : Ref sig .tc := ⟨.hbm, 81, rfl⟩
abbrev main_v42 : Ref sig .tc := ⟨.hbm, 82, rfl⟩
abbrev main_cst_8 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_9 : Ref sig .tc := ⟨.hbm, 89, rfl⟩
abbrev main_v48 : Ref sig .tc := ⟨.hbm, 90, rfl⟩
abbrev main_v49 : Ref sig .tc := ⟨.hbm, 91, rfl⟩
abbrev main_cst_10 : Ref sig .tc := ⟨.hbm, 92, rfl⟩
abbrev main_v50 : Ref sig .tc := ⟨.hbm, 93, rfl⟩
abbrev main_v51 : Ref sig .tc := ⟨.hbm, 94, rfl⟩
abbrev main_cst_11 : Ref sig .tc := ⟨.hbm, 95, rfl⟩
abbrev main_v52 : Ref sig .tc := ⟨.hbm, 96, rfl⟩
abbrev main_v53 : Ref sig .tc := ⟨.hbm, 97, rfl⟩
abbrev main_cst_12 : Ref sig .tc := ⟨.hbm, 98, rfl⟩
abbrev main_v54 : Ref sig .tc := ⟨.hbm, 99, rfl⟩
abbrev main_v55 : Ref sig .tc := ⟨.hbm, 100, rfl⟩
abbrev main_cst_13 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_14 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_15 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_16 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_17 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_18 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_call2_v0 : Ref sig .tc := ⟨.hbm, 130, rfl⟩
abbrev main_call2_cst : Ref sig .tc := ⟨.hbm, 131, rfl⟩
abbrev main_call2_v1 : Ref sig .tc := ⟨.hbm, 132, rfl⟩
abbrev main_call2_v2 : Ref sig .tc := ⟨.hbm, 133, rfl⟩
abbrev main_v79 : Ref sig .tc := ⟨.hbm, 134, rfl⟩
abbrev main_cst_19 : Ref sig .tc := ⟨.hbm, 135, rfl⟩
abbrev main_call3_v0 : Ref sig .tc := ⟨.hbm, 136, rfl⟩
abbrev main_call3_v1 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩

abbrev nD : Nat := 1
abbrev τ : Topo := Topo.v7x

variable {F : FTy → Type} [FloatOps F]
-- ==== Head.lean ====
abbrev S16384x64 : Shape := ⟨2, ![16384, 64]⟩
abbrev S64 : Shape := ⟨1, ![64]⟩
abbrev S64x64 : Shape := ⟨2, ![64, 64]⟩
abbrev S1x64 : Shape := ⟨2, ![1, 64]⟩
abbrev S2048x64 : Shape := ⟨2, ![2048, 64]⟩
abbrev S2048 : Shape := ⟨1, ![2048]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S16384x64, .f32⟩
  | .local _ .vmem, ⟨0, _⟩ => ⟨S2048x64, .f32⟩
  | .local _ .vmem, ⟨1, _⟩ => ⟨S2048x64, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HeadIdeal.lean ====
variable {F : FTy → Type} [FloatOps F] [Named F]
def κ : String → Option EReal := fun
  | "inv_sqrt2" => some (((Real.sqrt 2)⁻¹ : ℝ) : EReal)
  | _ => none
-- ==== HeadReferenceIdeal.lean ====
abbrev S16384x64 : Shape := ⟨2, ![16384, 64]⟩
abbrev S64 : Shape := ⟨1, ![64]⟩
abbrev S64x64 : Shape := ⟨2, ![64, 64]⟩
abbrev S_ : Shape := ⟨0, ![]⟩
abbrev S16384 : Shape := ⟨1, ![16384]⟩
abbrev S16384x1 : Shape := ⟨2, ![16384, 1]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S1x64, .f32⟩
  | .hbm, ⟨32, _⟩ => ⟨S16384x64, .f32⟩
  | .hbm, ⟨33, _⟩ => ⟨S16384x64, .f32⟩
  | .hbm, ⟨34, _⟩ => ⟨S64x64, .f32⟩
  | .hbm, ⟨35, _⟩ => ⟨S16384x64, .f32⟩
  | .hbm, ⟨36, _⟩ => ⟨S1x64, .f32⟩
  | .hbm, ⟨37, _⟩ => ⟨S16384x64, .f32⟩
  | .hbm, ⟨38, _⟩ => ⟨S16384x64, .f32⟩
  | .hbm, ⟨39, _⟩ => ⟨S_, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S_, .f32⟩
  | .hbm, ⟨52, _⟩ => ⟨S16384x64, .f32⟩
  | .hbm, ⟨53, _⟩ => ⟨S16384x64, .f32⟩
  | .hbm, ⟨54, _⟩ => ⟨S_, .f32⟩
  | .hbm, ⟨55, _⟩ => ⟨S16384x64, .f32⟩
  | .hbm, ⟨56, _⟩ => ⟨S16384x64, .f32⟩
  | .hbm, ⟨57, _⟩ => ⟨S_, .f32⟩
  | .hbm, ⟨58, _⟩ => ⟨S16384x64, .f32⟩
  | .hbm, ⟨59, _⟩ => ⟨S16384x64, .f32⟩
  | .hbm, ⟨60, _⟩ => ⟨S_, .f32⟩
  | .hbm, ⟨61, _⟩ => ⟨S16384x64, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S16384x64, .f32⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S_, .f32⟩
  | .hbm, ⟨73, _⟩ => ⟨S16384x64, .f32⟩
  | .hbm, ⟨74, _⟩ => ⟨S16384x64, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S16384x64, .f32⟩
  | .hbm, ⟨79, _⟩ => ⟨S16384x64, .f32⟩
  | .hbm, ⟨80, _⟩ => ⟨S16384x64, .f32⟩
  | .hbm, ⟨81, _⟩ => ⟨S_, .f32⟩
  | .hbm, ⟨82, _⟩ => ⟨S16384x64, .f32⟩
  | .hbm, ⟨83, _⟩ => ⟨S16384x64, .f32⟩
  | .hbm, ⟨84, _⟩ => ⟨S16384x64, .f32⟩
  | .hbm, ⟨85, _⟩ => ⟨S_, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S16384x64, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x64, .f32⟩
  | .hbm, ⟨99, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call0_v0 : Ref sig .tc := ⟨.hbm, 89, rfl⟩
abbrev main_call0_cst : Ref sig .tc := ⟨.hbm, 90, rfl⟩
abbrev main_call0_v1 : Ref sig .tc := ⟨.hbm, 91, rfl⟩
abbrev main_call0_v2 : Ref sig .tc := ⟨.hbm, 92, rfl⟩
abbrev main_v67 : Ref sig .tc := ⟨.hbm, 93, rfl⟩
abbrev main_cst_16 : Ref sig .tc := ⟨.hbm, 94, rfl⟩
abbrev main_call1_v0 : Ref sig .tc := ⟨.hbm, 95, rfl⟩
abbrev main_call1_v1 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Relayout.lean ====
abbrev S64x1000000 : Shape := ⟨2, ![64, 1000000]⟩
abbrev S500000x128 : Shape := ⟨2, ![500000, 128]⟩
abbrev S64x2048 : Shape := ⟨2, ![64, 2048]⟩
abbrev S1024x128 : Shape := ⟨2, ![1024, 128]⟩
abbrev S64x64 : Shape := ⟨2, ![64, 64]⟩
abbrev S2048x64 : Shape := ⟨2, ![2048, 64]⟩
abbrev S1024x2x64 : Shape := ⟨3, ![1024, 2, 64]⟩
abbrev S1024x1x64 : Shape := ⟨3, ![1024, 1, 64]⟩
abbrev S1024x64 : Shape := ⟨2, ![1024, 64]⟩

abbrev nBuf : Space → Nat
  | .hbm => 2
  | .vmem => 4
  | .smem => 0
  | _ => 0

abbrev bufTy : (tb : Table) → Fin (tcTables nBuf tb) → BufTy
  | .hbm, ⟨0, _⟩ => ⟨S64x1000000, .f32⟩
  | .hbm, ⟨1, _⟩ => ⟨S500000x128, .f32⟩
  | .local _ .vmem, ⟨0, _⟩ => ⟨S64x2048, .f32⟩
  | .local _ .vmem, ⟨1, _⟩ => ⟨S64x2048, .f32⟩
  | .local _ .vmem, ⟨2, _⟩ => ⟨S1024x128, .f32⟩
  | .local _ .vmem, ⟨3, _⟩ => ⟨S1024x128, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RelayoutReferenceIdeal.lean ====
abbrev S64x1000000 : Shape := ⟨2, ![64, 1000000]⟩
abbrev S1000000x64 : Shape := ⟨2, ![1000000, 64]⟩
abbrev S500000x128 : Shape := ⟨2, ![500000, 128]⟩

abbrev nBuf : Space → Nat
  | .hbm => 3
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S1000000x64, .f32⟩
  | .hbm, ⟨2, _⟩ => ⟨S500000x128, .f32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Pre.lean ====
/-
  What the two preconditions say: every id names a row of the table, and the table's row 0 is zero.
-/
module

public import proofs.«01_k».proof.Defs
public import Idealize.ShloMosaic.Lib.ReduceAll
public import Idealize.ShloMosaic.Lib.ValueLayout
public import Idealize.ShloMosaic.Lib.StableHlo.Run

@[expose] public section

noncomputable section

namespace Cert.Proof.Pre

open Idealize.ShloMosaic
open Idealize.ShloMosaic.ValueIdx

/-- The shape relations of the first precondition's operations. -/
theorem facts₁ : Cert.Pre_ids_in_rows.Facts where
  bcast_S_S16384x200 := by decide
  reducesTo_S16384x200_S_d0_1 := by decide
  h_S_ := by decide

/-- The shape relations of the second precondition's operations. -/
theorem facts₂ : Cert.Pre_ids_in_rows_pad_row_zero.Facts where
  bcast_S_S16384x200 := by decide
  reducesTo_S16384x200_S_d0_1 := by decide
  h_S_ := by decide
  slices_S1000000x64_S1x64_0_0 := by decide
  shapeCasts_S1x64_S64 := by decide
  bcast_S_S64 := by decide
  reducesTo_S64_S_d0 := by decide

attribute [local instance] facts₁ facts₂

variable {F : FTy → Type} [FloatOps F]

/-- A word that is at least 0 and less than 1000000 as a signed number is its own value. -/
theorem word_lt (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The first precondition bounds every id. -/
theorem ids_lt (x : IVec Cert.Pre_ids_in_rows.S16384x200 32) (t : FVec F Cert.Pre_ids_in_rows.S1000000x64 .f32)
    (γ β : FVec F Cert.Pre_ids_in_rows.S64 .f32) (w : FVec F Cert.Pre_ids_in_rows.S64x64 .f32) (b : FVec F Cert.Pre_ids_in_rows.S64 .f32)
    (h : Cert.Pre_ids_in_rows.fn (F := F) x t γ β w b = fun _ => 1#1) (j : Cert.Pre_ids_in_rows.S16384x200.Idx) : (x j).toNat < 1000000 :=
  word_lt _ (Host.reduce_andi_all _ _ _ _ _ (congrFun h (fun a => a.elim0)) j)

/-- The second precondition is two conditions. -/
theorem both (x : IVec Cert.Pre_ids_in_rows.S16384x200 32) (t : FVec F Cert.Pre_ids_in_rows.S1000000x64 .f32)
    (γ β : FVec F Cert.Pre_ids_in_rows.S64 .f32) (w : FVec F Cert.Pre_ids_in_rows.S64x64 .f32) (b : FVec F Cert.Pre_ids_in_rows.S64 .f32)
    (h : Cert.Pre_ids_in_rows_pad_row_zero.fn (F := F) x t γ β w b = fun _ => 1#1) :
    (∀ j, (x j).toNat < 1000000) ∧ ∀ l : Fin 64, FloatOps.cmpf .oeq (t (ix2 ⟨0, by decide⟩ l)) (FloatOps.ofBits .f32 0#32) = 1#1 := by
  have h1 := IntOp.andi_eq_one.1 (congrFun h (fun a => a.elim0))
  refine ⟨fun j => word_lt _ (Host.reduce_andi_all _ _ _ _ _ h1.1 j), fun l => ?_⟩
  have h2 := Host.reduce_andi_all _ _ _ _ _ h1.2 (ix1 l)
  have h3 : shapeCast Cert.Pre_ids_in_rows_pad_row_zero.S64 (extractStridedSlice Cert.Pre_ids_in_rows_pad_row_zero.S1x64 ![0, 0] t facts₂.slices_S1000000x64_S1x64_0_0)
      facts₂.shapeCasts_S1x64_S64 (ix1 l) = t (ix2 ⟨0, by decide⟩ l) := by
    rw [shapeCast_1a_a_apply]
    refine congrArg t (funext fun a => Fin.ext ?_)
    match a with
    | ⟨0, _⟩ => rfl
    | ⟨1, _⟩ => exact Nat.zero_add _
  rw [← h3]
  exact h2

end Cert.Proof.Pre

end
-- ==== Proof.FramesBits.lean ====
/-
  The frames of the kernel: from any memory whose ids name rows of the table, a run ends,
  leaves the arguments as they were, and every semaphore counter at zero.
-/
module

public import proofs.«01_k».proof.Defs
public import proofs.«01_k».proof.Proof.BitsMain
public import proofs.«01_k».proof.Proof.Pre

@[expose] public section

noncomputable section

namespace Cert.Proof

open Idealize.ShloMosaic Idealize.SL.Sem

attribute [local instance] Cert.Kernel.Gen.facts Pre.facts₁

instance nonempty_bits (e : EltTy) : Nonempty (Elt Bits e) := inferInstance

/-- Under the first precondition the ids of the launch memory are in range. -/
theorem ok_bits (m : (ℓ : Loc Cert.Kernel.nD Cert.Kernel.τ Cert.Kernel.sig) → Buf (Elt Bits) ℓ) (h : Cert.Pre_Kernel m) :
    PoolBits.PreOK (F := Bits) m := fun d j => Pre.ids_lt _ _ _ _ _ _ (h d) j

/-- The kernel's frame, for ids in range. -/
theorem frame_bits : Cert.quiescent_Kernel := fun m g h =>
  (θ_run Cert.Kernel.defs _ _).mono (fun _ h => ⟨fun c => (h.1 c).1, h.2⟩) (PoolBits.run_main (F := Bits) m g (ok_bits m h))

end Cert.Proof

end
-- ==== Proof.IdealProg.lean ====
/-
  The pooling kernel's inner group of four rows, written once for a symbolic buffer: `seg` is what the kernel does for
  one row (issue the gathers of the row three ahead, wait for this row's two gathers, add the row's 200 table rows up,
  count its nonzero ids, store the quotient), and `t2_body_eq` says that the printed group is `seg` at the four buffers.
-/
module

public import proofs.«01_k».proof.Defs
public import proofs.«01_k».proof.Proof.Gen.KernelIdeal
public import proofs.«01_k».proof.Proof.Gen.KernelIdeal.Skeleton

@[expose] public section

noncomputable section

namespace Cert.Proof.PoolIdeal

open Cert.KernelIdeal Cert.KernelIdeal.Gen
open Idealize.ShloMosaic
open Idealize.SL.Sem

variable {F : FTy → Type} [FloatOps F] [Named F]

local notation "iV" => (Memref.whole Cert.KernelIdeal.main_arg0_scv : Memref Cert.KernelIdeal.sig Kind.scVector Space.hbm Cert.KernelIdeal.S16384x200 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x64 EltTy.f32)
local notation "sV" => (Memref.whole Cert.KernelIdeal.cc0_scratch0 : Memref Cert.KernelIdeal.sig Kind.scVector Space.vmem Cert.KernelIdeal.S128x200 EltTy.i32)
local notation "rV" => (Memref.whole Cert.KernelIdeal.cc0_scratch1 : Memref Cert.KernelIdeal.sig Kind.scVector Space.vmem Cert.KernelIdeal.S4x200x128 EltTy.f32)
local notation "uV" => (Memref.whole Cert.KernelIdeal.cc0_scratch2 : Memref Cert.KernelIdeal.sig Kind.scVector Space.vmem Cert.KernelIdeal.S128x64 EltTy.f32)

/-- The subcore's programs. -/
abbrev TProg (F : FTy → Type) (i : grid0.Coords) (α : Type) : Type 1 :=
  Prog (TpuEff nD τ sig (Elt F) Λ₀ (.scVector ((i 0).castLE hcore0) ((i 1).castLE hsub0))) α

/-- The first 128 gathered rows' place in buffer `b`. -/
theorem hi_inb : ∀ (b : Fin 4) (a : Fin 3), (![b.val, 0, 0] : Fin 3 → Nat) a + S1x128x128.size a ≤ S4x200x128.size a := by decide
/-- The last 72 gathered rows' place in buffer `b`. -/
theorem lo_inb : ∀ (b : Fin 4) (a : Fin 3), (![b.val, 128, 0] : Fin 3 → Nat) a + S1x72x128.size a ≤ S4x200x128.size a := by decide

/-- Buffer `b`, its first 128 rows. -/
abbrev hiBuf (b : Fin 4) : Memref sig .scVector .vmem S128x128 .f32 :=
  ((rV).slice (Rect.unit (s := S4x200x128) ![b.val, 0, 0] S1x128x128.size (hi_inb b)) (fun _ => rfl)).squeeze S128x128 squeezes_S1x128x128_S128x128
/-- Buffer `b`, its last 72 rows. -/
abbrev loBuf (b : Fin 4) : Memref sig .scVector .vmem S72x128 .f32 :=
  ((rV).slice (Rect.unit (s := S4x200x128) ![b.val, 128, 0] S1x72x128.size (lo_inb b)) (fun _ => rfl)).squeeze S72x128 squeezes_S1x72x128_S72x128
/-- A row's first 128 ids, at the offsets the kernel computes. -/
abbrev hiList (off : Fin 2 → ℕ) (h : ∀ a, off a + S1x128.size a ≤ S128x200.size a) : Memref sig .scVector .vmem S128 .i32 :=
  ((sV).slice (Rect.unit (s := S128x200) off S1x128.size h) (fun _ => rfl)).squeeze S128 squeezes_S1x128_S128
/-- A row's last 72 ids. -/
abbrev loList (off : Fin 2 → ℕ) (h : ∀ a, off a + S1x72.size a ≤ S128x200.size a) : Memref sig .scVector .vmem S72 .i32 :=
  ((sV).slice (Rect.unit (s := S128x200) off S1x72.size h) (fun _ => rfl)).squeeze S72 squeezes_S1x72_S72
/-- The whole table, as the gathers name it. -/
abbrev tAll : Memref sig .scVector .hbm S1000000x128 .f32 :=
  (tV).slice (Rect.unit (s := S1000000x128) ![0, 0] S1000000x128.size inb_S1000000x128_S1000000x128_0_0) (fun _ => rfl)

/-- The gather of a row's first 128 table rows into buffer `b`. -/
def issueHi (i : grid0.Coords) (b : Fin 4) (off : Fin 2 → ℕ) (h : ∀ a, off a + S1x128.size a ≤ S128x200.size a) (s : DmaSems sig S_) : TProg F i PUnit :=
  SparseCore.enqueueIndirectGather rfl tAll (hiBuf b) gathers_S1000000x128_S128x128 (hiList off h) rfl s.sem (View.wordExact_bits rfl) rfl (Or.inl rfl)
/-- The gather of a row's last 72 table rows into buffer `b`. -/
def issueLo (i : grid0.Coords) (b : Fin 4) (off : Fin 2 → ℕ) (h : ∀ a, off a + S1x72.size a ≤ S128x200.size a) (s : DmaSems sig S_) : TProg F i PUnit :=
  SparseCore.enqueueIndirectGather rfl tAll (loBuf b) gathers_S1000000x128_S72x128 (loList off h) rfl s.sem (View.wordExact_bits rfl) rfl (Or.inl rfl)

/-- Where the summation of buffer `b` reads its row `l` from lane `c` on. -/
def accOff (b : Fin 4) (c : ℕ) (l : Fin k0_t3_loop.trips) : Fin 3 → ℕ := ![b.val, (Scalar.indexCast (Scf.iv 0#32 1#32 l)).toNat, c]
/-- It lies in the buffers. -/
theorem accOff_inb (b : Fin 4) (c : ℕ) (hc : c + 16 ≤ 128) (l : Fin k0_t3_loop.trips) : ∀ a, (accOff b c l) a + S1x1x16.size a ≤ S4x200x128.size a := by
  have hl : (Scalar.indexCast (Scf.iv 0#32 1#32 l)).toNat + 1 ≤ 200 := by
    revert l; decide +kernel
  intro a
  match a with
  | 0 => show b.val + 1 ≤ 4; have := b.isLt; omega
  | 1 => exact hl
  | 2 => exact hc

/-- The four lanes-of-sixteen accumulators. -/
abbrev Acc (F : FTy → Type) : Type := FVec F S16 .f32 × FVec F S16 .f32 × FVec F S16 .f32 × FVec F S16 .f32

/-- One step of the summation: four loads of the gathered row, added to the accumulators. -/
def accBody (i : grid0.Coords) (b : Fin 4) : Fin k0_t3_loop.trips → Acc F → TProg F i (Acc F) :=
  fun l (a0, a1, a2, a3) => do
    let w0 : Vec F S1x1x16 .f32 ← Prog.lift (.load rV (Rect.unit (s := S4x200x128) (accOff b 0 l) S1x1x16.size (accOff_inb b 0 (by decide) l)).toLoadRect (View.loadsAt_vmem h_S1x1x16))
    let w1 : Vec F S1x1x16 .f32 ← Prog.lift (.load rV (Rect.unit (s := S4x200x128) (accOff b 16 l) S1x1x16.size (accOff_inb b 16 (by decide) l)).toLoadRect (View.loadsAt_vmem h_S1x1x16))
    let w2 : Vec F S1x1x16 .f32 ← Prog.lift (.load rV (Rect.unit (s := S4x200x128) (accOff b 32 l) S1x1x16.size (accOff_inb b 32 (by decide) l)).toLoadRect (View.loadsAt_vmem h_S1x1x16))
    let w3 : Vec F S1x1x16 .f32 ← Prog.lift (.load rV (Rect.unit (s := S4x200x128) (accOff b 48 l) S1x1x16.size (accOff_inb b 48 (by decide) l)).toLoadRect (View.loadsAt_vmem h_S1x1x16))
    pure (addf a0 (shapeCast S16 w0 shapeCasts_S1x1x16_S16), addf a1 (shapeCast S16 w1 shapeCasts_S1x1x16_S16),
      addf a2 (shapeCast S16 w2 shapeCasts_S1x1x16_S16), addf a3 (shapeCast S16 w3 shapeCasts_S1x1x16_S16))

/-- The sixteen-lane vector of zeros the accumulators start from. -/
def accZero : FVec F S16 .f32 := broadcast S16 (Scalar.ofBits .f32 0x00000000#32)

/-- The count so far, and the nonzero ids among sixteen more. -/
def cntStep (c : IVec S16 32) (w : Vec F S1x16 .i32) : IVec S16 32 :=
  addi c (broadcast S16 (extractAt ![15] (scan .sum (extui 32 (cmpi .ne (shapeCast S16 w shapeCasts_S1x16_S16 : IVec S16 32) (broadcast S16 0#32)) natLt_1_32)) inpos_S16_p15))
/-- The count so far, and the nonzero ids among the last eight of sixteen more. -/
def cntLast (c : IVec S16 32) (w : Vec F S1x16 .i32) : IVec S16 32 :=
  addi c (broadcast S16 (extractAt ![15] (scan .sum (extui 32 (andi (cmpi .ne (shapeCast S16 w shapeCasts_S1x16_S16 : IVec S16 32) (broadcast S16 0#32))
    (cmpi .sge (iota .scVector S16 32 [0] iota_S16_d0_w32_scVector) (broadcast S16 8#32))) natLt_1_32)) inpos_S16_p15))
/-- The divisor: the count of nonzero ids, at least one. -/
def denom (w0 w1 w2 w3 w4 w5 w6 w7 w8 w9 w10 w11 w12 : Vec F S1x16 .i32) : FVec F S16 .f32 :=
  maximumf (sitofp .f32 (cntLast (F := F) (cntStep (F := F) (cntStep (F := F) (cntStep (F := F) (cntStep (F := F) (cntStep (F := F) (cntStep (F := F) (cntStep (F := F) (cntStep (F := F)
    (cntStep (F := F) (cntStep (F := F) (cntStep (F := F) (cntStep (F := F) (broadcast S16 0#32) w0) w1) w2) w3) w4) w5) w6) w7) w8) w9) w10) w11) w12))
    (broadcast S16 (Scalar.ofBits .f32 0x3F800000#32))

/-- Sixteen ids of row `4·k + r`, from the place the offsets name. -/
abbrev ldIds (i : grid0.Coords) (off : Fin 2 → ℕ) (h : ∀ a, off a + S1x16.size a ≤ S128x200.size a) : TProg F i (Vec F S1x16 .i32) :=
  Prog.lift (.load sV (Rect.unit (s := S128x200) off S1x16.size h).toLoadRect (View.loadsAt_vmem h_S1x16))
/-- Sixteen lanes of the output row, read. -/
abbrev ldOut (i : grid0.Coords) (off : Fin 2 → ℕ) (h : ∀ a, off a + S1x16.size a ≤ S128x64.size a) : TProg F i (Vec F S1x16 .f32) :=
  Prog.lift (.load uV (Rect.unit (s := S128x64) off S1x16.size h).toLoadRect (View.loadsAt_vmem h_S1x16))
/-- Sixteen lanes of the output row, written. -/
abbrev stOut (i : grid0.Coords) (off : Fin 2 → ℕ) (h : ∀ a, off a + S1x16.size a ≤ S128x64.size a) (w : FVec F S16 .f32) : TProg F i PUnit :=
  Prog.lift (.store uV (Rect.unit (s := S128x64) off S1x16.size h) (shapeCast S1x16 w shapeCasts_S16_S1x16) Finset.univ (View.stores_vmem_bits_univ h_S1x16 rfl) (.inl rfl))

/-- After a row's accumulators are known: the thirteen loads of its ids, and the four stores of the quotients. -/
def finish (i : grid0.Coords) (k : Fin k0_t2_loop.trips) (r : Fin 4) (a : Acc F) : TProg F i PUnit := do
  let w0 ← ldIds i (k0_off10 k (BitVec.ofNat 32 r.val)) (k0_off10_inb k r)
  let w1 ← ldIds i (k0_off11 k (BitVec.ofNat 32 r.val)) (k0_off11_inb k r)
  let w2 ← ldIds i (k0_off12 k (BitVec.ofNat 32 r.val)) (k0_off12_inb k r)
  let w3 ← ldIds i (k0_off13 k (BitVec.ofNat 32 r.val)) (k0_off13_inb k r)
  let w4 ← ldIds i (k0_off14 k (BitVec.ofNat 32 r.val)) (k0_off14_inb k r)
  let w5 ← ldIds i (k0_off15 k (BitVec.ofNat 32 r.val)) (k0_off15_inb k r)
  let w6 ← ldIds i (k0_off16 k (BitVec.ofNat 32 r.val)) (k0_off16_inb k r)
  let w7 ← ldIds i (k0_off17 k (BitVec.ofNat 32 r.val)) (k0_off17_inb k r)
  let w8 ← ldIds i (k0_off18 k (BitVec.ofNat 32 r.val)) (k0_off18_inb k r)
  let w9 ← ldIds i (k0_off19 k (BitVec.ofNat 32 r.val)) (k0_off19_inb k r)
  let w10 ← ldIds i (k0_off20 k (BitVec.ofNat 32 r.val)) (k0_off20_inb k r)
  let w11 ← ldIds i (k0_off21 k (BitVec.ofNat 32 r.val)) (k0_off21_inb k r)
  let w12 ← ldIds i (k0_off22 k (BitVec.ofNat 32 r.val)) (k0_off22_inb k r)
  let _ ← ldOut i (k0_off23 k (BitVec.ofNat 32 r.val)) (k0_off23_inb k r)
  stOut i (k0_off23 k (BitVec.ofNat 32 r.val)) (k0_off23_inb k r) (divf a.1 (denom w0 w1 w2 w3 w4 w5 w6 w7 w8 w9 w10 w11 w12))
  let _ ← ldOut i (k0_off24 k (BitVec.ofNat 32 r.val)) (k0_off24_inb k r)
  stOut i (k0_off24 k (BitVec.ofNat 32 r.val)) (k0_off24_inb k r) (divf a.2.1 (denom w0 w1 w2 w3 w4 w5 w6 w7 w8 w9 w10 w11 w12))
  let _ ← ldOut i (k0_off25 k (BitVec.ofNat 32 r.val)) (k0_off25_inb k r)
  stOut i (k0_off25 k (BitVec.ofNat 32 r.val)) (k0_off25_inb k r) (divf a.2.2.1 (denom w0 w1 w2 w3 w4 w5 w6 w7 w8 w9 w10 w11 w12))
  let _ ← ldOut i (k0_off26 k (BitVec.ofNat 32 r.val)) (k0_off26_inb k r)
  stOut i (k0_off26 k (BitVec.ofNat 32 r.val)) (k0_off26_inb k r) (divf a.2.2.2 (denom w0 w1 w2 w3 w4 w5 w6 w7 w8 w9 w10 w11 w12))

/-- The gathers of the row three ahead, into buffer `nb`, if that row is in the chunk. -/
def ahead (i : grid0.Coords) (nb : Fin 4) (cond : BitVec 1) (offH offL : Fin 2 → ℕ)
    (hH : cond = 1#1 → ∀ a, offH a + S1x128.size a ≤ S128x200.size a) (hL : cond = 1#1 → ∀ a, offL a + S1x72.size a ≤ S128x200.size a)
    (nA nB : DmaSems sig S_) : TProg F i PUnit :=
  if h : cond = 1#1 then do
    issueHi i nb offH (hH h) nA
    issueLo i nb offL (hL h) nB
  else pure ⟨⟩

/-- The waits for the two gathers into buffer `b`. -/
def waitHi (i : grid0.Coords) (b : Fin 4) (s : DmaSems sig S_) : TProg F i PUnit :=
  SparseCore.waitIndirectGather s.sem tAll (hiBuf b) (View.wordExact_bits rfl) ((View.wordExact_bits rfl).reshape _ _)
def waitLo (i : grid0.Coords) (b : Fin 4) (s : DmaSems sig S_) : TProg F i PUnit :=
  SparseCore.waitIndirectGather s.sem tAll (loBuf b) (View.wordExact_bits rfl) ((View.wordExact_bits rfl).reshape _ _)

/-- What the kernel does for row `4·k + b` of a chunk, gathered into buffer `b`. -/
def seg (i : grid0.Coords) (k : Fin k0_t2_loop.trips) (b nb : Fin 4) (cond : BitVec 1) (offH offL : Fin 2 → ℕ)
    (hH : cond = 1#1 → ∀ a, offH a + S1x128.size a ≤ S128x200.size a) (hL : cond = 1#1 → ∀ a, offL a + S1x72.size a ≤ S128x200.size a)
    (sA sB nA nB : DmaSems sig S_) : TProg F i PUnit := do
  ahead i nb cond offH offL hH hL nA nB
  waitHi i b sA
  waitLo i b sB
  let a ← Scf.Loop.for k0_t3_loop k0_t3_ok (accZero (F := F), accZero (F := F), accZero (F := F), accZero (F := F)) (accBody i b)
  finish i k b a

/-- Equal programs followed by equal ones. -/
theorem bindCongr {i : grid0.Coords} {α β : Type} {x y : TProg F i α} {f g : α → TProg F i β} (h : x = y) (h' : ∀ a, f a = g a) : x >>= f = y >>= g := by
  subst h; exact congrArg _ (funext h')

/-- A conditional whose branches end alike is the conditional, then the common end. -/
theorem dite_join {i : grid0.Coords} {β : Type} {c : Prop} [Decidable c] (a b : c → TProg F i PUnit) (r : TProg F i β) :
    dite c (fun h => a h >>= fun _ => b h >>= fun _ => r) (fun _ => r) = dite c (fun h => a h >>= fun _ => b h) (fun _ => pure ⟨⟩) >>= fun _ => r := by
  split
  · simp only [bind_assoc]
  · rfl

set_option maxRecDepth 65536 in
set_option maxHeartbeats 4000000 in
/-- The printed group of four rows is `seg` at the four buffers. -/
theorem t2_body_eq (i : grid0.Coords) (r0 r1 : DmaSems sig S_) (k : Fin k0_t2_loop.trips) (x : BitVec 32) :
    k0_t2_body (F := F) i iV (Memref.isWhole_whole _) tV (Memref.isWhole_whole _) oV (Memref.isWhole_whole _) sV (Memref.isWhole_whole _) rV (Memref.isWhole_whole _)
        uV (Memref.isWhole_whole _) cc0_scratch3 cc0_scratch4 cc0_scratch5 cc0_scratch6 cc0_scratch7 cc0_scratch8 cc0_scratch9 cc0_scratch10 r0 r1 k x
      = (do
        seg i k 0 3 (k0_cond1 k) (k0_off2 k) (k0_off3 k) (k0_off2_inb k) (k0_off3_inb k) cc0_scratch3 cc0_scratch7 cc0_scratch6 cc0_scratch10
        seg i k 1 0 (k0_cond2 k) (k0_off27 k) (k0_off28 k) (k0_off27_inb k) (k0_off28_inb k) cc0_scratch4 cc0_scratch8 cc0_scratch3 cc0_scratch7
        seg i k 2 1 (k0_cond3 k) (k0_off33 k) (k0_off34 k) (k0_off33_inb k) (k0_off34_inb k) cc0_scratch5 cc0_scratch9 cc0_scratch4 cc0_scratch8
        seg i k 3 2 (k0_cond4 k) (k0_off39 k) (k0_off40 k) (k0_off39_inb k) (k0_off40_inb k) cc0_scratch6 cc0_scratch10 cc0_scratch5 cc0_scratch9
        pure 0#32) := by
  unfold k0_t2_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel
  unfold seg ahead finish
  simp only [bind_assoc, pure_bind, dite_join]
  refine bindCongr rfl fun _ => ?_
  refine bindCongr rfl fun _ => ?_
  refine bindCongr rfl fun _ => ?_
  refine bindCongr rfl fun _ => ?_
  iterate 21 (refine bindCongr rfl fun _ => ?_)
  iterate 25 (refine bindCongr rfl fun _ => ?_)
  iterate 25 (refine bindCongr rfl fun _ => ?_)
  iterate 25 (refine bindCongr rfl fun _ => ?_)
  rfl

end Cert.Proof.PoolIdeal

end
-- ==== Proof.IdealVal.lean ====
/-
  What the pooling kernel computes and where it puts it: the table row an id names, the buffer of a row's gathered table
  rows (`Gath`), a row's pooled value (`pool`), and the elements that the kernel's slices name.
-/
module

public import proofs.«01_k».proof.Proof.IdealProg
public import Idealize.ShloMosaic.Lib.ViewIndex
public import Idealize.ShloMosaic.Lib.SparseCore.Stream

@[expose] public section

noncomputable section

namespace Cert.Proof.PoolIdeal

open Cert.KernelIdeal Cert.KernelIdeal.Gen
open Idealize.ShloMosaic
open Idealize.SL.Sem

variable {F : FTy → Type} [FloatOps F] [Named F]

local notation "iV" => (Memref.whole Cert.KernelIdeal.main_arg0_scv : Memref Cert.KernelIdeal.sig Kind.scVector Space.hbm Cert.KernelIdeal.S16384x200 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x64 EltTy.f32)
local notation "sV" => (Memref.whole Cert.KernelIdeal.cc0_scratch0 : Memref Cert.KernelIdeal.sig Kind.scVector Space.vmem Cert.KernelIdeal.S128x200 EltTy.i32)
local notation "rV" => (Memref.whole Cert.KernelIdeal.cc0_scratch1 : Memref Cert.KernelIdeal.sig Kind.scVector Space.vmem Cert.KernelIdeal.S4x200x128 EltTy.f32)
local notation "uV" => (Memref.whole Cert.KernelIdeal.cc0_scratch2 : Memref Cert.KernelIdeal.sig Kind.scVector Space.vmem Cert.KernelIdeal.S128x64 EltTy.f32)

/-! ## Values -/

/-- The table row an id names (an id in range names its own number). -/
def trow (w : BitVec 32) : Fin 1000000 := ⟨w.toNat % 1000000, Nat.mod_lt _ (by decide)⟩
/-- A word in range is its own row. -/
theorem trow_val {w : BitVec 32} (h : w.toNat < 1000000) : (trow w).val = w.toNat := Nat.mod_eq_of_lt h

/-- Row `r`, lane `c` of the padded table. -/
def tix (r : Fin 1000000) (c : ℕ) : S1000000x128.Idx := fun | ⟨0, _⟩ => r | ⟨1, _⟩ => ⟨c % 128, Nat.mod_lt _ (by decide)⟩
/-- Row `n`, column `l` of a chunk's ids. -/
def six (n l : ℕ) : S128x200.Idx := fun | ⟨0, _⟩ => ⟨n % 128, Nat.mod_lt _ (by decide)⟩ | ⟨1, _⟩ => ⟨l % 200, Nat.mod_lt _ (by decide)⟩

/-- An index of a chunk's ids by its coordinates. -/
theorem six_eq (x : S128x200.Idx) : six (x 0).val (x 1).val = x := by
  funext a
  match a with
  | ⟨0, _⟩ => exact Fin.ext (Nat.mod_eq_of_lt (x 0).isLt)
  | ⟨1, _⟩ => exact Fin.ext (Nat.mod_eq_of_lt (x 1).isLt)
/-- An index of the padded table by its coordinates. -/
theorem tix_eq (x : S1000000x128.Idx) : tix (x 0) (x 1).val = x := by
  funext a
  match a with
  | ⟨0, _⟩ => rfl
  | ⟨1, _⟩ => exact Fin.ext (Nat.mod_eq_of_lt (x 1).isLt)

/-- The gather buffers once row `n` of the chunk is gathered into them: place `l` holds the table row that the row's id `l` names. -/
def Gath (tab : S1000000x128.Idx → Elt F .f32) (ids : S128x200.Idx → BitVec 32) (n : ℕ) : S4x200x128.Idx → Elt F .f32 :=
  fun x => tab (tix (trow (ids (six n (x 1).val))) (x 2).val)

/-- Sixteen lanes, from `c` on, of the table row that a row's id `l` names. -/
def rowVec (tab : S1000000x128.Idx → Elt F .f32) (row : ℕ → BitVec 32) (c l : ℕ) : FVec F S16 .f32 :=
  fun j => tab (tix (trow (row l)) (c + (j 0).val))
/-- The sum of those over the first `k` ids, in order. -/
def accV (tab : S1000000x128.Idx → Elt F .f32) (row : ℕ → BitVec 32) (c : ℕ) : ℕ → FVec F S16 .f32
  | 0 => accZero
  | k + 1 => addf (accV tab row c k) (rowVec tab row c k)
/-- Sixteen of a row's ids, from column `o` on. -/
def idsVec (row : ℕ → BitVec 32) (o : ℕ) : Vec F S1x16 .i32 := fun j => row (o + (j 1).val)
/-- A row's divisor. -/
def den (row : ℕ → BitVec 32) : FVec F S16 .f32 :=
  denom (idsVec (F := F) row 0) (idsVec (F := F) row 16) (idsVec (F := F) row 32) (idsVec (F := F) row 48) (idsVec (F := F) row 64) (idsVec (F := F) row 80) (idsVec (F := F) row 96)
    (idsVec (F := F) row 112) (idsVec (F := F) row 128) (idsVec (F := F) row 144) (idsVec (F := F) row 160) (idsVec (F := F) row 176) (idsVec (F := F) row 184)
/-- Lane number `c` of sixteen. -/
def lane (c : ℕ) : S16.Idx := fun | ⟨0, _⟩ => ⟨c % 16, Nat.mod_lt _ (by decide)⟩
/-- A row's pooled value in column `c`. -/
def pool (tab : S1000000x128.Idx → Elt F .f32) (row : ℕ → BitVec 32) (c : ℕ) : F .f32 :=
  divf (accV tab row (16 * (c / 16)) 200) (den row) (lane c)

/-- Row `n` of a chunk's ids. -/
def rowOf (ids : S128x200.Idx → BitVec 32) (n : ℕ) : ℕ → BitVec 32 := fun l => ids (six n l)

/-- The output rows with sixteen lanes of row `n` from `c` on replaced. -/
def put (f : S128x64.Idx → Elt F .f32) (n c : ℕ) (w : FVec F S16 .f32) : S128x64.Idx → Elt F .f32 :=
  fun x => if (x 0).val = n ∧ c ≤ (x 1).val ∧ (x 1).val < c + 16 then w (lane ((x 1).val - c)) else f x

/-- The rows below `n` are pooled. -/
def Done (tab : S1000000x128.Idx → Elt F .f32) (ids : S128x200.Idx → BitVec 32) (n : ℕ) (f : S128x64.Idx → Elt F .f32) : Prop :=
  ∀ x : S128x64.Idx, (x 0).val < n → f x = pool tab (rowOf ids (x 0).val) (x 1).val

/-- The four stores of a row's quotients make it pooled. -/
theorem done_put {tab : S1000000x128.Idx → Elt F .f32} {ids : S128x200.Idx → BitVec 32} {n : ℕ} {f : S128x64.Idx → Elt F .f32} (h : Done tab ids n f) :
    Done tab ids (n + 1) (put (put (put (put f n 0 (divf (accV tab (rowOf ids n) 0 200) (den (rowOf ids n))))
        n 16 (divf (accV tab (rowOf ids n) 16 200) (den (rowOf ids n)))) n 32 (divf (accV tab (rowOf ids n) 32 200) (den (rowOf ids n))))
        n 48 (divf (accV tab (rowOf ids n) 48 200) (den (rowOf ids n)))) := by
  intro x hx
  have h1 : (x 1).val < 64 := (x 1).isLt
  by_cases hn : (x 0).val = n
  · simp only [put, hn, true_and]
    have hl : ∀ c q, 16 * q = c → c ≤ (x 1).val → (x 1).val < c + 16 → lane ((x 1).val - c) = lane (x 1).val ∧ 16 * ((x 1).val / 16) = c := by
      intro c q hq h2 h3
      refine ⟨funext fun a => ?_, by omega⟩
      match a with
      | ⟨0, _⟩ => exact Fin.ext (show ((x 1).val - c) % 16 = (x 1).val % 16 by omega)
    split_ifs with g1 g2 g3 g4
    · obtain ⟨e1, e2⟩ := hl 48 3 rfl g1.1 g1.2; unfold pool; rw [e1, e2]
    · obtain ⟨e1, e2⟩ := hl 32 2 rfl g2.1 g2.2; unfold pool; rw [e1, e2]
    · obtain ⟨e1, e2⟩ := hl 16 1 rfl g3.1 g3.2; unfold pool; rw [e1, e2]
    · obtain ⟨e1, e2⟩ := hl 0 0 rfl g4.1 g4.2; unfold pool; rw [e1, e2]
    · omega
  · simp only [put, hn, false_and, if_false]
    exact h x (by omega)

/-! ## Where the slices lie -/

/-- A place in the gather buffers. -/
def rix (b : Fin 4) (l : Fin 200) (c : Fin 128) : S4x200x128.Idx := fun | ⟨0, _⟩ => b | ⟨1, _⟩ => l | ⟨2, _⟩ => c

/-- A place of a buffer's first part, in the array of buffers. -/
theorem emb_hiBuf (b : Fin 4) (j : S128x128.Idx) : (hiBuf b).view.emb j = rix b ⟨(j 0).val, by have := (j 0).isLt; exact lt_trans this (by decide)⟩ (j 1) := by
  show (Rect.unit (s := S4x200x128) ![b.val, 0, 0] S1x128x128.size (hi_inb b)).emb (Shape.reshapeEquiv (s := S1x128x128) (s' := S128x128) squeezes_S1x128x128_S128x128.numel_eq j) = _
  rw [show Shape.reshapeEquiv (s := S1x128x128) (s' := S128x128) squeezes_S1x128x128_S128x128.numel_eq j = _ from Shape.reshapeEquiv_cons_one (n := 2) (d := ![128, 128]) _ j]
  refine Shape.idx3_ext ?_ ?_ ?_
  · show b.val + 1 * 0 = b.val; omega
  · show 0 + 1 * (j 0).val = (j 0).val; omega
  · show 0 + 1 * (j 1).val = (j 1).val; omega

/-- A place of a buffer's second part. -/
theorem emb_loBuf (b : Fin 4) (j : S72x128.Idx) : (loBuf b).view.emb j = rix b ⟨128 + (j 0).val, by have : (j 0).val < 72 := (j 0).isLt; omega⟩ (j 1) := by
  show (Rect.unit (s := S4x200x128) ![b.val, 128, 0] S1x72x128.size (lo_inb b)).emb (Shape.reshapeEquiv (s := S1x72x128) (s' := S72x128) squeezes_S1x72x128_S72x128.numel_eq j) = _
  rw [show Shape.reshapeEquiv (s := S1x72x128) (s' := S72x128) squeezes_S1x72x128_S72x128.numel_eq j = _ from Shape.reshapeEquiv_cons_one (n := 2) (d := ![72, 128]) _ j]
  refine Shape.idx3_ext ?_ ?_ ?_
  · show b.val + 1 * 0 = b.val; omega
  · show 128 + 1 * (j 0).val = 128 + (j 0).val; omega
  · show 0 + 1 * (j 1).val = (j 1).val; omega

/-- The first 128 places of buffer `b`. -/
def hiSet (b : Fin 4) : Finset S4x200x128.Idx := Finset.univ.filter fun x => (x 0).val = b.val ∧ (x 1).val < 128
/-- The last 72. -/
def loSet (b : Fin 4) : Finset S4x200x128.Idx := Finset.univ.filter fun x => (x 0).val = b.val ∧ 128 ≤ (x 1).val

/-- The places of the first part. -/
theorem set_hiBuf (b : Fin 4) : (hiBuf b).view.set = hiSet b := by
  show (((rV).view.slice (Rect.unit (s := S4x200x128) ![b.val, 0, 0] S1x128x128.size (hi_inb b))).reshape S128x128 squeezes_S1x128x128_S128x128.numel_eq).set = _
  rw [View.set_reshape]
  refine (View.set_slice_whole _ _).trans ?_
  ext x
  rw [hiSet, Finset.mem_filter, Rect.mem_set_unit]
  constructor
  · intro h
    have h0 : b.val ≤ (x 0).val ∧ (x 0).val < b.val + 1 := h 0
    have h1 : 0 ≤ (x 1).val ∧ (x 1).val < 0 + 128 := h 1
    exact ⟨Finset.mem_univ _, by omega, by omega⟩
  · rintro ⟨-, h0, h1⟩ a
    match a with
    | ⟨0, _⟩ => show b.val ≤ (x 0).val ∧ (x 0).val < b.val + 1; omega
    | ⟨1, _⟩ => show 0 ≤ (x 1).val ∧ (x 1).val < 0 + 128; omega
    | ⟨2, _⟩ => show 0 ≤ (x 2).val ∧ (x 2).val < 0 + 128; have : (x 2).val < 128 := (x 2).isLt; omega

/-- The places of the second part. -/
theorem set_loBuf (b : Fin 4) : (loBuf b).view.set = loSet b := by
  show (((rV).view.slice (Rect.unit (s := S4x200x128) ![b.val, 128, 0] S1x72x128.size (lo_inb b))).reshape S72x128 squeezes_S1x72x128_S72x128.numel_eq).set = _
  rw [View.set_reshape]
  refine (View.set_slice_whole _ _).trans ?_
  ext x
  rw [loSet, Finset.mem_filter, Rect.mem_set_unit]
  constructor
  · intro h
    have h0 : b.val ≤ (x 0).val ∧ (x 0).val < b.val + 1 := h 0
    have h1 : 128 ≤ (x 1).val ∧ (x 1).val < 128 + 72 := h 1
    exact ⟨Finset.mem_univ _, by omega, by omega⟩
  · rintro ⟨-, h0, h1⟩ a
    have : (x 1).val < 200 := (x 1).isLt
    match a with
    | ⟨0, _⟩ => show b.val ≤ (x 0).val ∧ (x 0).val < b.val + 1; omega
    | ⟨1, _⟩ => show 128 ≤ (x 1).val ∧ (x 1).val < 128 + 72; omega
    | ⟨2, _⟩ => show 0 ≤ (x 2).val ∧ (x 2).val < 0 + 128; have : (x 2).val < 128 := (x 2).isLt; omega

/-- The two parts share no place. -/
theorem hiLo_disjoint (b : Fin 4) : Disjoint (hiSet b) (loSet b) :=
  Finset.disjoint_left.mpr fun x h h' => by
    have := (Finset.mem_filter.mp h).2; have := (Finset.mem_filter.mp h').2; omega

/-- The two parts are the buffer. -/
theorem mem_hiLo (b : Fin 4) (x : S4x200x128.Idx) : x ∈ hiSet b ∪ loSet b ↔ (x 0).val = b.val := by
  rw [Finset.mem_union, hiSet, loSet, Finset.mem_filter, Finset.mem_filter]
  simp only [Finset.mem_univ, true_and]
  omega

/-- The gathers' source is the whole table. -/
theorem set_tAll : (tAll).view.set = Finset.univ := by
  refine (View.set_slice_whole _ _).trans ?_
  ext x
  simp only [Rect.mem_set_unit, Finset.mem_univ, iff_true]
  intro a
  match a with
  | ⟨0, _⟩ => show 0 ≤ (x 0).val ∧ (x 0).val < 0 + 1000000; have : (x 0).val < 1000000 := (x 0).isLt; omega
  | ⟨1, _⟩ => show 0 ≤ (x 1).val ∧ (x 1).val < 0 + 128; have : (x 1).val < 128 := (x 1).isLt; omega
/-- The view of the whole table moves no index. -/
theorem emb_tAll (x : S1000000x128.Idx) : (tAll).view.emb x = x := by
  show (Rect.unit (s := S1000000x128) ![0, 0] S1000000x128.size inb_S1000000x128_S1000000x128_0_0).emb x = x
  funext a
  match a with
  | ⟨0, _⟩ => exact Fin.ext (show 0 + 1 * (x 0).val = (x 0).val by omega)
  | ⟨1, _⟩ => exact Fin.ext (show 0 + 1 * (x 1).val = (x 1).val by omega)

/-- A place of a row's first 128 ids. -/
theorem emb_hiList (n : ℕ) (hn : n < 128) (h : ∀ a, (![n, 0] : Fin 2 → ℕ) a + S1x128.size a ≤ S128x200.size a) (j : S128.Idx) :
    (hiList ![n, 0] h).view.emb j = six n (j 0).val := by
  show (Rect.unit (s := S128x200) ![n, 0] S1x128.size h).emb (Shape.reshapeEquiv (s := S1x128) (s' := S128) squeezes_S1x128_S128.numel_eq j) = _
  rw [show Shape.reshapeEquiv (s := S1x128) (s' := S128) squeezes_S1x128_S128.numel_eq j = _ from Shape.reshapeEquiv_cons_one (n := 1) (d := ![128]) _ j]
  have hj : (j 0).val < 128 := (j 0).isLt
  funext a
  match a with
  | ⟨0, _⟩ => exact Fin.ext (show n + 1 * 0 = n % 128 by omega)
  | ⟨1, _⟩ => exact Fin.ext (show 0 + 1 * (j 0).val = (j 0).val % 200 by omega)

/-- A place of a row's other 72 ids. -/
theorem emb_loList (n : ℕ) (hn : n < 128) (h : ∀ a, (![n, 128] : Fin 2 → ℕ) a + S1x72.size a ≤ S128x200.size a) (j : S72.Idx) :
    (loList ![n, 128] h).view.emb j = six n (128 + (j 0).val) := by
  show (Rect.unit (s := S128x200) ![n, 128] S1x72.size h).emb (Shape.reshapeEquiv (s := S1x72) (s' := S72) squeezes_S1x72_S72.numel_eq j) = _
  rw [show Shape.reshapeEquiv (s := S1x72) (s' := S72) squeezes_S1x72_S72.numel_eq j = _ from Shape.reshapeEquiv_cons_one (n := 1) (d := ![72]) _ j]
  have hj : (j 0).val < 72 := (j 0).isLt
  funext a
  match a with
  | ⟨0, _⟩ => exact Fin.ext (show n + 1 * 0 = n % 128 by omega)
  | ⟨1, _⟩ => exact Fin.ext (show 128 + 1 * (j 0).val = (128 + (j 0).val) % 200 by omega)

/-! ## What the gathers' payloads and the loads read -/

section Reads

variable (tab : S1000000x128.Idx → Elt F .f32) (ids : S128x200.Idx → BitVec 32) (n : ℕ) (hn : n < 128)

/-- The view of the whole table reads the table. -/
theorem read_tAll : (tAll).view.read (Elt F) tab = tab := by
  funext x; exact congrArg tab (emb_tAll x)

include hn in
/-- What a row's first 128 ids hold. -/
theorem read_hiList (h : ∀ a, (![n, 0] : Fin 2 → ℕ) a + S1x128.size a ≤ S128x200.size a) (j : S128.Idx) :
    (hiList ![n, 0] h).view.read (Elt F) ids j = ids (six n (j 0).val) := congrArg ids (emb_hiList n hn h j)
include hn in
/-- What a row's other 72 ids hold. -/
theorem read_loList (h : ∀ a, (![n, 128] : Fin 2 → ℕ) a + S1x72.size a ≤ S128x200.size a) (j : S72.Idx) :
    (loList ![n, 128] h).view.read (Elt F) ids j = ids (six n (128 + (j 0).val)) := congrArg ids (emb_loList n hn h j)

include hn in
/-- What the first gather leaves in buffer `b`'s first 128 places. -/
theorem hi_written (b : Fin 4) (h : ∀ a, (![n, 0] : Fin 2 → ℕ) a + S1x128.size a ≤ S128x200.size a)
    (hin : ∀ x, ((hiList ![n, 0] h).view.read (Elt F) ids x).toNat < S1000000x128.size gathers_S1000000x128_S128x128.axis)
    (fd : S4x200x128.Idx → Elt F .f32) :
    ∀ x ∈ hiSet b, (hiBuf b).view.write (Elt F) fd (SparseCore.gatherPayload gathers_S1000000x128_S128x128 ((tAll).view.read (Elt F) tab)
        (SparseCore.rows ((hiList ![n, 0] h).view.read (Elt F) ids) rfl hin)) Finset.univ x = Gath tab ids n x := by
  intro x hx
  rw [← set_hiBuf] at hx
  obtain ⟨j, -, rfl⟩ := Finset.mem_map.mp hx
  refine (View.write_emb_of_mem (Val := Elt F) (v := (hiBuf b).view) fd _ (M := Finset.univ) (Finset.mem_univ j)).trans ?_
  refine Eq.trans (b := SparseCore.gatherPayload gathers_S1000000x128_S128x128 ((tAll).view.read (Elt F) tab)
        (SparseCore.rows ((hiList ![n, 0] h).view.read (Elt F) ids) rfl hin) j) rfl ?_
  rw [read_tAll]
  unfold SparseCore.gatherPayload Gath
  refine congrArg tab ?_
  have hk : ∀ k : Fin 128, (S128.rowMajor.symm (k.cast (rfl : S128.size 0 = S128.numel)) 0).val = k.val := by
    intro k
    have := Shape.rowMajor_val_one (d := ![128]) (S128.rowMajor.symm (k.cast (rfl : S128.size 0 = S128.numel)))
    rw [← this]
    exact congrArg Fin.val (Equiv.apply_symm_apply S128.rowMajor _)
  have hj0 : (j 0).val < 128 := (j 0).isLt
  funext a
  match a with
  | ⟨0, _⟩ =>
    refine Fin.ext ?_
    refine (congrArg Fin.val (Shape.Gathers.idx_axis gathers_S1000000x128_S128x128 _ j)).trans ?_
    show ((hiList ![n, 0] h).view.read (Elt F) ids (S128.rowMajor.symm _)).toNat = _
    have hq := hin (S128.rowMajor.symm ((j 0).cast (rfl : S128.size 0 = S128.numel)))
    rw [read_hiList ids n hn] at hq
    erw [read_hiList ids n hn]
    erw [hk (j 0)] at hq ⊢
    rw [emb_hiBuf]
    exact (trow_val hq).symm
  | ⟨1, _⟩ =>
    refine Fin.ext ((Shape.Gathers.idx_of_ne gathers_S1000000x128_S128x128 _ j 1 (by decide)).trans ?_)
    rw [emb_hiBuf]
    exact (Nat.mod_eq_of_lt (j 1).isLt).symm

include hn in
/-- What the second gather leaves in buffer `b`'s last 72 places. -/
theorem lo_written (b : Fin 4) (h : ∀ a, (![n, 128] : Fin 2 → ℕ) a + S1x72.size a ≤ S128x200.size a)
    (hin : ∀ x, ((loList ![n, 128] h).view.read (Elt F) ids x).toNat < S1000000x128.size gathers_S1000000x128_S72x128.axis)
    (fd : S4x200x128.Idx → Elt F .f32) :
    ∀ x ∈ loSet b, (loBuf b).view.write (Elt F) fd (SparseCore.gatherPayload gathers_S1000000x128_S72x128 ((tAll).view.read (Elt F) tab)
        (SparseCore.rows ((loList ![n, 128] h).view.read (Elt F) ids) rfl hin)) Finset.univ x = Gath tab ids n x := by
  intro x hx
  rw [← set_loBuf] at hx
  obtain ⟨j, -, rfl⟩ := Finset.mem_map.mp hx
  refine (View.write_emb_of_mem (Val := Elt F) (v := (loBuf b).view) fd _ (M := Finset.univ) (Finset.mem_univ j)).trans ?_
  refine Eq.trans (b := SparseCore.gatherPayload gathers_S1000000x128_S72x128 ((tAll).view.read (Elt F) tab)
        (SparseCore.rows ((loList ![n, 128] h).view.read (Elt F) ids) rfl hin) j) rfl ?_
  rw [read_tAll]
  unfold SparseCore.gatherPayload Gath
  refine congrArg tab ?_
  have hk : ∀ k : Fin 72, (S72.rowMajor.symm (k.cast (rfl : S72.size 0 = S72.numel)) 0).val = k.val := by
    intro k
    have := Shape.rowMajor_val_one (d := ![72]) (S72.rowMajor.symm (k.cast (rfl : S72.size 0 = S72.numel)))
    rw [← this]
    exact congrArg Fin.val (Equiv.apply_symm_apply S72.rowMajor _)
  have hj0 : (j 0).val < 72 := (j 0).isLt
  funext a
  match a with
  | ⟨0, _⟩ =>
    refine Fin.ext ?_
    refine (congrArg Fin.val (Shape.Gathers.idx_axis gathers_S1000000x128_S72x128 _ j)).trans ?_
    show ((loList ![n, 128] h).view.read (Elt F) ids (S72.rowMajor.symm _)).toNat = _
    have hq := hin (S72.rowMajor.symm ((j 0).cast (rfl : S72.size 0 = S72.numel)))
    rw [read_loList ids n hn] at hq
    erw [read_loList ids n hn]
    erw [hk (j 0)] at hq ⊢
    rw [emb_loBuf]
    exact (trow_val hq).symm
  | ⟨1, _⟩ =>
    refine Fin.ext ((Shape.Gathers.idx_of_ne gathers_S1000000x128_S72x128 _ j 1 (by decide)).trans ?_)
    rw [emb_loBuf]
    exact (Nat.mod_eq_of_lt (j 1).isLt).symm

end Reads

end Cert.Proof.PoolIdeal

end
-- ==== Proof.IdealSeg.lean ====
/-
  One row of a chunk, `seg`, proved once for a symbolic buffer: the gathers' issues and waits, the summation, the count,
  the four stores. A buffer is either being gathered into (`Gone`: two transfers under way, each to deliver its part of the
  buffer at the row's table rows) or free (`Free`).
-/
module

public import proofs.«01_k».proof.Proof.IdealVal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.PoolIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- A core has sixteen subcores at the call. -/
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds library, the staging cells' one, the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

local notation "iV" => (Memref.whole Cert.KernelIdeal.main_arg0_scv : Memref Cert.KernelIdeal.sig Kind.scVector Space.hbm Cert.KernelIdeal.S16384x200 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x64 EltTy.f32)
local notation "sV" => (Memref.whole Cert.KernelIdeal.cc0_scratch0 : Memref Cert.KernelIdeal.sig Kind.scVector Space.vmem Cert.KernelIdeal.S128x200 EltTy.i32)
local notation "rV" => (Memref.whole Cert.KernelIdeal.cc0_scratch1 : Memref Cert.KernelIdeal.sig Kind.scVector Space.vmem Cert.KernelIdeal.S4x200x128 EltTy.f32)
local notation "uV" => (Memref.whole Cert.KernelIdeal.cc0_scratch2 : Memref Cert.KernelIdeal.sig Kind.scVector Space.vmem Cert.KernelIdeal.S128x64 EltTy.f32)

variable [FloatOps F] [Named F]

abbrev cV (L : grid0.Coords) : Fin τ.nSC := (L 0).castLE hcore0
abbrev jV (L : grid0.Coords) : Fin τ.nSub := (L 1).castLE hsub0

section Tile

variable (d : Dev nD) (L : grid0.Coords)

/-- The vector subcore's thread, and its buffers. -/
abbrev thr : Thread nD τ := V d (cV L) (jV L)
abbrev tL : Loc nD τ sig := (thr d L).loc main_v0_scv
abbrev sL : Loc nD τ sig := (thr d L).loc cc0_scratch0
abbrev rL : Loc nD τ sig := (thr d L).loc cc0_scratch1
abbrev uL : Loc nD τ sig := (thr d L).loc cc0_scratch2

/-- The semaphore of the first gather into buffer `b`. -/
def semHi : Fin 4 → DmaSems sig S_ := ![cc0_scratch3, cc0_scratch4, cc0_scratch5, cc0_scratch6]
/-- The semaphore of the second. -/
def semLo : Fin 4 → DmaSems sig S_ := ![cc0_scratch7, cc0_scratch8, cc0_scratch9, cc0_scratch10]
/-- Its cell on this subcore. -/
abbrev gHi (b : Fin 4) : GSem nD τ sig := (thr d L, .dma (semHi b).sem)
abbrev gLo (b : Fin 4) : GSem nD τ sig := (thr d L, .dma (semLo b).sem)

variable (tab : S1000000x128.Idx → Elt F .f32) (ids : S128x200.Idx → BitVec 32) (qT qS : Fin 8 → PosShare TreeShare)

/-- Which of the eight shares of the table, and of the ids, buffer `b`'s first gather takes, and its second. -/
def kHi (b : Fin 4) : Fin 8 := ⟨2 * b.val, by omega⟩
def kLo (b : Fin 4) : Fin 8 := ⟨2 * b.val + 1, by omega⟩

/-- Row `n`'s first gather into buffer `b`, under way. -/
def HiF (b : Fin 4) (n : ℕ) : sProp 𝕄 :=
  iprop(∃ Z : Finset S128x200.Idx, Transfers.Flight countersEmb (thr d L) (.dma (semHi b).sem) (default : HIx 1) (hiBuf b).view.dmaCredit
      iprop((rL d L ↦[hiSet b]{fullShare} Gath tab ids n) ∗ (tL d L ↦{qT (kHi b)} tab) ∗ (sL d L ↦[Z]{qS (kHi b)} ids))
    ∗ sL d L ↦[Finset.univ \ Z]{qS (kHi b)} ids)
/-- Row `n`'s second gather into buffer `b`, under way. -/
def LoF (b : Fin 4) (n : ℕ) : sProp 𝕄 :=
  iprop(∃ Z : Finset S128x200.Idx, Transfers.Flight countersEmb (thr d L) (.dma (semLo b).sem) (default : HIx 1) (loBuf b).view.dmaCredit
      iprop((rL d L ↦[loSet b]{fullShare} Gath tab ids n) ∗ (tL d L ↦{qT (kLo b)} tab) ∗ (sL d L ↦[Z]{qS (kLo b)} ids))
    ∗ sL d L ↦[Finset.univ \ Z]{qS (kLo b)} ids)
/-- Buffer `b`'s first part free, with what a gather into it takes. -/
def HiR (b : Fin 4) : sProp 𝕄 :=
  iprop((∃ f, rL d L ↦[hiSet b]{fullShare} f) ∗ (tL d L ↦{qT (kHi b)} tab) ∗ (sL d L ↦{qS (kHi b)} ids) ∗ semVal (gHi d L b) 0)
/-- Buffer `b`'s second part free. -/
def LoR (b : Fin 4) : sProp 𝕄 :=
  iprop((∃ f, rL d L ↦[loSet b]{fullShare} f) ∗ (tL d L ↦{qT (kLo b)} tab) ∗ (sL d L ↦{qS (kLo b)} ids) ∗ semVal (gLo d L b) 0)

/-- A points-to through a memref of the gather buffers is one at the buffers. -/
theorem sdiff_back {ℓ : Loc nD τ sig} (q : PosShare TreeShare) (f : Buf (Elt F) ℓ) (Z : Finset (Idx ℓ)) :
    iprop((ℓ ↦[Z]{q} f) ∗ ℓ ↦[Finset.univ \ Z]{q} f) ⊢ (ℓ ↦{q} f : sProp 𝕄) :=
  (pointsTo_split_subset (q := q) (f := f) (S := Finset.univ) (Finset.subset_univ Z)).2

set_option maxHeartbeats 1000000 in
/-- The first gather's issue. -/
theorem wp_issueHi (hids : ∀ x, (ids x).toNat < 1000000) {α : Type} {Q : α → sProp 𝕄} (b : Fin 4) (n : ℕ) (hn : n < 128) (off : Fin 2 → ℕ) (hoff : off = ![n, 0])
    (h : ∀ a, off a + S1x128.size a ≤ S128x200.size a) {k : PUnit → TProg F L α} :
    HiR d L tab ids qT qS b
      ⊢ iprop((HiF d L tab ids qT qS b n -∗ wp frame (wpE (defs₀ (F := F)) 𝒱₀ (thr d L) none) Set.univ (k ⟨⟩) Q)
        -∗ wp frame (wpE (defs₀ (F := F)) 𝒱₀ (thr d L) none) Set.univ (issueHi L b off h (semHi b) >>= k) Q) := by
  subst hoff
  unfold HiR HiF issueHi
  iintro ⟨⟨%fd, Hr⟩, Ht, Hs, Hsem⟩ Hk
  have hN : ∀ (b : Fin 4) (hg : S1000000x128.Gathers 0 S128x128), ∑ j, ((hiBuf b).slice (S128x128.rowRect hg.axis' j) (S128x128.stride_rowRect hg.axis' j)).view.dmaCredit
      = (hiBuf b).view.dmaCredit := by decide
  have hin : ∀ x, ((hiList ![n, 0] h).view.read (Elt F) ids x).toNat < S1000000x128.size gathers_S1000000x128_S128x128.axis := by
    intro x; rw [read_hiList ids n hn h x]; exact hids _
  ihave Hs2 := (pointsTo_split_subset (q := qS (kHi b)) (f := (ids : Buf (Elt F) (sL d L))) (S := Finset.univ) (Finset.subset_univ (hiList ![n, 0] h).view.set)).1 $$ Hs
  icases Hs2 with ⟨Hs, Hsr⟩
  ihave Hr' := (Entails.of_eq (show (rL d L ↦[hiSet b]{fullShare} fd : sProp 𝕄) = (hiBuf b).view.loc (thr d L) ↦[(hiBuf b).view.set]{fullShare} fd by rw [set_hiBuf])) $$ Hr
  ihave Ht' := (Entails.of_eq (show (tL d L ↦{qT (kHi b)} tab : sProp 𝕄) = (tAll).view.loc (thr d L) ↦[(tAll).view.set]{qT (kHi b)} tab by rw [set_tAll])) $$ Ht
  iapply (SparseCore.wp_indirectGatherLocal countersEmb 𝒱₀ (thr d L) none (hg := gathers_S1000000x128_S128x128) (default : HIx 1)
      (hiBuf b).view.dmaCredit (hN b _) (by decide) hin) $$ [Hr' Ht' Hs Hsem]
  · isplitl [Ht']; · iexact Ht'
    isplitl [Hr']; · iexact Hr'
    isplitl [Hs]; · iexact Hs
    iexact Hsem
  iintro Hfl
  iapply Hk
  iexists (hiList ![n, 0] h).view.set
  isplitl [Hfl]
  · iapply (Transfers.Flight_mono countersEmb (thr d L) (sm := .dma (semHi b).sem) ?_) $$ Hfl
    iintro ⟨Hr, Ht, Hs⟩
    isplitl [Hr]
    · iapply (Entails.of_eq (show ((hiBuf b).view.loc (thr d L) ↦[(hiBuf b).view.set]{fullShare} _ : sProp 𝕄) = rL d L ↦[hiSet b]{fullShare} Gath tab ids n by
        rw [set_hiBuf]; exact pointsTo_congr (hi_written tab ids n hn b h hin fd))) $$ Hr
    isplitl [Ht]
    · iapply (Entails.of_eq (show ((tAll).view.loc (thr d L) ↦[(tAll).view.set]{qT (kHi b)} tab : sProp 𝕄) = tL d L ↦{qT (kHi b)} tab by rw [set_tAll])) $$ Ht
    iexact Hs
  iexact Hsr

set_option maxHeartbeats 1000000 in
/-- The second gather's issue. -/
theorem wp_issueLo (hids : ∀ x, (ids x).toNat < 1000000) {α : Type} {Q : α → sProp 𝕄} (b : Fin 4) (n : ℕ) (hn : n < 128) (off : Fin 2 → ℕ) (hoff : off = ![n, 128])
    (h : ∀ a, off a + S1x72.size a ≤ S128x200.size a) {k : PUnit → TProg F L α} :
    LoR d L tab ids qT qS b
      ⊢ iprop((LoF d L tab ids qT qS b n -∗ wp frame (wpE (defs₀ (F := F)) 𝒱₀ (thr d L) none) Set.univ (k ⟨⟩) Q)
        -∗ wp frame (wpE (defs₀ (F := F)) 𝒱₀ (thr d L) none) Set.univ (issueLo L b off h (semLo b) >>= k) Q) := by
  subst hoff
  unfold LoR LoF issueLo
  iintro ⟨⟨%fd, Hr⟩, Ht, Hs, Hsem⟩ Hk
  have hN : ∀ (b : Fin 4) (hg : S1000000x128.Gathers 0 S72x128), ∑ j, ((loBuf b).slice (S72x128.rowRect hg.axis' j) (S72x128.stride_rowRect hg.axis' j)).view.dmaCredit
      = (loBuf b).view.dmaCredit := by decide
  have hin : ∀ x, ((loList ![n, 128] h).view.read (Elt F) ids x).toNat < S1000000x128.size gathers_S1000000x128_S72x128.axis := by
    intro x; rw [read_loList ids n hn h x]; exact hids _
  ihave Hs2 := (pointsTo_split_subset (q := qS (kLo b)) (f := (ids : Buf (Elt F) (sL d L))) (S := Finset.univ) (Finset.subset_univ (loList ![n, 128] h).view.set)).1 $$ Hs
  icases Hs2 with ⟨Hs, Hsr⟩
  ihave Hr' := (Entails.of_eq (show (rL d L ↦[loSet b]{fullShare} fd : sProp 𝕄) = (loBuf b).view.loc (thr d L) ↦[(loBuf b).view.set]{fullShare} fd by rw [set_loBuf])) $$ Hr
  ihave Ht' := (Entails.of_eq (show (tL d L ↦{qT (kLo b)} tab : sProp 𝕄) = (tAll).view.loc (thr d L) ↦[(tAll).view.set]{qT (kLo b)} tab by rw [set_tAll])) $$ Ht
  iapply (SparseCore.wp_indirectGatherLocal countersEmb 𝒱₀ (thr d L) none (hg := gathers_S1000000x128_S72x128) (default : HIx 1)
      (loBuf b).view.dmaCredit (hN b _) (by decide) hin) $$ [Hr' Ht' Hs Hsem]
  · isplitl [Ht']; · iexact Ht'
    isplitl [Hr']; · iexact Hr'
    isplitl [Hs]; · iexact Hs
    iexact Hsem
  iintro Hfl
  iapply Hk
  iexists (loList ![n, 128] h).view.set
  isplitl [Hfl]
  · iapply (Transfers.Flight_mono countersEmb (thr d L) (sm := .dma (semLo b).sem) ?_) $$ Hfl
    iintro ⟨Hr, Ht, Hs⟩
    isplitl [Hr]
    · iapply (Entails.of_eq (show ((loBuf b).view.loc (thr d L) ↦[(loBuf b).view.set]{fullShare} _ : sProp 𝕄) = rL d L ↦[loSet b]{fullShare} Gath tab ids n by
        rw [set_loBuf]; exact pointsTo_congr (lo_written tab ids n hn b h hin fd))) $$ Hr
    isplitl [Ht]
    · iapply (Entails.of_eq (show ((tAll).view.loc (thr d L) ↦[(tAll).view.set]{qT (kLo b)} tab : sProp 𝕄) = tL d L ↦{qT (kLo b)} tab by rw [set_tAll])) $$ Ht
    iexact Hs
  iexact Hsr

/-- The wait for the first gather: the part of the buffer at row `n`'s table rows. -/
def HiD (b : Fin 4) (n : ℕ) : sProp 𝕄 :=
  iprop((rL d L ↦[hiSet b]{fullShare} Gath tab ids n) ∗ (tL d L ↦{qT (kHi b)} tab) ∗ (sL d L ↦{qS (kHi b)} ids) ∗ semVal (gHi d L b) 0)
def LoD (b : Fin 4) (n : ℕ) : sProp 𝕄 :=
  iprop((rL d L ↦[loSet b]{fullShare} Gath tab ids n) ∗ (tL d L ↦{qT (kLo b)} tab) ∗ (sL d L ↦{qS (kLo b)} ids) ∗ semVal (gLo d L b) 0)

/-- A buffer's first part with a row gathered is one with anything in it. -/
theorem HiD_free (b : Fin 4) (n : ℕ) : HiD d L tab ids qT qS b n ⊢ HiR d L tab ids qT qS b := by
  unfold HiD HiR
  iintro ⟨Hr, H⟩
  isplitl [Hr]; · iexists _; iexact Hr
  iexact H
/-- So is a buffer's second part. -/
theorem LoD_free (b : Fin 4) (n : ℕ) : LoD d L tab ids qT qS b n ⊢ LoR d L tab ids qT qS b := by
  unfold LoD LoR
  iintro ⟨Hr, H⟩
  isplitl [Hr]; · iexists _; iexact Hr
  iexact H

/-- What the subcore owes, whatever waits it has recorded beyond `W`, all of them outside the calls' handshakes. -/
def Owes (O : CellTallies nD τ sig (HIx 1)) (W : Waits sig (HIx 1)) : sProp 𝕄 :=
  iprop(∃ W', ⌜∀ p ∈ W', p ∈ W ∨ p.2 = none⌝ ∗ owes (thr d L) O W')

/-- The wait for a row's first gather gives back the buffer's first part, with the row's table rows. -/
theorem wp_waitHi {O : CellTallies nD τ sig (HIx 1)} {W : Waits sig (HIx 1)} {α : Type} {Q : α → sProp 𝕄} (b : Fin 4) (n : ℕ) {k : PUnit → TProg F L α} :
    iprop(Transfers.MayWaits (thr d L) (default : HIx 1) O ∗ HiF d L tab ids qT qS b n ∗ Owes d L O W)
      ⊢ iprop((iprop(HiD d L tab ids qT qS b n ∗ Owes d L O W) -∗ wp frame (wpE (defs₀ (F := F)) 𝒱₀ (thr d L) none) Set.univ (k ⟨⟩) Q)
        -∗ wp frame (wpE (defs₀ (F := F)) 𝒱₀ (thr d L) none) Set.univ (waitHi L b (semHi b) >>= k) Q) := by
  unfold HiF Owes HiD waitHi
  iintro ⟨#Hmw, ⟨%Z, Hfl, Hsr⟩, ⟨%W', %hW', HO⟩⟩ Hk
  iapply (Transfers.wp_waitLocalO countersEmb 𝒱₀ (thr d L) none (default : HIx 1) (rfl : (hiBuf b).view.dmaCredit = _)) $$ [Hfl HO]
  · isplitl [Hfl]; · iexact Hfl
    isplitl [HO]; · iexact HO
    iapply (Transfers.MayWaits.elim (SemLoc.dma (semHi b).sem)) $$ Hmw
  iintro ⟨⟨Hr, Ht, Hs⟩, Hsem, HO⟩
  ihave Hs := (sdiff_back (F := F) (ℓ := sL d L) (qS (kHi b)) ids Z) $$ [Hs Hsr]; · isplitl [Hs] <;> iassumption
  iapply Hk
  isplitl [Hr Ht Hs Hsem]
  · isplitl [Hr]; · iexact Hr
    isplitl [Ht]; · iexact Ht
    isplitl [Hs]; · iexact Hs
    iexact Hsem
  iexists _; isplitr
  swap; · iexact HO
  ipureintro; intro p hp
  rcases Finset.mem_insert.mp hp with hp | hp; · exact .inr (hp ▸ rfl)
  exact hW' p hp

/-- The wait for the second gather gives back the second part. -/
theorem wp_waitLo {O : CellTallies nD τ sig (HIx 1)} {W : Waits sig (HIx 1)} {α : Type} {Q : α → sProp 𝕄} (b : Fin 4) (n : ℕ) {k : PUnit → TProg F L α} :
    iprop(Transfers.MayWaits (thr d L) (default : HIx 1) O ∗ LoF d L tab ids qT qS b n ∗ Owes d L O W)
      ⊢ iprop((iprop(LoD d L tab ids qT qS b n ∗ Owes d L O W) -∗ wp frame (wpE (defs₀ (F := F)) 𝒱₀ (thr d L) none) Set.univ (k ⟨⟩) Q)
        -∗ wp frame (wpE (defs₀ (F := F)) 𝒱₀ (thr d L) none) Set.univ (waitLo L b (semLo b) >>= k) Q) := by
  unfold LoF Owes LoD waitLo
  iintro ⟨#Hmw, ⟨%Z, Hfl, Hsr⟩, ⟨%W', %hW', HO⟩⟩ Hk
  iapply (Transfers.wp_waitLocalO countersEmb 𝒱₀ (thr d L) none (default : HIx 1) (rfl : (loBuf b).view.dmaCredit = _)) $$ [Hfl HO]
  · isplitl [Hfl]; · iexact Hfl
    isplitl [HO]; · iexact HO
    iapply (Transfers.MayWaits.elim (SemLoc.dma (semLo b).sem)) $$ Hmw
  iintro ⟨⟨Hr, Ht, Hs⟩, Hsem, HO⟩
  ihave Hs := (sdiff_back (F := F) (ℓ := sL d L) (qS (kLo b)) ids Z) $$ [Hs Hsr]; · isplitl [Hs] <;> iassumption
  iapply Hk
  isplitl [Hr Ht Hs Hsem]
  · isplitl [Hr]; · iexact Hr
    isplitl [Ht]; · iexact Ht
    isplitl [Hs]; · iexact Hs
    iexact Hsem
  iexists _; isplitr
  swap; · iexact HO
  ipureintro; intro p hp
  rcases Finset.mem_insert.mp hp with hp | hp; · exact .inr (hp ▸ rfl)
  exact hW' p hp

/-! ## The summation -/

/-- The sum has 200 steps. -/
theorem t3_trips : k0_t3_loop.trips = 200 := by decide +kernel
/-- Step `l` reads row `l`. -/
theorem t3_iv : ∀ l : Fin k0_t3_loop.trips, (Scalar.indexCast (Scf.iv 0#32 1#32 l)).toNat = l.val := by decide +kernel

/-- What a load of sixteen lanes of a buffer's place reads. -/
theorem read_row (b : Fin 4) (n c : ℕ) (hc : c + 16 ≤ 128) (l : Fin k0_t3_loop.trips) :
    shapeCast S16 (((rV).access (Rect.unit (s := S4x200x128) (accOff b c l) S1x1x16.size (accOff_inb b c hc l))).read (Elt F) (Gath tab ids n)) shapeCasts_S1x1x16_S16
      = rowVec tab (rowOf ids n) c l.val := by
  funext j
  have hj : (j 0).val < 16 := (j 0).isLt
  have hl : l.val < 200 := t3_trips ▸ l.isLt
  have e : Shape.reshapeEquiv (s := S1x1x16) (s' := S16) shapeCasts_S1x1x16_S16 j
      = (fun | ⟨0, _⟩ => (0 : Fin 1) | ⟨1, _⟩ => (0 : Fin 1) | ⟨2, _⟩ => j 0 : S1x1x16.Idx) :=
    Shape.reshapeEquiv_eq_of_rowMajor _ (by
      erw [Shape.rowMajor_val_three, Shape.rowMajor_val_one]
      show ((0 * 1 + 0) * 16 + (j 0).val) = (j 0).val
      omega)
  show ((rV).access (Rect.unit (s := S4x200x128) (accOff b c l) S1x1x16.size (accOff_inb b c hc l))).read (Elt F) (Gath tab ids n)
    (Shape.reshapeEquiv (s := S1x1x16) (s' := S16) _ j) = _
  rw [e]
  show Gath tab ids n ((Rect.unit (s := S4x200x128) (accOff b c l) S1x1x16.size (accOff_inb b c hc l)).emb _) = _
  unfold Gath rowVec rowOf
  have e1 : ((Rect.unit (s := S4x200x128) (accOff b c l) S1x1x16.size (accOff_inb b c hc l)).emb
      (fun | ⟨0, _⟩ => (0 : Fin 1) | ⟨1, _⟩ => (0 : Fin 1) | ⟨2, _⟩ => j 0 : S1x1x16.Idx) 1).val = l.val := by
    show (Scalar.indexCast (Scf.iv 0#32 1#32 l)).toNat + 1 * 0 = l.val
    rw [t3_iv]; omega
  have e2 : ((Rect.unit (s := S4x200x128) (accOff b c l) S1x1x16.size (accOff_inb b c hc l)).emb
      (fun | ⟨0, _⟩ => (0 : Fin 1) | ⟨1, _⟩ => (0 : Fin 1) | ⟨2, _⟩ => j 0 : S1x1x16.Idx) 2).val = c + (j 0).val := by
    show c + 1 * (j 0).val = c + (j 0).val
    omega
  rw [e1, e2]

/-- A step's sixteen lanes lie in the buffer. -/
theorem row_within (b : Fin 4) (c : ℕ) (hc : c + 16 ≤ 128) (l : Fin k0_t3_loop.trips) :
    ((rV).access (Rect.unit (s := S4x200x128) (accOff b c l) S1x1x16.size (accOff_inb b c hc l))).set ⊆ hiSet b ∪ loSet b := by
  intro x hx
  rw [mem_hiLo]
  have hx' : x ∈ (Rect.unit (s := S4x200x128) (accOff b c l) S1x1x16.size (accOff_inb b c hc l)).set := by
    rw [← View.set_slice_whole (cc0_scratch1 : Ref sig .scVector)]; exact hx
  have h0 : b.val ≤ (x 0).val ∧ (x 0).val < b.val + 1 := (Rect.mem_set_unit.mp hx') 0
  omega

/-- The sums after `l` places. -/
def accs (n l : ℕ) : Acc F := (accV tab (rowOf ids n) 0 l, accV tab (rowOf ids n) 16 l, accV tab (rowOf ids n) 32 l, accV tab (rowOf ids n) 48 l)

/-- One load of the summation. -/
theorem wp_ldRow {α : Type} {Q : α → sProp 𝕄} (b : Fin 4) (n c : ℕ) (hc : c + 16 ≤ 128) (l : Fin k0_t3_loop.trips) {k : Vec F S1x1x16 .f32 → TProg F L α} :
    (rL d L ↦[hiSet b ∪ loSet b]{fullShare} Gath tab ids n : sProp 𝕄)
      ⊢ iprop(((rL d L ↦[hiSet b ∪ loSet b]{fullShare} Gath tab ids n) -∗ wp frame (wpE (defs₀ (F := F)) 𝒱₀ (thr d L) none) Set.univ
            (k (((rV).access (Rect.unit (s := S4x200x128) (accOff b c l) S1x1x16.size (accOff_inb b c hc l))).read (Elt F) (Gath tab ids n))) Q)
        -∗ wp frame (wpE (defs₀ (F := F)) 𝒱₀ (thr d L) none) Set.univ
          (Prog.lift (.load rV (Rect.unit (s := S4x200x128) (accOff b c l) S1x1x16.size (accOff_inb b c hc l)).toLoadRect (View.loadsAt_vmem h_S1x1x16)) >>= k) Q) :=
  wp_load_rect 𝒱₀ (thr d L) none Set.univ (Q := Q) (m := rV) (r := Rect.unit (s := S4x200x128) (accOff b c l) S1x1x16.size (accOff_inb b c hc l))
    (hl := View.loadsAt_vmem h_S1x1x16) (k := k) (q := fullShare) (S := hiSet b ∪ loSet b) (f := Gath tab ids n) (row_within b c hc l)

set_option maxHeartbeats 1000000 in
/-- The summation: the buffer held at row `n`'s table rows, the four sums come out. -/
theorem wp_sum {α : Type} {Q : α → sProp 𝕄} (b : Fin 4) (n : ℕ) {k : Acc F → TProg F L α} :
    (rL d L ↦[hiSet b ∪ loSet b]{fullShare} Gath tab ids n : sProp 𝕄)
      ⊢ iprop(((rL d L ↦[hiSet b ∪ loSet b]{fullShare} Gath tab ids n) -∗ wp frame (wpE (defs₀ (F := F)) 𝒱₀ (thr d L) none) Set.univ (k (accs tab ids n 200)) Q)
        -∗ wp frame (wpE (defs₀ (F := F)) 𝒱₀ (thr d L) none) Set.univ
          (Scf.Loop.for k0_t3_loop k0_t3_ok (accZero (F := F), accZero (F := F), accZero (F := F), accZero (F := F)) (accBody L b) >>= k) Q) := by
  iintro Hr Hk
  iapply (Scf.wp_for_bind frame (wpE (defs₀ (F := F)) 𝒱₀ (thr d L) none) Set.univ _ _ _ k0_t3_ok
    (accZero (F := F), accZero (F := F), accZero (F := F), accZero (F := F)) (accBody L b)
    (fun l acc => iprop(⌜acc = accs tab ids n l⌝ ∗ rL d L ↦[hiSet b ∪ loSet b]{fullShare} Gath tab ids n)) ?_) $$ [Hr]
  · intro l acc
    iintro ⟨%hacc, Hr⟩
    subst hacc
    unfold accBody accs
    iapply (wp_ldRow d L tab ids b n 0 (show 0 + 16 ≤ 128 by decide) l) $$ Hr; iintro Hr
    iapply (wp_ldRow d L tab ids b n 16 (show 16 + 16 ≤ 128 by decide) l) $$ Hr; iintro Hr
    iapply (wp_ldRow d L tab ids b n 32 (show 32 + 16 ≤ 128 by decide) l) $$ Hr; iintro Hr
    iapply (wp_ldRow d L tab ids b n 48 (show 48 + 16 ≤ 128 by decide) l) $$ Hr; iintro Hr
    iapply (le_wp_ret _ _ _ _ _)
    isplitr
    · ipureintro
      rw [read_row tab ids b n 0 (by decide), read_row tab ids b n 16 (by decide), read_row tab ids b n 32 (by decide), read_row tab ids b n 48 (by decide)]
      rfl
    · iexact Hr
  · isplitr
    · ipureintro; rfl
    · iexact Hr
  iintro %acc ⟨%hacc, Hr⟩
  have hacc' : acc = accs tab ids n 200 := by rw [hacc]; exact congrArg _ t3_trips
  subst hacc'
  iapply Hk; iexact Hr

/-! ## The ids' loads and the output's stores -/

/-- A load of sixteen of row `n`'s ids. -/
theorem wp_ldIds {α : Type} {Q : α → sProp 𝕄} (q : PosShare TreeShare) (n o : ℕ) (hn : n < 128) (ho : o + 16 ≤ 200) (off : Fin 2 → ℕ) (hoff : off = ![n, o])
    (h : ∀ a, off a + S1x16.size a ≤ S128x200.size a) {k : Vec F S1x16 .i32 → TProg F L α} :
    (sL d L ↦{q} ids : sProp 𝕄)
      ⊢ iprop(((sL d L ↦{q} ids) -∗ wp frame (wpE (defs₀ (F := F)) 𝒱₀ (thr d L) none) Set.univ (k (idsVec (F := F) (rowOf ids n) o)) Q)
        -∗ wp frame (wpE (defs₀ (F := F)) 𝒱₀ (thr d L) none) Set.univ (ldIds L off h >>= k) Q) := by
  subst hoff
  have e : ((sV).access (Rect.unit (s := S128x200) ![n, o] S1x16.size h)).read (Elt F) ids = idsVec (F := F) (rowOf ids n) o := by
    funext j
    have hj : (j 1).val < 16 := (j 1).isLt
    have hj0 : (j 0).val < 1 := (j 0).isLt
    show ids ((Rect.unit (s := S128x200) ![n, o] S1x16.size h).emb j) = ids (six n (o + (j 1).val))
    refine congrArg ids (funext fun a => ?_)
    match a with
    | ⟨0, _⟩ => exact Fin.ext (show n + 1 * (j 0).val = n % 128 by omega)
    | ⟨1, _⟩ => exact Fin.ext (show o + 1 * (j 1).val = (o + (j 1).val) % 200 by omega)
  rw [← e]
  exact wp_load_rect 𝒱₀ (thr d L) none Set.univ (Q := Q) (m := sV) (r := Rect.unit (s := S128x200) ![n, o] S1x16.size h)
    (hl := View.loadsAt_vmem h_S1x16) (k := k) (q := q) (S := Finset.univ) (f := ids) (Finset.subset_univ _)

/-- A load of sixteen lanes of the output rows; what it reads is not used. -/
theorem wp_ldOut {α : Type} {Q : α → sProp 𝕄} (f : S128x64.Idx → Elt F .f32) (off : Fin 2 → ℕ) (h : ∀ a, off a + S1x16.size a ≤ S128x64.size a) {k : TProg F L α} :
    (uL d L ↦{fullShare} f : sProp 𝕄)
      ⊢ iprop(((uL d L ↦{fullShare} f) -∗ wp frame (wpE (defs₀ (F := F)) 𝒱₀ (thr d L) none) Set.univ k Q)
        -∗ wp frame (wpE (defs₀ (F := F)) 𝒱₀ (thr d L) none) Set.univ (ldOut L off h >>= fun _ => k) Q) :=
  wp_load_rect 𝒱₀ (thr d L) none Set.univ (Q := Q) (m := uV) (r := Rect.unit (s := S128x64) off S1x16.size h)
    (hl := View.loadsAt_vmem h_S1x16) (k := fun _ => k) (q := fullShare) (S := Finset.univ) (f := f) (Finset.subset_univ _)

/-- A store of sixteen lanes of row `n`. -/
theorem wp_stOut {α : Type} {Q : α → sProp 𝕄} (f : S128x64.Idx → Elt F .f32) (n c : ℕ) (hn : n < 128) (hc : c + 16 ≤ 64) (off : Fin 2 → ℕ) (hoff : off = ![n, c])
    (h : ∀ a, off a + S1x16.size a ≤ S128x64.size a) (w : FVec F S16 .f32) {k : PUnit → TProg F L α} :
    (uL d L ↦{fullShare} f : sProp 𝕄)
      ⊢ iprop(((uL d L ↦{fullShare} put f n c w) -∗ wp frame (wpE (defs₀ (F := F)) 𝒱₀ (thr d L) none) Set.univ (k ⟨⟩) Q)
        -∗ wp frame (wpE (defs₀ (F := F)) 𝒱₀ (thr d L) none) Set.univ (stOut L off h w >>= k) Q) := by
  subst hoff
  have e : ((uV).access (Rect.unit (s := S128x64) ![n, c] S1x16.size h)).write (Elt F) f (shapeCast S1x16 w shapeCasts_S16_S1x16) Finset.univ = put f n c w := by
    funext x
    by_cases hx : (x 0).val = n ∧ c ≤ (x 1).val ∧ (x 1).val < c + 16
    · have hx1 : (x 1).val - c < 16 := by omega
      let j : S1x16.Idx := fun | ⟨0, _⟩ => (0 : Fin 1) | ⟨1, _⟩ => (⟨(x 1).val - c, hx1⟩ : Fin 16)
      have ex : (Rect.unit (s := S128x64) ![n, c] S1x16.size h).emb j = x := by
        funext a
        match a with
        | ⟨0, _⟩ => exact Fin.ext (show n + 1 * 0 = (x 0).val by omega)
        | ⟨1, _⟩ => exact Fin.ext (show c + 1 * ((x 1).val - c) = (x 1).val by omega)
      have hw := View.write_emb_of_mem (Val := Elt F) (v := (uV).access (Rect.unit (s := S128x64) ![n, c] S1x16.size h)) f (shapeCast S1x16 w shapeCasts_S16_S1x16)
        (M := Finset.univ) (Finset.mem_univ j)
      have hw' : ((uV).access (Rect.unit (s := S128x64) ![n, c] S1x16.size h)).write (Elt F) f (shapeCast S1x16 w shapeCasts_S16_S1x16) Finset.univ
          ((Rect.unit (s := S128x64) ![n, c] S1x16.size h).emb j) = shapeCast S1x16 w shapeCasts_S16_S1x16 j := hw
      rw [ex] at hw'
      rw [hw']
      unfold put
      rw [if_pos hx]
      have e2 : Shape.reshapeEquiv (s := S16) (s' := S1x16) shapeCasts_S16_S1x16 j = lane ((x 1).val - c) :=
        Shape.reshapeEquiv_eq_of_rowMajor _ (by
          erw [Shape.rowMajor_val_two, Shape.rowMajor_val_one]
          show ((x 1).val - c) % 16 = 0 * 16 + ((x 1).val - c)
          omega)
      exact congrArg w e2
    · unfold put
      rw [if_neg hx]
      refine View.write_of_not_mem _ _ _ fun hm => hx ?_
      have hm' : x ∈ (Rect.unit (s := S128x64) ![n, c] S1x16.size h).set := by
        rw [← View.set_slice_whole (cc0_scratch2 : Ref sig .scVector)]; exact hm
      have h0 : n ≤ (x 0).val ∧ (x 0).val < n + 1 := (Rect.mem_set_unit.mp hm') 0
      have h1 : c ≤ (x 1).val ∧ (x 1).val < c + 16 := (Rect.mem_set_unit.mp hm') 1
      omega
  rw [← e]
  exact wp_store 𝒱₀ (thr d L) none Set.univ (Q := Q) (m := uV) (r := Rect.unit (s := S128x64) ![n, c] S1x16.size h) (w := shapeCast S1x16 w shapeCasts_S16_S1x16)
    (Mk := Finset.univ) (hx := View.stores_vmem_bits_univ h_S1x16 rfl) (hm := .inl rfl) (k := k) (S := Finset.univ) (f := f) (Finset.subset_univ _)

/-- The output rows of the chunk, those below `n` pooled. -/
def Out (n : ℕ) : sProp 𝕄 := iprop(∃ f, ⌜Done tab ids n f⌝ ∗ uL d L ↦{fullShare} f)

set_option maxHeartbeats 1000000 in
/-- A row's end: the count of its nonzero ids and the four stores. -/
theorem wp_finish {α : Type} {Q : α → sProp 𝕄} (q : PosShare TreeShare) (kk : Fin k0_t2_loop.trips) (r : Fin 4) (n : ℕ) (hnr : 4 * kk.val + r.val = n) (hn : n < 128)
    {k : PUnit → TProg F L α} :
    iprop((sL d L ↦{q} ids) ∗ Out d L tab ids n)
      ⊢ iprop((iprop((sL d L ↦{q} ids) ∗ Out d L tab ids (n + 1)) -∗ wp frame (wpE (defs₀ (F := F)) 𝒱₀ (thr d L) none) Set.univ (k ⟨⟩) Q)
        -∗ wp frame (wpE (defs₀ (F := F)) 𝒱₀ (thr d L) none) Set.univ (finish L kk r (accs tab ids n 200) >>= k) Q) := by
  subst hnr
  unfold Out finish
  simp only [bind_assoc]
  iintro ⟨Hs, ⟨%f, %hf, Hu⟩⟩ Hk
  iapply (wp_ldIds d L ids q _ 0 hn (by decide) _ (k0_off10_eq kk r)) $$ Hs; iintro Hs
  iapply (wp_ldIds d L ids q _ 16 hn (by decide) _ (k0_off11_eq kk r)) $$ Hs; iintro Hs
  iapply (wp_ldIds d L ids q _ 32 hn (by decide) _ (k0_off12_eq kk r)) $$ Hs; iintro Hs
  iapply (wp_ldIds d L ids q _ 48 hn (by decide) _ (k0_off13_eq kk r)) $$ Hs; iintro Hs
  iapply (wp_ldIds d L ids q _ 64 hn (by decide) _ (k0_off14_eq kk r)) $$ Hs; iintro Hs
  iapply (wp_ldIds d L ids q _ 80 hn (by decide) _ (k0_off15_eq kk r)) $$ Hs; iintro Hs
  iapply (wp_ldIds d L ids q _ 96 hn (by decide) _ (k0_off16_eq kk r)) $$ Hs; iintro Hs
  iapply (wp_ldIds d L ids q _ 112 hn (by decide) _ (k0_off17_eq kk r)) $$ Hs; iintro Hs
  iapply (wp_ldIds d L ids q _ 128 hn (by decide) _ (k0_off18_eq kk r)) $$ Hs; iintro Hs
  iapply (wp_ldIds d L ids q _ 144 hn (by decide) _ (k0_off19_eq kk r)) $$ Hs; iintro Hs
  iapply (wp_ldIds d L ids q _ 160 hn (by decide) _ (k0_off20_eq kk r)) $$ Hs; iintro Hs
  iapply (wp_ldIds d L ids q _ 176 hn (by decide) _ (k0_off21_eq kk r)) $$ Hs; iintro Hs
  iapply (wp_ldIds d L ids q _ 184 hn (by decide) _ (k0_off22_eq kk r)) $$ Hs; iintro Hs
  iapply (wp_ldOut d L _ _ _) $$ Hu; iintro Hu
  iapply (wp_stOut d L _ _ 0 hn (by decide) _ (k0_off23_eq kk r)) $$ Hu; iintro Hu
  iapply (wp_ldOut d L _ _ _) $$ Hu; iintro Hu
  iapply (wp_stOut d L _ _ 16 hn (by decide) _ (k0_off24_eq kk r)) $$ Hu; iintro Hu
  iapply (wp_ldOut d L _ _ _) $$ Hu; iintro Hu
  iapply (wp_stOut d L _ _ 32 hn (by decide) _ (k0_off25_eq kk r)) $$ Hu; iintro Hu
  iapply (wp_ldOut d L _ _ _) $$ Hu; iintro Hu
  iapply (wp_stOut d L _ _ 48 hn (by decide) _ (k0_off26_eq kk r)) $$ Hu; iintro Hu
  iapply Hk
  isplitl [Hs]; · iexact Hs
  iexists _
  isplitr
  swap; · iexact Hu
  ipureintro
  exact done_put hf

/-- Buffer `b`, with row `n` of the chunk under way into it if the chunk has such a row. -/
def Slot (b : Fin 4) (n : ℕ) : sProp 𝕄 :=
  if n < 128 then iprop(HiF d L tab ids qT qS b n ∗ LoF d L tab ids qT qS b n) else iprop(HiR d L tab ids qT qS b ∗ LoR d L tab ids qT qS b)

/-- The issue of a row ahead. -/
theorem wp_ahead (hids : ∀ x, (ids x).toNat < 1000000) {α : Type} {Q : α → sProp 𝕄} (nb : Fin 4) (n : ℕ) (cond : BitVec 1) (hc : cond = 1#1 ↔ n < 128)
    (offH offL : Fin 2 → ℕ) (hoH : offH = ![n, 0]) (hoL : offL = ![n, 128])
    (hH : cond = 1#1 → ∀ a, offH a + S1x128.size a ≤ S128x200.size a) (hL : cond = 1#1 → ∀ a, offL a + S1x72.size a ≤ S128x200.size a) {k : PUnit → TProg F L α} :
    iprop(HiR d L tab ids qT qS nb ∗ LoR d L tab ids qT qS nb)
      ⊢ iprop((Slot d L tab ids qT qS nb n -∗ wp frame (wpE (defs₀ (F := F)) 𝒱₀ (thr d L) none) Set.univ (k ⟨⟩) Q)
        -∗ wp frame (wpE (defs₀ (F := F)) 𝒱₀ (thr d L) none) Set.univ (ahead L nb cond offH offL hH hL (semHi nb) (semLo nb) >>= k) Q) := by
  unfold ahead Slot
  iintro ⟨Hh, Hl⟩ Hk
  by_cases h : cond = 1#1
  · rw [dif_pos h, if_pos (hc.mp h), bind_assoc]
    iapply (wp_issueHi d L tab ids qT qS hids nb n (hc.mp h) offH hoH (hH h)) $$ Hh; iintro Hh
    iapply (wp_issueLo d L tab ids qT qS hids nb n (hc.mp h) offL hoL (hL h)) $$ Hl; iintro Hl
    iapply Hk
    isplitl [Hh] <;> iassumption
  · rw [dif_neg h, if_neg (fun h' => h (hc.mpr h')), pure_bind]
    iapply Hk
    isplitl [Hh] <;> iassumption

set_option maxHeartbeats 1000000 in
/-- One row: its two gathers under way, the buffer of the row three ahead free; after it the row is pooled, its buffer
    free, and the row three ahead under way if there is one. -/
theorem wp_seg (hids : ∀ x, (ids x).toNat < 1000000) {O : CellTallies nD τ sig (HIx 1)} {W : Waits sig (HIx 1)} {α : Type} {Q : α → sProp 𝕄} (q : PosShare TreeShare)
    (kk : Fin k0_t2_loop.trips) (b nb : Fin 4) (n n1 n3 : ℕ) (hnr : 4 * kk.val + b.val = n) (hn : n < 128) (h1 : n + 1 = n1) (h3 : n + 3 = n3)
    (cond : BitVec 1) (hc : cond = 1#1 ↔ n3 < 128)
    (offH offL : Fin 2 → ℕ) (hoH : offH = ![n3, 0]) (hoL : offL = ![n3, 128])
    (hH : cond = 1#1 → ∀ a, offH a + S1x128.size a ≤ S128x200.size a) (hL : cond = 1#1 → ∀ a, offL a + S1x72.size a ≤ S128x200.size a) {k : PUnit → TProg F L α} :
    iprop(Transfers.MayWaits (thr d L) (default : HIx 1) O ∗ Slot d L tab ids qT qS b n ∗ (HiR d L tab ids qT qS nb ∗ LoR d L tab ids qT qS nb)
        ∗ (sL d L ↦{q} ids) ∗ Out d L tab ids n ∗ Owes d L O W)
      ⊢ iprop((iprop((HiR d L tab ids qT qS b ∗ LoR d L tab ids qT qS b) ∗ Slot d L tab ids qT qS nb n3
            ∗ (sL d L ↦{q} ids) ∗ Out d L tab ids n1 ∗ Owes d L O W) -∗ wp frame (wpE (defs₀ (F := F)) 𝒱₀ (thr d L) none) Set.univ (k ⟨⟩) Q)
        -∗ wp frame (wpE (defs₀ (F := F)) 𝒱₀ (thr d L) none) Set.univ (seg L kk b nb cond offH offL hH hL (semHi b) (semLo b) (semHi nb) (semLo nb) >>= k) Q) := by
  subst h1; subst h3
  unfold seg
  simp only [bind_assoc]
  iintro ⟨#Hmw, Hsl, Hfree, Hs, Hout, HO⟩ Hk
  ihave Hsl := (Entails.of_eq (show Slot d L tab ids qT qS b n = iprop(HiF d L tab ids qT qS b n ∗ LoF d L tab ids qT qS b n) from if_pos hn)) $$ Hsl
  icases Hsl with ⟨Hh, Hl⟩
  iapply (wp_ahead d L tab ids qT qS hids nb (n + 3) cond hc offH offL hoH hoL hH hL) $$ Hfree; iintro Hnext
  iapply (wp_waitHi d L tab ids qT qS b n) $$ [Hh HO]
  · isplitr; · iexact Hmw
    isplitl [Hh] <;> iassumption
  iintro ⟨Hh, HO⟩
  iapply (wp_waitLo d L tab ids qT qS b n) $$ [Hl HO]
  · isplitr; · iexact Hmw
    isplitl [Hl] <;> iassumption
  iintro ⟨Hl, HO⟩
  unfold HiD LoD
  icases Hh with ⟨Hhr, Hh⟩
  icases Hl with ⟨Hlr, Hl⟩
  ihave Hr := (pointsTo_union (ℓ := rL d L) (q := fullShare) (f := (Gath tab ids n : Buf (Elt F) (rL d L))) (hiLo_disjoint b)).2 $$ [Hhr Hlr]; · isplitl [Hhr] <;> iassumption
  iapply (wp_sum d L tab ids b n) $$ Hr; iintro Hr
  ihave Hr := (pointsTo_union (ℓ := rL d L) (q := fullShare) (f := (Gath tab ids n : Buf (Elt F) (rL d L))) (hiLo_disjoint b)).1 $$ Hr
  icases Hr with ⟨Hhr, Hlr⟩
  iapply (wp_finish d L tab ids q kk b n hnr hn) $$ [Hs Hout]; · isplitl [Hs] <;> iassumption
  iintro ⟨Hs, Hout⟩
  iapply Hk
  unfold HiR LoR
  isplitl [Hhr Hh Hlr Hl]
  · isplitl [Hhr Hh]
    · isplitl [Hhr]; · iexists _; iexact Hhr
      iexact Hh
    · isplitl [Hlr]; · iexists _; iexact Hlr
      iexact Hl
  isplitl [Hnext]; · iexact Hnext
  isplitl [Hs]; · iexact Hs
  isplitl [Hout]; · iexact Hout
  iexact HO

end Tile

end Cert.Proof.PoolIdeal

end
-- ==== Proof.IdealGroup.lean ====
/-
  The group loop of a chunk: before group `g` the rows `4·g`, `4·g + 1`, `4·g + 2` are under way.
-/
module

public import proofs.«01_k».proof.Proof.IdealSeg
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.PoolIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S16384x200 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x64 EltTy.f32)
local notation "sV" => (Memref.whole Cert.KernelIdeal.cc0_scratch0 : Memref Cert.KernelIdeal.sig Kind.scVector Space.vmem Cert.KernelIdeal.S128x200 EltTy.i32)
local notation "rV" => (Memref.whole Cert.KernelIdeal.cc0_scratch1 : Memref Cert.KernelIdeal.sig Kind.scVector Space.vmem Cert.KernelIdeal.S4x200x128 EltTy.f32)
local notation "uV" => (Memref.whole Cert.KernelIdeal.cc0_scratch2 : Memref Cert.KernelIdeal.sig Kind.scVector Space.vmem Cert.KernelIdeal.S128x64 EltTy.f32)

variable [FloatOps F] [Named F]

section Tile

variable (d : Dev nD) (L : grid0.Coords)
variable (tab : S1000000x128.Idx → Elt F .f32) (ids : S128x200.Idx → BitVec 32) (qT qS : Fin 8 → PosShare TreeShare)

/-! ## The group loop -/

/-- A chunk has 32 groups. -/
theorem t2_trips : k0_t2_loop.trips = 32 := by decide +kernel
/-- The first turn of a group gathers ahead while the row exists. -/
theorem cond1 : ∀ kk : Fin k0_t2_loop.trips, k0_cond1 kk = 1#1 ↔ 4 * kk.val + 3 < 128 := by decide +kernel
/-- So does the second turn. -/
theorem cond2 : ∀ kk : Fin k0_t2_loop.trips, k0_cond2 kk = 1#1 ↔ 4 * (kk.val + 1) < 128 := by decide +kernel
/-- So does the third turn. -/
theorem cond3 : ∀ kk : Fin k0_t2_loop.trips, k0_cond3 kk = 1#1 ↔ 4 * (kk.val + 1) + 1 < 128 := by decide +kernel
/-- So does the fourth turn. -/
theorem cond4 : ∀ kk : Fin k0_t2_loop.trips, k0_cond4 kk = 1#1 ↔ 4 * (kk.val + 1) + 2 < 128 := by decide +kernel

/-- The printed group, its semaphores named by buffer. -/
theorem t2_eq (r0 r1 : DmaSems sig S_) (kk : Fin k0_t2_loop.trips) (x : BitVec 32) :
    k0_t2_body (F := F) L iV (Memref.isWhole_whole _) tV (Memref.isWhole_whole _) oV (Memref.isWhole_whole _) sV (Memref.isWhole_whole _) rV (Memref.isWhole_whole _)
        uV (Memref.isWhole_whole _) cc0_scratch3 cc0_scratch4 cc0_scratch5 cc0_scratch6 cc0_scratch7 cc0_scratch8 cc0_scratch9 cc0_scratch10 r0 r1 kk x
      = (do
        seg L kk 0 3 (k0_cond1 kk) (k0_off2 kk) (k0_off3 kk) (k0_off2_inb kk) (k0_off3_inb kk) (semHi 0) (semLo 0) (semHi 3) (semLo 3)
        seg L kk 1 0 (k0_cond2 kk) (k0_off27 kk) (k0_off28 kk) (k0_off27_inb kk) (k0_off28_inb kk) (semHi 1) (semLo 1) (semHi 0) (semLo 0)
        seg L kk 2 1 (k0_cond3 kk) (k0_off33 kk) (k0_off34 kk) (k0_off33_inb kk) (k0_off34_inb kk) (semHi 2) (semLo 2) (semHi 1) (semLo 1)
        seg L kk 3 2 (k0_cond4 kk) (k0_off39 kk) (k0_off40 kk) (k0_off39_inb kk) (k0_off40_inb kk) (semHi 3) (semLo 3) (semHi 2) (semLo 2)
        pure 0#32) :=
  t2_body_eq L r0 r1 kk x

/-- Before group `g`: rows `4·g`, `4·g + 1`, `4·g + 2` under way, the fourth buffer free, the rows below `4·g` pooled. -/
def Grp (O : CellTallies nD τ sig (HIx 1)) (W : Waits sig (HIx 1)) (q : PosShare TreeShare) (g : ℕ) : sProp 𝕄 :=
  iprop(Transfers.MayWaits (thr d L) (default : HIx 1) O ∗ Slot d L tab ids qT qS 0 (4 * g) ∗ Slot d L tab ids qT qS 1 (4 * g + 1) ∗ Slot d L tab ids qT qS 2 (4 * g + 2)
    ∗ (HiR d L tab ids qT qS 3 ∗ LoR d L tab ids qT qS 3) ∗ (sL d L ↦{q} ids) ∗ Out d L tab ids (4 * g) ∗ Owes d L O W)

set_option maxHeartbeats 6000000 in
/-- One group. -/
theorem wp_group (hids : ∀ x, (ids x).toNat < 1000000) (O : CellTallies nD τ sig (HIx 1)) (W : Waits sig (HIx 1)) (q : PosShare TreeShare) (r0 r1 : DmaSems sig S_)
    (kk : Fin k0_t2_loop.trips) (x : BitVec 32) :
    Grp d L tab ids qT qS O W q kk.val
      ⊢ wp frame (wpE (defs₀ (F := F)) 𝒱₀ (thr d L) none) Set.univ
        (k0_t2_body (F := F) L iV (Memref.isWhole_whole _) tV (Memref.isWhole_whole _) oV (Memref.isWhole_whole _) sV (Memref.isWhole_whole _) rV (Memref.isWhole_whole _)
          uV (Memref.isWhole_whole _) cc0_scratch3 cc0_scratch4 cc0_scratch5 cc0_scratch6 cc0_scratch7 cc0_scratch8 cc0_scratch9 cc0_scratch10 r0 r1 kk x)
        fun _ => Grp d L tab ids qT qS O W q (kk.val + 1) := by
  have hk : kk.val < 32 := lt_of_lt_of_eq kk.isLt t2_trips
  have e0 : 4 * kk.val + 3 + 1 = 4 * (kk.val + 1) := by omega
  have e1 : 4 * kk.val + 1 + 3 = 4 * (kk.val + 1) := by omega
  have e2 : 4 * kk.val + 2 + 3 = 4 * (kk.val + 1) + 1 := by omega
  have e3 : 4 * kk.val + 3 + 3 = 4 * (kk.val + 1) + 2 := by omega
  have a2 : k0_off2 kk = ![4 * kk.val + 3, 0] := k0_off2_eq kk
  have a3 : k0_off3 kk = ![4 * kk.val + 3, 128] := k0_off3_eq kk
  have b2 : k0_off27 kk = ![4 * (kk.val + 1), 0] := (k0_off27_eq kk).trans (by congr 1)
  have b3 : k0_off28 kk = ![4 * (kk.val + 1), 128] := (k0_off28_eq kk).trans (by congr 1)
  have c2 : k0_off33 kk = ![4 * (kk.val + 1) + 1, 0] := (k0_off33_eq kk).trans (by congr 1)
  have c3 : k0_off34 kk = ![4 * (kk.val + 1) + 1, 128] := (k0_off34_eq kk).trans (by congr 1)
  have d2 : k0_off39 kk = ![4 * (kk.val + 1) + 2, 0] := (k0_off39_eq kk).trans (by congr 1)
  have d3 : k0_off40 kk = ![4 * (kk.val + 1) + 2, 128] := (k0_off40_eq kk).trans (by congr 1)
  rw [t2_eq]
  unfold Grp
  iintro ⟨#Hmw, H0, H1, H2, H3, Hs, Hout, HO⟩
  iapply (wp_seg d L tab ids qT qS hids q kk 0 3 (4 * kk.val) (4 * kk.val + 1) (4 * kk.val + 3) rfl (by omega) rfl rfl (k0_cond1 kk) (cond1 kk) _ _ (a2) (a3) (k0_off2_inb kk) (k0_off3_inb kk)
    (O := O) (W := W)) $$ [H0 H3 Hs Hout HO]
  · isplitr; · iexact Hmw
    isplitl [H0]; · iexact H0
    isplitl [H3]; · iexact H3
    isplitl [Hs]; · iexact Hs
    isplitl [Hout] <;> iassumption
  iintro ⟨H0, H3, Hs, Hout, HO⟩
  iapply (wp_seg d L tab ids qT qS hids q kk 1 0 (4 * kk.val + 1) (4 * kk.val + 2) (4 * (kk.val + 1)) rfl (by omega) rfl e1 (k0_cond2 kk) (cond2 kk) _ _ (b2) (b3) (k0_off27_inb kk) (k0_off28_inb kk)
    (O := O) (W := W)) $$ [H1 H0 Hs Hout HO]
  · isplitr; · iexact Hmw
    isplitl [H1]; · iexact H1
    isplitl [H0]; · iexact H0
    isplitl [Hs]; · iexact Hs
    isplitl [Hout] <;> iassumption
  iintro ⟨H1, H0, Hs, Hout, HO⟩
  iapply (wp_seg d L tab ids qT qS hids q kk 2 1 (4 * kk.val + 2) (4 * kk.val + 3) (4 * (kk.val + 1) + 1) rfl (by omega) rfl e2 (k0_cond3 kk) (cond3 kk) _ _ (c2) (c3) (k0_off33_inb kk) (k0_off34_inb kk)
    (O := O) (W := W)) $$ [H2 H1 Hs Hout HO]
  · isplitr; · iexact Hmw
    isplitl [H2]; · iexact H2
    isplitl [H1]; · iexact H1
    isplitl [Hs]; · iexact Hs
    isplitl [Hout] <;> iassumption
  iintro ⟨H2, H1, Hs, Hout, HO⟩
  iapply (wp_seg d L tab ids qT qS hids q kk 3 2 (4 * kk.val + 3) (4 * (kk.val + 1)) (4 * (kk.val + 1) + 2) rfl (by omega) e0 e3 (k0_cond4 kk) (cond4 kk) _ _ (d2) (d3) (k0_off39_inb kk) (k0_off40_inb kk)
    (O := O) (W := W)) $$ [H3 H2 Hs Hout HO]
  · isplitr; · iexact Hmw
    isplitl [H3]; · iexact H3
    isplitl [H2]; · iexact H2
    isplitl [Hs]; · iexact Hs
    isplitl [Hout] <;> iassumption
  iintro ⟨H3, H2, Hs, Hout, HO⟩
  iapply (le_wp_ret _ _ _ _ _)
  isplitr; · iexact Hmw
  isplitl [H0]; · iexact H0
  isplitl [H1]; · iexact H1
  isplitl [H2]; · iexact H2
  isplitl [H3]; · iexact H3
  isplitl [Hs]; · iexact Hs
  isplitl [Hout]; · iexact Hout
  iexact HO

end Tile

end Cert.Proof.PoolIdeal
-- ==== Proof.IdealTile.lean ====
/-
  A chunk of 128 rows: its ids copied in, the first three rows' gathers issued, the group loop, the pooled rows copied out.
-/
module

public import proofs.«01_k».proof.Proof.IdealGroup
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.PoolIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S16384x200 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x64 EltTy.f32)
local notation "sV" => (Memref.whole Cert.KernelIdeal.cc0_scratch0 : Memref Cert.KernelIdeal.sig Kind.scVector Space.vmem Cert.KernelIdeal.S128x200 EltTy.i32)
local notation "rV" => (Memref.whole Cert.KernelIdeal.cc0_scratch1 : Memref Cert.KernelIdeal.sig Kind.scVector Space.vmem Cert.KernelIdeal.S4x200x128 EltTy.f32)
local notation "uV" => (Memref.whole Cert.KernelIdeal.cc0_scratch2 : Memref Cert.KernelIdeal.sig Kind.scVector Space.vmem Cert.KernelIdeal.S128x64 EltTy.f32)

variable [FloatOps F] [Named F]

/-! ## The chunk's program -/

/-- A chunk's ids copied in, and the copy's wait. -/
def cpIn (L : grid0.Coords) (t : Fin k0_t1_loop.trips) : TProg F L PUnit := do
  Prog.lift (.enqueueDma ((iV).slice (Rect.unit (s := S16384x200) (k0_off1 L t) S128x200.size (k0_off1_inb L t)) (fun _ => rfl)) (.here sV) (.dma cc0_scoped0.sem)
    (View.wordExact_bits rfl) (Memref.isWhole_whole _).wordExact ⟨Or.inl rfl, trivial⟩)
  Prog.lift (.waitDma2 cc0_scoped0.sem ((iV).slice (Rect.unit (s := S16384x200) (k0_off1 L t) S128x200.size (k0_off1_inb L t)) (fun _ => rfl)) sV
    (View.wordExact_bits rfl) (Memref.isWhole_whole _).wordExact)
/-- A chunk's pooled rows copied out, and the copy's wait. -/
def cpOut (L : grid0.Coords) (t : Fin k0_t1_loop.trips) : TProg F L PUnit := do
  Prog.lift (.enqueueDma uV (.here ((oV).slice (Rect.unit (s := S16384x64) (k0_off45 L t) S128x64.size (k0_off45_inb L t)) (fun _ => rfl))) (.dma cc0_scoped1.sem)
    (Memref.isWhole_whole _).wordExact (View.wordExact_bits rfl) ⟨Or.inl rfl, trivial⟩)
  Prog.lift (.waitDma2 cc0_scoped1.sem uV ((oV).slice (Rect.unit (s := S16384x64) (k0_off45 L t) S128x64.size (k0_off45_inb L t)) (fun _ => rfl))
    (Memref.isWhole_whole _).wordExact (View.wordExact_bits rfl))

set_option maxHeartbeats 1000000 in
/-- The printed chunk. -/
theorem t1_body_eq (L : grid0.Coords) (v2 : BitVec 32) (t : Fin k0_t1_loop.trips) (x : BitVec 32) :
    k0_t1_body (F := F) L iV (Memref.isWhole_whole _) tV (Memref.isWhole_whole _) oV (Memref.isWhole_whole _) sV (Memref.isWhole_whole _) rV (Memref.isWhole_whole _)
        uV (Memref.isWhole_whole _) cc0_scratch3 cc0_scratch4 cc0_scratch5 cc0_scratch6 cc0_scratch7 cc0_scratch8 cc0_scratch9 cc0_scratch10 cc0_scoped0 cc0_scoped1 v2 t x
      = (do
        cpIn L t
        issueHi L 0 ![0, 0] inb_S128x200_S1x128_0_0 (semHi 0)
        issueLo L 0 ![0, 128] inb_S128x200_S1x72_0_128 (semLo 0)
        issueHi L 1 ![1, 0] inb_S128x200_S1x128_1_0 (semHi 1)
        issueLo L 1 ![1, 128] inb_S128x200_S1x72_1_128 (semLo 1)
        issueHi L 2 ![2, 0] inb_S128x200_S1x128_2_0 (semHi 2)
        issueLo L 2 ![2, 128] inb_S128x200_S1x72_2_128 (semLo 2)
        let _ ← Scf.Loop.for k0_t2_loop k0_t2_ok 0#32 (k0_t2_body (F := F) L iV (Memref.isWhole_whole _) tV (Memref.isWhole_whole _) oV (Memref.isWhole_whole _)
          sV (Memref.isWhole_whole _) rV (Memref.isWhole_whole _) uV (Memref.isWhole_whole _) cc0_scratch3 cc0_scratch4 cc0_scratch5 cc0_scratch6
          cc0_scratch7 cc0_scratch8 cc0_scratch9 cc0_scratch10 cc0_scoped0 cc0_scoped1)
        cpOut L t
        pure 0#32) := by
  unfold k0_t1_body
  simp only [k0_part18_eq_skeleton]
  unfold k0_part18_skel cpIn cpOut
  simp only [bind_assoc, pure_bind]
  iterate 11 (refine bindCongr rfl fun _ => ?_)
  rfl

/-! ## Values -/

/-- Row `r`, column `l` of the ids. -/
def gix (r l : ℕ) : S16384x200.Idx := fun | ⟨0, _⟩ => ⟨r % 16384, Nat.mod_lt _ (by decide)⟩ | ⟨1, _⟩ => ⟨l % 200, Nat.mod_lt _ (by decide)⟩
/-- The pooled rows. -/
def RES (tab : S1000000x128.Idx → Elt F .f32) (IDS : S16384x200.Idx → BitVec 32) : S16384x64.Idx → Elt F .f32 :=
  fun x => pool tab (fun l => IDS (gix (x 0).val l)) (x 1).val
/-- The first row of a subcore's chunk `t`. -/
def base (L : grid0.Coords) (t : ℕ) : ℕ := 1024 * (L 1).val + 512 * (L 0).val + 128 * t
/-- The chunk's ids. -/
def chk (IDS : S16384x200.Idx → BitVec 32) (L : grid0.Coords) (t : ℕ) : S128x200.Idx → BitVec 32 := fun x => IDS (gix (base L t + (x 0).val) (x 1).val)
/-- A subcore's rows of the result. -/
def oTile (L : grid0.Coords) : Finset S16384x64.Idx := Finset.univ.filter fun x => base L 0 ≤ (x 0).val ∧ (x 0).val < base L 4
/-- The subcore's chunks below `t` are pooled. -/
def DoneT (tab : S1000000x128.Idx → Elt F .f32) (IDS : S16384x200.Idx → BitVec 32) (L : grid0.Coords) (t : ℕ) (f : S16384x64.Idx → Elt F .f32) : Prop :=
  ∀ x : S16384x64.Idx, base L 0 ≤ (x 0).val → (x 0).val < base L t → f x = RES tab IDS x

/-- A subcore has four chunks. -/
theorem t1_trips : k0_t1_loop.trips = 4 := by decide +kernel
/-- A chunk's rows are rows of the result. -/
theorem base_lt (L : grid0.Coords) {t : ℕ} (ht : t < 4) : base L t + 128 ≤ 16384 := by
  have h0 : (L 0).val < 2 := (L 0).isLt
  have h1 : (L 1).val < 16 := (L 1).isLt
  unfold base; omega

/-- What the copy in leaves in the ids' scratch. -/
theorem in_written (IDS : S16384x200.Idx → BitVec 32) (L : grid0.Coords) (t : Fin k0_t1_loop.trips) (fs : S128x200.Idx → BitVec 32) :
    (sV).view.write (Elt F) fs (((iV).slice (Rect.unit (s := S16384x200) (k0_off1 L t) S128x200.size (k0_off1_inb L t)) (fun _ => rfl)).view.read (Elt F) IDS) Finset.univ
      = chk IDS L t.val := by
  have ht : t.val < 4 := lt_of_lt_of_eq t.isLt t1_trips
  have hb := base_lt L ht
  refine (View.write_whole_univ _ _ _).trans ?_
  funext x
  have hx0 : (x 0).val < 128 := (x 0).isLt
  have hx1 : (x 1).val < 200 := (x 1).isLt
  refine congrArg IDS ?_
  show (Rect.unit (s := S16384x200) (k0_off1 L t) S128x200.size (k0_off1_inb L t)).emb x = _
  have e := k0_off1_eq L t
  funext a
  match a with
  | ⟨0, _⟩ =>
    refine Fin.ext ?_
    have e0 : k0_off1 L t 0 = base L t.val := congrFun e 0
    show k0_off1 L t 0 + 1 * (x 0).val = (base L t.val + (x 0).val) % 16384
    omega
  | ⟨1, _⟩ =>
    refine Fin.ext ?_
    have e1 : k0_off1 L t 1 = 0 := congrFun e 1
    show k0_off1 L t 1 + 1 * (x 1).val = (x 1).val % 200
    omega

/-- Where the copy out writes. -/
theorem out_emb (L : grid0.Coords) (t : Fin k0_t1_loop.trips) (x : S128x64.Idx) (a : Fin 2) :
    (((oV).slice (Rect.unit (s := S16384x64) (k0_off45 L t) S128x64.size (k0_off45_inb L t)) (fun _ => rfl)).view.emb x a).val = ![base L t.val + (x 0).val, (x 1).val] a := by
  have e := k0_off45_eq L t
  match a with
  | ⟨0, _⟩ =>
    show k0_off45 L t 0 + 1 * (x 0).val = base L t.val + (x 0).val
    rw [e]
    show base L t.val + 1 * (x 0).val = _
    omega
  | ⟨1, _⟩ =>
    show k0_off45 L t 1 + 1 * (x 1).val = (x 1).val
    rw [e]
    show 0 + 1 * (x 1).val = _
    omega

/-- A chunk's rows are the subcore's. -/
theorem out_subset (L : grid0.Coords) (t : Fin k0_t1_loop.trips) :
    ((oV).slice (Rect.unit (s := S16384x64) (k0_off45 L t) S128x64.size (k0_off45_inb L t)) (fun _ => rfl)).view.set ⊆ oTile L := by
  have ht : t.val < 4 := lt_of_lt_of_eq t.isLt t1_trips
  intro y hy
  obtain ⟨x, -, rfl⟩ := Finset.mem_map.mp hy
  have hx0 : (x 0).val < 128 := (x 0).isLt
  have e := out_emb L t x 0
  refine Finset.mem_filter.mpr ⟨Finset.mem_univ _, ?_⟩
  rw [show (((oV).slice (Rect.unit (s := S16384x64) (k0_off45 L t) S128x64.size (k0_off45_inb L t)) (fun _ => rfl)).view.emb x 0).val = base L t.val + (x 0).val from e]
  unfold base; omega

/-- The copy out of a pooled chunk. -/
theorem out_done {tab : S1000000x128.Idx → Elt F .f32} {IDS : S16384x200.Idx → BitVec 32} (L : grid0.Coords) (t : Fin k0_t1_loop.trips)
    {f : S16384x64.Idx → Elt F .f32} {w : S128x64.Idx → Elt F .f32} (hf : DoneT tab IDS L t.val f) (hw : Done tab (chk IDS L t.val) 128 w) :
    DoneT tab IDS L (t.val + 1) (((oV).slice (Rect.unit (s := S16384x64) (k0_off45 L t) S128x64.size (k0_off45_inb L t)) (fun _ => rfl)).view.write (Elt F) f
      ((uV).view.read (Elt F) w) Finset.univ) := by
  have ht : t.val < 4 := lt_of_lt_of_eq t.isLt t1_trips
  have hb := base_lt L ht
  have hbt : base L (t.val + 1) = base L t.val + 128 := by unfold base; omega
  intro y h0 h1
  by_cases hy : y ∈ ((oV).slice (Rect.unit (s := S16384x64) (k0_off45 L t) S128x64.size (k0_off45_inb L t)) (fun _ => rfl)).view.set
  · obtain ⟨x, -, rfl⟩ := Finset.mem_map.mp hy
    have hx0 : (x 0).val < 128 := (x 0).isLt
    have e0 := out_emb L t x 0
    have e1 := out_emb L t x 1
    refine (View.write_emb_of_mem (Val := Elt F) (v := ((oV).slice (Rect.unit (s := S16384x64) (k0_off45 L t) S128x64.size (k0_off45_inb L t)) (fun _ => rfl)).view) f _ (M := Finset.univ) (Finset.mem_univ x)).trans ?_
    refine Eq.trans (b := w x) rfl ?_
    rw [hw x hx0]
    unfold RES
    rw [show (((oV).slice (Rect.unit (s := S16384x64) (k0_off45 L t) S128x64.size (k0_off45_inb L t)) (fun _ => rfl)).view.emb x 0).val = base L t.val + (x 0).val from e0,
      show (((oV).slice (Rect.unit (s := S16384x64) (k0_off45 L t) S128x64.size (k0_off45_inb L t)) (fun _ => rfl)).view.emb x 1).val = (x 1).val from e1]
    refine congrArg (fun row => pool tab row (x 1).val) (funext fun l => ?_)
    unfold rowOf chk
    refine congrArg IDS ?_
    funext a
    match a with
    | ⟨0, _⟩ => exact Fin.ext (show (base L t.val + (x 0).val % 128) % 16384 = (base L t.val + (x 0).val) % 16384 by rw [Nat.mod_eq_of_lt hx0])
    | ⟨1, _⟩ => exact Fin.ext (show l % 200 % 200 = l % 200 from Nat.mod_mod _ _)
  · refine (View.write_of_not_mem (Val := Elt F) (v := ((oV).slice (Rect.unit (s := S16384x64) (k0_off45 L t) S128x64.size (k0_off45_inb L t)) (fun _ => rfl)).view) f _ Finset.univ ?_).trans (hf y h0 ?_)
    · exact hy
    · by_contra hlt
      refine hy (Finset.mem_map.mpr ⟨(fun | ⟨0, _⟩ => ⟨(y 0).val - base L t.val, show _ < 128 by omega⟩ | ⟨1, _⟩ => y 1 : S128x64.Idx), Finset.mem_univ _, ?_⟩)
      funext a
      refine Fin.ext ((out_emb L t _ a).trans ?_)
      match a with
      | ⟨0, _⟩ => show base L t.val + ((y 0).val - base L t.val) = (y 0).val; omega
      | ⟨1, _⟩ => rfl

/-! ## The chunk -/

section Tile

variable (d : Dev nD) (L : grid0.Coords)

abbrev iL : Loc nD τ sig := (thr d L).loc main_arg0_scv
abbrev oL : Loc nD τ sig := (thr d L).loc main_v1_scv
/-- The cells of the two copies' semaphores. -/
abbrev cA : GSem nD τ sig := (thr d L, .dma cc0_scoped0.sem)
abbrev cB : GSem nD τ sig := (thr d L, .dma cc0_scoped1.sem)

variable (tab : S1000000x128.Idx → Elt F .f32) (IDS : S16384x200.Idx → BitVec 32) (qI : PosShare TreeShare) (qT : Fin 8 → PosShare TreeShare)

/-- A wait that nothing waits for may be added to what is owed. -/
theorem owes_insert {O : CellTallies nD τ sig (HIx 1)} {W W' : Waits sig (HIx 1)} (s : SemLoc sig) (h : ∀ p ∈ W', p ∈ W ∨ p.2 = none) :
    (owes (thr d L) O (insert (s, (default : HIx 1)) W') : sProp 𝕄) ⊢ iprop(∃ W', ⌜∀ p ∈ W', p ∈ W ∨ p.2 = none⌝ ∗ owes (thr d L) O W') := by
  iintro HO
  iexists _; isplitr
  swap; · iexact HO
  ipureintro; intro p hp
  rcases Finset.mem_insert.mp hp with hp | hp; · exact .inr (hp ▸ rfl)
  exact h p hp

set_option maxHeartbeats 1000000 in
/-- The copy in: the ids' scratch holds the chunk's ids. -/
theorem wp_cpIn {O : CellTallies nD τ sig (HIx 1)} {W : Waits sig (HIx 1)} {α : Type} {Q : α → sProp 𝕄} (t : Fin k0_t1_loop.trips) {k : PUnit → TProg F L α} :
    iprop(Transfers.MayWaits (thr d L) (default : HIx 1) O ∗ (iL d L ↦{qI} IDS) ∗ (∃ f, sL d L ↦{fullShare} f) ∗ semVal (cA d L) 0 ∗ Owes d L O W)
      ⊢ iprop((iprop((iL d L ↦{qI} IDS) ∗ (sL d L ↦{fullShare} chk IDS L t.val) ∗ semVal (cA d L) 0 ∗ Owes d L O W)
            -∗ wp frame (wpE (defs₀ (F := F)) 𝒱₀ (thr d L) none) Set.univ (k ⟨⟩) Q)
        -∗ wp frame (wpE (defs₀ (F := F)) 𝒱₀ (thr d L) none) Set.univ (cpIn L t >>= k) Q) := by
  unfold cpIn Owes
  simp only [bind_assoc]
  iintro ⟨#Hmw, Hi, ⟨%fs, Hs⟩, Hsem, ⟨%W', %hW', HO⟩⟩ Hk
  ihave Hi2 := (pointsTo_split_subset (q := qI) (f := (IDS : Buf (Elt F) (iL d L))) (S := Finset.univ)
    (Finset.subset_univ ((iV).slice (Rect.unit (s := S16384x200) (k0_off1 L t) S128x200.size (k0_off1_inb L t)) (fun _ => rfl)).view.set)).1 $$ Hi
  icases Hi2 with ⟨Hi, Hir⟩
  iapply (Transfers.wp_dmaLocal countersEmb 𝒱₀ (thr d L) none
    (src := (iV).slice (Rect.unit (s := S16384x200) (k0_off1 L t) S128x200.size (k0_off1_inb L t)) (fun _ => rfl)) (dst := sV) (sm := .dma cc0_scoped0.sem)
    (q := qI) (fs := IDS) (Sd := Finset.univ) (fd := fs) (default : HIx 1) (sV).view.dmaCredit rfl (by decide) (Finset.subset_univ _)) $$ [Hi Hs Hsem]
  · isplitl [Hi]; · iexact Hi
    isplitl [Hs]; · iexact Hs
    iexact Hsem
  iintro Hfl
  iapply (Transfers.wp_waitLocalO countersEmb 𝒱₀ (thr d L) none (default : HIx 1) (rfl : (sV).view.dmaCredit = _)) $$ [Hfl HO]
  · isplitl [Hfl]; · iexact Hfl
    isplitl [HO]; · iexact HO
    iapply (Transfers.MayWaits.elim (SemLoc.dma cc0_scoped0.sem)) $$ Hmw
  iintro ⟨⟨Hs, Hi⟩, Hsem, HO⟩
  ihave Hi := (sdiff_back (F := F) (ℓ := iL d L) qI IDS _) $$ [Hi Hir]; · isplitl [Hi] <;> iassumption
  iapply Hk
  isplitl [Hi]; · iexact Hi
  isplitl [Hs]
  · iapply (Entails.of_eq (congrArg (fun f : Buf (Elt F) (sL d L) => (sL d L ↦{fullShare} f : sProp 𝕄)) (in_written (F := F) IDS L t fs))) $$ Hs
  isplitl [Hsem]; · iexact Hsem
  iapply (owes_insert d L _ hW') $$ HO

set_option maxHeartbeats 1000000 in
/-- The copy out: the chunk's rows of the result are pooled. -/
theorem wp_cpOut {O : CellTallies nD τ sig (HIx 1)} {W : Waits sig (HIx 1)} {α : Type} {Q : α → sProp 𝕄} (t : Fin k0_t1_loop.trips) {k : PUnit → TProg F L α} :
    iprop(Transfers.MayWaits (thr d L) (default : HIx 1) O ∗ Out d L tab (chk IDS L t.val) 128 ∗ (∃ f, ⌜DoneT tab IDS L t.val f⌝ ∗ oL d L ↦[oTile L]{fullShare} f)
        ∗ semVal (cB d L) 0 ∗ Owes d L O W)
      ⊢ iprop((iprop((∃ f, uL d L ↦{fullShare} f) ∗ (∃ f, ⌜DoneT tab IDS L (t.val + 1) f⌝ ∗ oL d L ↦[oTile L]{fullShare} f) ∗ semVal (cB d L) 0 ∗ Owes d L O W)
            -∗ wp frame (wpE (defs₀ (F := F)) 𝒱₀ (thr d L) none) Set.univ (k ⟨⟩) Q)
        -∗ wp frame (wpE (defs₀ (F := F)) 𝒱₀ (thr d L) none) Set.univ (cpOut L t >>= k) Q) := by
  unfold cpOut Owes Out
  simp only [bind_assoc]
  iintro ⟨#Hmw, ⟨%w, %hw, Hu⟩, ⟨%f, %hf, Ho⟩, Hsem, ⟨%W', %hW', HO⟩⟩ Hk
  have hus : (uV).view.set = Finset.univ := View.set_whole _
  ihave Hu' := (Entails.of_eq (show (uL d L ↦{fullShare} w : sProp 𝕄) = (uV).view.loc (thr d L) ↦[(uV).view.set]{fullShare} w by rw [hus])) $$ Hu
  iapply (Transfers.wp_dmaLocal countersEmb 𝒱₀ (thr d L) none
    (src := uV) (dst := (oV).slice (Rect.unit (s := S16384x64) (k0_off45 L t) S128x64.size (k0_off45_inb L t)) (fun _ => rfl)) (sm := .dma cc0_scoped1.sem)
    (q := fullShare) (fs := w) (Sd := oTile L) (fd := f) (default : HIx 1)
    ((oV).slice (Rect.unit (s := S16384x64) (k0_off45 L t) S128x64.size (k0_off45_inb L t)) (fun _ => rfl)).view.dmaCredit rfl
    (View.amount_pos _ (.dma cc0_scoped1.sem) (show 0 < S128x64.numel by decide)) (out_subset L t)) $$ [Hu' Ho Hsem]
  · isplitl [Hu']; · iexact Hu'
    isplitl [Ho]; · iexact Ho
    iexact Hsem
  iintro Hfl
  iapply (Transfers.wp_waitLocalO countersEmb 𝒱₀ (thr d L) none (default : HIx 1)
    (rfl : ((oV).slice (Rect.unit (s := S16384x64) (k0_off45 L t) S128x64.size (k0_off45_inb L t)) (fun _ => rfl)).view.dmaCredit = _)) $$ [Hfl HO]
  · isplitl [Hfl]; · iexact Hfl
    isplitl [HO]; · iexact HO
    iapply (Transfers.MayWaits.elim (SemLoc.dma cc0_scoped1.sem)) $$ Hmw
  iintro ⟨⟨Ho, Hu⟩, Hsem, HO⟩
  iapply Hk
  isplitl [Hu]
  · iexists w
    iapply (Entails.of_eq (show ((uV).view.loc (thr d L) ↦[(uV).view.set]{fullShare} w : sProp 𝕄) = uL d L ↦{fullShare} w by rw [hus])) $$ Hu
  isplitl [Ho]
  · iexists _; isplitr
    swap; · iexact Ho
    ipureintro
    exact out_done L t hf hw
  isplitl [Hsem]; · iexact Hsem
  iapply (owes_insert d L _ hW') $$ HO

/-- A buffer's first part, with the gather's share of the table and its semaphore. -/
def Hi0 (b : Fin 4) : sProp 𝕄 := iprop((∃ f, rL d L ↦[hiSet b]{fullShare} f) ∗ (tL d L ↦{qT (kHi b)} tab) ∗ semVal (gHi d L b) 0)
/-- Its second part. -/
def Lo0 (b : Fin 4) : sProp 𝕄 := iprop((∃ f, rL d L ↦[loSet b]{fullShare} f) ∗ (tL d L ↦{qT (kLo b)} tab) ∗ semVal (gLo d L b) 0)

/-- The shares of a chunk's ids: the eight gathers', and the loads'. -/
def qS : Fin 8 → PosShare TreeShare := ShareLeaves.leaf 3 fullShare.left
abbrev q0 : PosShare TreeShare := fullShare.right

/-- Eight resources one by one. -/
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A share of an array as eight shares. -/
theorem leaves8 {ℓ : Loc nD τ sig} (f : Buf (Elt F) ℓ) (q : PosShare TreeShare) :
    (ℓ ↦{q} f : sProp 𝕄) = iprop((ℓ ↦{ShareLeaves.leaf 3 q 0} f) ∗ (ℓ ↦{ShareLeaves.leaf 3 q 1} f) ∗ (ℓ ↦{ShareLeaves.leaf 3 q 2} f) ∗ (ℓ ↦{ShareLeaves.leaf 3 q 3} f)
      ∗ (ℓ ↦{ShareLeaves.leaf 3 q 4} f) ∗ (ℓ ↦{ShareLeaves.leaf 3 q 5} f) ∗ (ℓ ↦{ShareLeaves.leaf 3 q 6} f) ∗ ℓ ↦{ShareLeaves.leaf 3 q 7} f) := by
  have h : (ℓ ↦{q} f : sProp 𝕄) = bigSep Finset.univ fun i : Fin 8 => ℓ ↦{ShareLeaves.leaf 3 q i} f := ShareLeaves.pointsTo_leaves Finset.univ f 3 q
  rw [h, bigSep8]

/-- The ids of a chunk as nine shares. -/
theorem ids_shares (ids : S128x200.Idx → BitVec 32) :
    (sL d L ↦{fullShare} ids : sProp 𝕄) = iprop(((sL d L ↦{qS 0} ids) ∗ (sL d L ↦{qS 1} ids) ∗ (sL d L ↦{qS 2} ids) ∗ (sL d L ↦{qS 3} ids) ∗ (sL d L ↦{qS 4} ids)
      ∗ (sL d L ↦{qS 5} ids) ∗ (sL d L ↦{qS 6} ids) ∗ (sL d L ↦{qS 7} ids)) ∗ sL d L ↦{q0} ids) := by
  rw [BI.Entails.antisymm (pointsTo_share (PosShare.mem_left_op_right fullShare)).1 (pointsTo_share (PosShare.mem_left_op_right fullShare)).2]
  rw [leaves8 (F := F) (ℓ := sL d L) ids fullShare.left]
  rfl

/-- The buffers at a chunk's start and end. -/
def Bufs : sProp 𝕄 :=
  iprop(Hi0 d L tab qT 0 ∗ Lo0 d L tab qT 0 ∗ Hi0 d L tab qT 1 ∗ Lo0 d L tab qT 1 ∗ Hi0 d L tab qT 2 ∗ Lo0 d L tab qT 2 ∗ Hi0 d L tab qT 3 ∗ Lo0 d L tab qT 3)

/-- The pieces, shares and semaphores as the buffers' free states. -/
theorem free_in (ids : S128x200.Idx → BitVec 32) :
    iprop(Bufs d L tab qT ∗ sL d L ↦{fullShare} ids)
      ⊢ iprop((HiR d L tab ids qT qS 0 ∗ LoR d L tab ids qT qS 0) ∗ (HiR d L tab ids qT qS 1 ∗ LoR d L tab ids qT qS 1) ∗ (HiR d L tab ids qT qS 2 ∗ LoR d L tab ids qT qS 2)
        ∗ (HiR d L tab ids qT qS 3 ∗ LoR d L tab ids qT qS 3) ∗ sL d L ↦{q0} ids) := by
  rw [ids_shares]
  unfold Bufs Hi0 Lo0 HiR LoR
  iintro ⟨⟨⟨A0, B0, C0⟩, ⟨A1, B1, C1⟩, ⟨A2, B2, C2⟩, ⟨A3, B3, C3⟩, ⟨A4, B4, C4⟩, ⟨A5, B5, C5⟩, ⟨A6, B6, C6⟩, ⟨A7, B7, C7⟩⟩, ⟨S0, S1, S2, S3, S4, S5, S6, S7⟩, Sq⟩
  isplitl [A0 B0 C0 S0 A1 B1 C1 S1]
  · isplitl [A0 B0 C0 S0]
    · isplitl [A0]; · iexact A0
      isplitl [B0]; · iexact B0
      isplitl [S0]; · iexact S0
      iexact C0
    · isplitl [A1]; · iexact A1
      isplitl [B1]; · iexact B1
      isplitl [S1]; · iexact S1
      iexact C1
  isplitl [A2 B2 C2 S2 A3 B3 C3 S3]
  · isplitl [A2 B2 C2 S2]
    · isplitl [A2]; · iexact A2
      isplitl [B2]; · iexact B2
      isplitl [S2]; · iexact S2
      iexact C2
    · isplitl [A3]; · iexact A3
      isplitl [B3]; · iexact B3
      isplitl [S3]; · iexact S3
      iexact C3
  isplitl [A4 B4 C4 S4 A5 B5 C5 S5]
  · isplitl [A4 B4 C4 S4]
    · isplitl [A4]; · iexact A4
      isplitl [B4]; · iexact B4
      isplitl [S4]; · iexact S4
      iexact C4
    · isplitl [A5]; · iexact A5
      isplitl [B5]; · iexact B5
      isplitl [S5]; · iexact S5
      iexact C5
  isplitl [A6 B6 C6 S6 A7 B7 C7 S7]
  · isplitl [A6 B6 C6 S6]
    · isplitl [A6]; · iexact A6
      isplitl [B6]; · iexact B6
      isplitl [S6]; · iexact S6
      iexact C6
    · isplitl [A7]; · iexact A7
      isplitl [B7]; · iexact B7
      isplitl [S7]; · iexact S7
      iexact C7
  iexact Sq

/-- The free states give them back. -/
theorem free_out (ids : S128x200.Idx → BitVec 32) :
    iprop((HiR d L tab ids qT qS 0 ∗ LoR d L tab ids qT qS 0) ∗ (HiR d L tab ids qT qS 1 ∗ LoR d L tab ids qT qS 1) ∗ (HiR d L tab ids qT qS 2 ∗ LoR d L tab ids qT qS 2)
        ∗ (HiR d L tab ids qT qS 3 ∗ LoR d L tab ids qT qS 3) ∗ sL d L ↦{q0} ids)
      ⊢ iprop(Bufs d L tab qT ∗ sL d L ↦{fullShare} ids) := by
  rw [ids_shares]
  unfold Bufs Hi0 Lo0 HiR LoR
  iintro ⟨⟨⟨A0, B0, S0, C0⟩, ⟨A1, B1, S1, C1⟩⟩, ⟨⟨A2, B2, S2, C2⟩, ⟨A3, B3, S3, C3⟩⟩, ⟨⟨A4, B4, S4, C4⟩, ⟨A5, B5, S5, C5⟩⟩, ⟨⟨A6, B6, S6, C6⟩, ⟨A7, B7, S7, C7⟩⟩, Sq⟩
  isplitr [S0 S1 S2 S3 S4 S5 S6 S7 Sq]
  · isplitl [A0 B0 C0]
    · isplitl [A0]; · iexact A0
      isplitl [B0] <;> iassumption
    isplitl [A1 B1 C1]
    · isplitl [A1]; · iexact A1
      isplitl [B1] <;> iassumption
    isplitl [A2 B2 C2]
    · isplitl [A2]; · iexact A2
      isplitl [B2] <;> iassumption
    isplitl [A3 B3 C3]
    · isplitl [A3]; · iexact A3
      isplitl [B3] <;> iassumption
    isplitl [A4 B4 C4]
    · isplitl [A4]; · iexact A4
      isplitl [B4] <;> iassumption
    isplitl [A5 B5 C5]
    · isplitl [A5]; · iexact A5
      isplitl [B5] <;> iassumption
    isplitl [A6 B6 C6]
    · isplitl [A6]; · iexact A6
      isplitl [B6] <;> iassumption
    isplitl [A7]; · iexact A7
    isplitl [B7] <;> iassumption
  isplitr [Sq]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iexact Sq

/-- Before chunk `t`: the chunks below it pooled, everything else at rest. -/
def Ck (O : CellTallies nD τ sig (HIx 1)) (W : Waits sig (HIx 1)) (t : ℕ) : sProp 𝕄 :=
  iprop(Transfers.MayWaits (thr d L) (default : HIx 1) O ∗ (iL d L ↦{qI} IDS) ∗ (∃ f, sL d L ↦{fullShare} f) ∗ (∃ f, uL d L ↦{fullShare} f) ∗ Bufs d L tab qT
    ∗ (∃ f, ⌜DoneT tab IDS L t f⌝ ∗ oL d L ↦[oTile L]{fullShare} f) ∗ semVal (cA d L) 0 ∗ semVal (cB d L) 0 ∗ Owes d L O W)

set_option maxHeartbeats 2000000 in
/-- One chunk. -/
theorem wp_chunk (hids : ∀ x, (IDS x).toNat < 1000000) (O : CellTallies nD τ sig (HIx 1)) (W : Waits sig (HIx 1)) (v2 : BitVec 32) (t : Fin k0_t1_loop.trips) (x : BitVec 32) :
    Ck d L tab IDS qI qT O W t.val
      ⊢ wp frame (wpE (defs₀ (F := F)) 𝒱₀ (thr d L) none) Set.univ
        (k0_t1_body (F := F) L iV (Memref.isWhole_whole _) tV (Memref.isWhole_whole _) oV (Memref.isWhole_whole _) sV (Memref.isWhole_whole _) rV (Memref.isWhole_whole _)
          uV (Memref.isWhole_whole _) cc0_scratch3 cc0_scratch4 cc0_scratch5 cc0_scratch6 cc0_scratch7 cc0_scratch8 cc0_scratch9 cc0_scratch10 cc0_scoped0 cc0_scoped1 v2 t x)
        fun _ => Ck d L tab IDS qI qT O W (t.val + 1) := by
  have hids' : ∀ y, (chk IDS L t.val y).toNat < 1000000 := fun y => hids _
  rw [t1_body_eq]
  unfold Ck
  iintro ⟨#Hmw, Hi, Hs, ⟨%fu, Hu⟩, HB, Ho, HA, HBc, HO⟩
  iapply (wp_cpIn d L IDS qI t (O := O) (W := W)) $$ [Hi Hs HA HO]
  · isplitr; · iexact Hmw
    isplitl [Hi]; · iexact Hi
    isplitl [Hs]; · iexact Hs
    isplitl [HA]; · iexact HA
    iexact HO
  iintro ⟨Hi, Hs, HA, HO⟩
  ihave HF := (free_in d L tab qT (chk IDS L t.val)) $$ [HB Hs]; · isplitl [HB] <;> iassumption
  icases HF with ⟨⟨H0, L0⟩, ⟨H1, L1⟩, ⟨H2, L2⟩, H3, Hs⟩
  iapply (wp_issueHi d L tab (chk IDS L t.val) qT qS hids' 0 0 (by omega) ![0, 0] rfl inb_S128x200_S1x128_0_0) $$ H0; iintro H0
  iapply (wp_issueLo d L tab (chk IDS L t.val) qT qS hids' 0 0 (by omega) ![0, 128] rfl inb_S128x200_S1x72_0_128) $$ L0; iintro L0
  iapply (wp_issueHi d L tab (chk IDS L t.val) qT qS hids' 1 1 (by omega) ![1, 0] rfl inb_S128x200_S1x128_1_0) $$ H1; iintro H1
  iapply (wp_issueLo d L tab (chk IDS L t.val) qT qS hids' 1 1 (by omega) ![1, 128] rfl inb_S128x200_S1x72_1_128) $$ L1; iintro L1
  iapply (wp_issueHi d L tab (chk IDS L t.val) qT qS hids' 2 2 (by omega) ![2, 0] rfl inb_S128x200_S1x128_2_0) $$ H2; iintro H2
  iapply (wp_issueLo d L tab (chk IDS L t.val) qT qS hids' 2 2 (by omega) ![2, 128] rfl inb_S128x200_S1x72_2_128) $$ L2; iintro L2
  iapply (Scf.wp_for_bind frame (wpE (defs₀ (F := F)) 𝒱₀ (thr d L) none) Set.univ _ _ _ k0_t2_ok 0#32
    (k0_t2_body (F := F) L iV (Memref.isWhole_whole _) tV (Memref.isWhole_whole _) oV (Memref.isWhole_whole _)
          sV (Memref.isWhole_whole _) rV (Memref.isWhole_whole _) uV (Memref.isWhole_whole _) cc0_scratch3 cc0_scratch4 cc0_scratch5 cc0_scratch6
          cc0_scratch7 cc0_scratch8 cc0_scratch9 cc0_scratch10 cc0_scoped0 cc0_scoped1)
    (fun g _ => Grp d L tab (chk IDS L t.val) qT qS O W q0 g)
    (fun g acc => wp_group d L tab (chk IDS L t.val) qT qS hids' O W q0 cc0_scoped0 cc0_scoped1 g acc)) $$ [H0 L0 H1 L1 H2 L2 H3 Hs Hu HO]
  · unfold Grp
    isplitr; · iexact Hmw
    isplitl [H0 L0]
    · iapply (Entails.of_eq (show iprop(HiF d L tab (chk IDS L t.val) qT qS 0 0 ∗ LoF d L tab (chk IDS L t.val) qT qS 0 0)
        = Slot d L tab (chk IDS L t.val) qT qS 0 0 from (if_pos (by omega)).symm))
      isplitl [H0] <;> iassumption
    isplitl [H1 L1]
    · iapply (Entails.of_eq (show iprop(HiF d L tab (chk IDS L t.val) qT qS 1 1 ∗ LoF d L tab (chk IDS L t.val) qT qS 1 1)
        = Slot d L tab (chk IDS L t.val) qT qS 1 1 from (if_pos (by omega)).symm))
      isplitl [H1] <;> iassumption
    isplitl [H2 L2]
    · iapply (Entails.of_eq (show iprop(HiF d L tab (chk IDS L t.val) qT qS 2 2 ∗ LoF d L tab (chk IDS L t.val) qT qS 2 2)
        = Slot d L tab (chk IDS L t.val) qT qS 2 2 from (if_pos (by omega)).symm))
      isplitl [H2] <;> iassumption
    isplitl [H3]; · iexact H3
    isplitl [Hs]; · iexact Hs
    isplitl [Hu]
    · unfold Out
      iexists fu; isplitr
      · ipureintro; intro y hy; exact absurd hy (by omega)
      · iexact Hu
    iexact HO
  iintro %_ HG
  ihave HG := (Entails.of_eq (show Grp d L tab (chk IDS L t.val) qT qS O W q0 k0_t2_loop.trips = Grp d L tab (chk IDS L t.val) qT qS O W q0 32 by rw [t2_trips])) $$ HG
  unfold Grp
  icases HG with ⟨-, H0, H1, H2, H3, Hs, Hu, HO⟩
  ihave H0 := (Entails.of_eq (show Slot d L tab (chk IDS L t.val) qT qS 0 (4 * 32) = iprop(HiR d L tab (chk IDS L t.val) qT qS 0 ∗ LoR d L tab (chk IDS L t.val) qT qS 0)
    from if_neg (by omega))) $$ H0
  ihave H1 := (Entails.of_eq (show Slot d L tab (chk IDS L t.val) qT qS 1 (4 * 32 + 1) = iprop(HiR d L tab (chk IDS L t.val) qT qS 1 ∗ LoR d L tab (chk IDS L t.val) qT qS 1)
    from if_neg (by omega))) $$ H1
  ihave H2 := (Entails.of_eq (show Slot d L tab (chk IDS L t.val) qT qS 2 (4 * 32 + 2) = iprop(HiR d L tab (chk IDS L t.val) qT qS 2 ∗ LoR d L tab (chk IDS L t.val) qT qS 2)
    from if_neg (by omega))) $$ H2
  ihave HF := (free_out d L tab qT (chk IDS L t.val)) $$ [H0 H1 H2 H3 Hs]
  · isplitl [H0]; · iexact H0
    isplitl [H1]; · iexact H1
    isplitl [H2]; · iexact H2
    isplitl [H3] <;> iassumption
  icases HF with ⟨HB, Hs⟩
  iapply (wp_cpOut d L tab IDS t (O := O) (W := W)) $$ [Hu Ho HBc HO]
  · isplitr; · iexact Hmw
    isplitl [Hu]; · iexact Hu
    isplitl [Ho]; · iexact Ho
    isplitl [HBc] <;> iassumption
  iintro ⟨Hu, Ho, HBc, HO⟩
  iapply (le_wp_ret _ _ _ _ _)
  isplitr; · iexact Hmw
  isplitl [Hi]; · iexact Hi
  isplitl [Hs]; · iexists _; iexact Hs
  isplitl [Hu]; · iexact Hu
  isplitl [HB]; · iexact HB
  isplitl [Ho]; · iexact Ho
  isplitl [HA]; · iexact HA
  isplitl [HBc] <;> iassumption

end Tile

end Cert.Proof.PoolIdeal

end
-- ==== Proof.IdealBody.lean ====
/-
  A vector subcore's task: its four chunks, from the buffers and semaphores that are its own.
-/
module

public import proofs.«01_k».proof.Proof.IdealTile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.PoolIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S16384x200 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x64 EltTy.f32)
local notation "sV" => (Memref.whole Cert.KernelIdeal.cc0_scratch0 : Memref Cert.KernelIdeal.sig Kind.scVector Space.vmem Cert.KernelIdeal.S128x200 EltTy.i32)
local notation "rV" => (Memref.whole Cert.KernelIdeal.cc0_scratch1 : Memref Cert.KernelIdeal.sig Kind.scVector Space.vmem Cert.KernelIdeal.S4x200x128 EltTy.f32)
local notation "uV" => (Memref.whole Cert.KernelIdeal.cc0_scratch2 : Memref Cert.KernelIdeal.sig Kind.scVector Space.vmem Cert.KernelIdeal.S128x64 EltTy.f32)

variable [FloatOps F] [Named F]

/-! ## The gather buffers in eight parts -/

/-- The eight parts of the gather buffers, in the order of the shares. -/
def pcs (k : Fin 8) : Finset S4x200x128.Idx := if k.val % 2 = 0 then hiSet ⟨k.val / 2, by omega⟩ else loSet ⟨k.val / 2, by omega⟩

omit [FloatOps F] [Named F] in
/-- Piece `k` is the first 128, or the other 72, rows of buffer `k / 2`. -/
theorem mem_pcs (k : Fin 8) (x : S4x200x128.Idx) : x ∈ pcs k ↔ (x 0).val = k.val / 2 ∧ (k.val % 2 = 0 ↔ (x 1).val < 128) := by
  unfold pcs
  split
  · rename_i h
    rw [hiSet, Finset.mem_filter]; simp [h]
  · rename_i h
    rw [loSet, Finset.mem_filter]; simp [h]

omit [FloatOps F] [Named F] in
/-- Two pieces share no place. -/
theorem pcs_disjoint : ∀ i ∈ (Finset.univ : Finset (Fin 8)), ∀ j ∈ (Finset.univ : Finset (Fin 8)), i ≠ j → Disjoint (pcs i) (pcs j) := by
  intro i _ j _ h
  refine Finset.disjoint_left.mpr fun x hi hj => h (Fin.ext ?_)
  obtain ⟨a, b⟩ := (mem_pcs i x).mp hi
  obtain ⟨a', b'⟩ := (mem_pcs j x).mp hj
  by_cases hx : (x 1).val < 128
  · have := b.mpr hx; have := b'.mpr hx; omega
  · have : ¬ i.val % 2 = 0 := fun e => hx (b.mp e)
    have : ¬ j.val % 2 = 0 := fun e => hx (b'.mp e)
    omega

omit [FloatOps F] [Named F] in
/-- The eight pieces are the whole array of buffers. -/
theorem pcs_cover : (Finset.univ : Finset (Fin 8)).biUnion pcs = Finset.univ := by
  refine Finset.eq_univ_iff_forall.mpr fun x => Finset.mem_biUnion.mpr ?_
  have hx0 : (x 0).val < 4 := (x 0).isLt
  by_cases hx : (x 1).val < 128
  · refine ⟨⟨2 * (x 0).val, by omega⟩, Finset.mem_univ _, (mem_pcs _ _).mpr ⟨?_, ?_⟩⟩
    · show (x 0).val = 2 * (x 0).val / 2; omega
    · show 2 * (x 0).val % 2 = 0 ↔ _; omega
  · refine ⟨⟨2 * (x 0).val + 1, by omega⟩, Finset.mem_univ _, (mem_pcs _ _).mpr ⟨?_, ?_⟩⟩
    · show (x 0).val = (2 * (x 0).val + 1) / 2; omega
    · show (2 * (x 0).val + 1) % 2 = 0 ↔ _; omega

section Tile

variable (d : Dev nD) (L : grid0.Coords)
variable (tab : S1000000x128.Idx → Elt F .f32) (IDS : S16384x200.Idx → BitVec 32) (qI qt : PosShare TreeShare)

/-- The array of buffers is its eight pieces. -/
theorem rows_split (f : Buf (Elt F) (rL d L)) :
    (rL d L ↦{fullShare} f : sProp 𝕄) = bigSep Finset.univ fun k : Fin 8 => rL d L ↦[pcs k]{fullShare} f := by
  rw [← pointsTo_biUnion Finset.univ (ℓ := rL d L) pcs pcs_disjoint, pcs_cover]; try rfl

/-- Eight pieces, whatever they hold, are the array of buffers. -/
theorem rows_join : (bigSep Finset.univ fun k : Fin 8 => iprop(∃ f, rL d L ↦[pcs k]{fullShare} f)) ⊢ (iprop(∃ f, rL d L ↦{fullShare} f) : sProp 𝕄) := by
  refine (bigSep_exists_pi Finset.univ (fun k (f : Buf (Elt F) (rL d L)) => (rL d L ↦[pcs k]{fullShare} f : sProp 𝕄))).trans ?_
  iintro ⟨%fs, H⟩
  ihave H' := (pointsTo_biUnion_join (ℓ := rL d L) (q := fullShare) (Val := Elt F) Finset.univ pcs fs (fs 0) pcs_disjoint) $$ H
  icases H' with ⟨%g, -, Hg⟩
  rw [pcs_cover]
  iexists g; iexact Hg

/-- The eight pieces one by one. -/
theorem rows_eight : (bigSep Finset.univ fun k : Fin 8 => iprop(∃ f, rL d L ↦[pcs k]{fullShare} f))
    = (iprop((∃ f, rL d L ↦[hiSet 0]{fullShare} f) ∗ (∃ f, rL d L ↦[loSet 0]{fullShare} f) ∗ (∃ f, rL d L ↦[hiSet 1]{fullShare} f) ∗ (∃ f, rL d L ↦[loSet 1]{fullShare} f)
      ∗ (∃ f, rL d L ↦[hiSet 2]{fullShare} f) ∗ (∃ f, rL d L ↦[loSet 2]{fullShare} f) ∗ (∃ f, rL d L ↦[hiSet 3]{fullShare} f) ∗ (∃ f, rL d L ↦[loSet 3]{fullShare} f)) : sProp 𝕄) := by
  rw [bigSep8]; rfl

/-- The array of buffers gives its eight pieces. -/
theorem rows_in (f : Buf (Elt F) (rL d L)) : (rL d L ↦{fullShare} f : sProp 𝕄) ⊢ bigSep Finset.univ fun k : Fin 8 => iprop(∃ f, rL d L ↦[pcs k]{fullShare} f) := by
  rw [rows_split]
  exact bigSep_mono fun k _ => (show (rL d L ↦[pcs k]{fullShare} f : sProp 𝕄) ⊢ iprop(∃ f, rL d L ↦[pcs k]{fullShare} f) from by
    iintro H; iexists f; iexact H)

/-- A buffer's first and second parts come from the buffers, the table's share and the semaphores, -/
theorem bufs_in :
    iprop((∃ f, rL d L ↦{fullShare} f) ∗ (tL d L ↦{qt} tab) ∗ semVal (gHi d L 0) 0 ∗ semVal (gHi d L 1) 0 ∗ semVal (gHi d L 2) 0 ∗ semVal (gHi d L 3) 0
        ∗ semVal (gLo d L 0) 0 ∗ semVal (gLo d L 1) 0 ∗ semVal (gLo d L 2) 0 ∗ semVal (gLo d L 3) 0)
      ⊢ (Bufs d L tab (ShareLeaves.leaf 3 qt) : sProp 𝕄) := by
  rw [leaves8 (F := F) (ℓ := tL d L) tab qt]
  unfold Bufs Hi0 Lo0
  iintro ⟨⟨%f, Hr⟩, ⟨T0, T1, T2, T3, T4, T5, T6, T7⟩, C0, C2, C4, C6, C1, C3, C5, C7⟩
  ihave H := (rows_in d L f) $$ Hr
  ihave H := (Entails.of_eq (rows_eight d L)) $$ H
  icases H with ⟨A0, A1, A2, A3, A4, A5, A6, A7⟩
  isplitl [A0 T0 C0]
  · isplitl [A0]; · iexact A0
    isplitl [T0]; · iexact T0
    iexact C0
  isplitl [A1 T1 C1]
  · isplitl [A1]; · iexact A1
    isplitl [T1]; · iexact T1
    iexact C1
  isplitl [A2 T2 C2]
  · isplitl [A2]; · iexact A2
    isplitl [T2]; · iexact T2
    iexact C2
  isplitl [A3 T3 C3]
  · isplitl [A3]; · iexact A3
    isplitl [T3]; · iexact T3
    iexact C3
  isplitl [A4 T4 C4]
  · isplitl [A4]; · iexact A4
    isplitl [T4]; · iexact T4
    iexact C4
  isplitl [A5 T5 C5]
  · isplitl [A5]; · iexact A5
    isplitl [T5]; · iexact T5
    iexact C5
  isplitl [A6 T6 C6]
  · isplitl [A6]; · iexact A6
    isplitl [T6]; · iexact T6
    iexact C6
  isplitl [A7]; · iexact A7
  isplitl [T7]; · iexact T7
  iexact C7

/-- and give them back. -/
theorem bufs_out :
    (Bufs d L tab (ShareLeaves.leaf 3 qt) : sProp 𝕄)
      ⊢ iprop((∃ f, rL d L ↦{fullShare} f) ∗ (tL d L ↦{qt} tab) ∗ semVal (gHi d L 0) 0 ∗ semVal (gHi d L 1) 0 ∗ semVal (gHi d L 2) 0 ∗ semVal (gHi d L 3) 0
        ∗ semVal (gLo d L 0) 0 ∗ semVal (gLo d L 1) 0 ∗ semVal (gLo d L 2) 0 ∗ semVal (gLo d L 3) 0) := by
  rw [leaves8 (F := F) (ℓ := tL d L) tab qt]
  unfold Bufs Hi0 Lo0
  iintro ⟨⟨A0, T0, C0⟩, ⟨A1, T1, C1⟩, ⟨A2, T2, C2⟩, ⟨A3, T3, C3⟩, ⟨A4, T4, C4⟩, ⟨A5, T5, C5⟩, ⟨A6, T6, C6⟩, ⟨A7, T7, C7⟩⟩
  isplitl [A0 A1 A2 A3 A4 A5 A6 A7]
  · iapply (rows_join d L)
    iapply (Entails.of_eq (rows_eight d L).symm)
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [T0 T1 T2 T3 T4 T5 T6 T7]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [C0]; · iexact C0
  isplitl [C2]; · iexact C2
  isplitl [C4]; · iexact C4
  isplitl [C6]; · iexact C6
  isplitl [C1]; · iexact C1
  isplitl [C3]; · iexact C3
  isplitl [C5]; · iexact C5
  iexact C7

/-! ## The subcore's own semaphores and buffers -/

/-- The cell of a subcore's DMA semaphore. -/
def dmaCell : Fin 10 ↪ GSem nD τ sig := ⟨fun k => (thr d L, SemLoc.dma (k.castLE (by decide) : DmaSem sig)), fun a b h => by
  have h2 := congrArg Prod.snd h
  exact Fin.castLE_injective _ (SemLoc.dma.inj h2)⟩

/-- Ten resources one by one. -/
theorem bigSep10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The copies' semaphores are among the subcore's own. -/
theorem dmaCells_sub : Finset.univ.map (dmaCell d L) ⊆ ownCells (thr d L) := by
  intro g hg
  obtain ⟨k, -, rfl⟩ := Finset.mem_map.mp hg
  refine mem_ownCells.mpr ⟨rfl, ?_⟩
  exact (show ∀ k : Fin 10, (SemLoc.dma (k.castLE (by decide) : DmaSem sig) : SemLoc sig).isScoped .scVector = true by decide) k

/-- The ten DMA semaphores are among the subcore's own. -/
theorem ownSems0_V :
    (ownSems0 (thr d L) : sProp 𝕄)
      = iprop((semVal (gHi d L 0) 0 ∗ semVal (gHi d L 1) 0 ∗ semVal (gHi d L 2) 0 ∗ semVal (gHi d L 3) 0
          ∗ semVal (gLo d L 0) 0 ∗ semVal (gLo d L 1) 0 ∗ semVal (gLo d L 2) 0 ∗ semVal (gLo d L 3) 0 ∗ semVal (cA d L) 0 ∗ semVal (cB d L) 0)
          ∗ bigSep (ownCells (thr d L) \ Finset.univ.map (dmaCell d L)) fun g => semVal g 0) := by
  unfold SparseCore.Cfg.ownSems0
  rw [SparseCore.bigSep_sdiff_split' (dmaCells_sub d L), bigSep_map, bigSep10]
  rfl

/-- The three scratch buffers are among the subcore's own. -/
theorem ownBufs_V :
    (ownBufs (thr d L) : sProp 𝕄)
      = iprop((∃ f, sL d L ↦{fullShare} f) ∗ (∃ f, rL d L ↦{fullShare} f) ∗ (∃ f, uL d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The task -/

set_option maxHeartbeats 2000000 in
/-- The task on a vector subcore: from shares of the ids and of the table and the subcore's rows of the result, those rows pooled. -/
theorem tile_body (hF : (K (F := F)).Facts) (hids : ∀ x, (IDS x).toNat < 1000000) (f0 : Buf (Elt F) (oL d L))
    (O : CellTallies nD τ sig (HIx 1)) (W : Waits sig (HIx 1)) (hO : ∀ g, O g none = 0) :
    iprop((levAts (K (F := F)).L (K (F := F)).lev : sProp 𝕄) ∗ emp
        ∗ ((iL d L ↦{qI} IDS) ∗ (tL d L ↦{qt} tab) ∗ oL d L ↦[oTile L]{fullShare} f0)
        ∗ (scopedBufs (thr d L) : sProp 𝕄) ∗ (scopedSems0 (thr d L) : sProp 𝕄) ∗ owes (thr d L) O W)
      ⊢ wp frame (wpE (defs₀ (F := F)) 𝒱₀ (thr d L) none) Set.univ
          (cc0__sc_pool_body L iV (Memref.isWhole_whole _) tV (Memref.isWhole_whole _) oV (Memref.isWhole_whole _) sV (Memref.isWhole_whole _) rV (Memref.isWhole_whole _)
            uV (Memref.isWhole_whole _) cc0_scratch3 cc0_scratch4 cc0_scratch5 cc0_scratch6 cc0_scratch7 cc0_scratch8 cc0_scratch9 cc0_scratch10 cc0_scoped0 cc0_scoped1)
          fun _ => iprop(((iL d L ↦{qI} IDS) ∗ (tL d L ↦{qt} tab) ∗ oL d L ↦[oTile L]{fullShare} RES tab IDS)
            ∗ scopedBufs (thr d L) ∗ scopedSems0 (thr d L)
            ∗ ∃ W', ⌜∀ p ∈ W', p ∈ W ∨ p.2 = none⌝ ∗ owes (thr d L) O W') := by
  simp only [cc0__sc_pool_body_eq_skeleton]; unfold cc0__sc_pool_body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨Hs, Hr, Hu, Hbufs⟩, ⟨⟨C0, C2, C4, C6, C1, C3, C5, C7, CA, CB⟩, Hsems⟩, HO⟩
  ihave Hmw := (show (levAts (K (F := F)).L (K (F := F)).lev : sProp 𝕄) ⊢ (Transfers.MayWaits (thr d L) (default : HIx 1) O : sProp 𝕄) from
    (K (F := F)).mayWaits_none (thr := thr d L) hO) $$ Hlv
  ihave HB := (bufs_in d L tab qt) $$ [Hr Ht C0 C1 C2 C3 C4 C5 C6 C7]
  · isplitl [Hr]; · iexact Hr
    isplitl [Ht]; · iexact Ht
    isplitl [C0]; · iexact C0
    isplitl [C2]; · iexact C2
    isplitl [C4]; · iexact C4
    isplitl [C6]; · iexact C6
    isplitl [C1]; · iexact C1
    isplitl [C3]; · iexact C3
    isplitl [C5]; · iexact C5
    iexact C7
  iapply (Scf.wp_for_bind frame (wpE (defs₀ (F := F)) 𝒱₀ (thr d L) none) Set.univ _ _ _ k0_t1_ok 0#32
    (k0_t1_body (F := F) L iV (Memref.isWhole_whole _) tV (Memref.isWhole_whole _) oV (Memref.isWhole_whole _) sV (Memref.isWhole_whole _) rV (Memref.isWhole_whole _)
          uV (Memref.isWhole_whole _) cc0_scratch3 cc0_scratch4 cc0_scratch5 cc0_scratch6 cc0_scratch7 cc0_scratch8 cc0_scratch9 cc0_scratch10 cc0_scoped0 cc0_scoped1 _)
    (fun t _ => Ck d L tab IDS qI (ShareLeaves.leaf 3 qt) O W t)
    (fun t acc => wp_chunk d L tab IDS qI (ShareLeaves.leaf 3 qt) hids O W _ t acc)) $$ [Hmw Hi Hs Hu HB Ho CA CB HO]
  · unfold Ck Owes
    isplitl [Hmw]; · iexact Hmw
    isplitl [Hi]; · iexact Hi
    isplitl [Hs]; · iexact Hs
    isplitl [Hu]; · iexact Hu
    isplitl [HB]; · iexact HB
    isplitl [Ho]
    · iexists f0; isplitr
      · ipureintro; intro x h0 h1; exact absurd h1 (Nat.not_lt.2 h0)
      · iexact Ho
    isplitl [CA]; · iexact CA
    isplitl [CB]; · iexact CB
    iexists W; isplitr
    · ipureintro; exact fun p hp => .inl hp
    · iexact HO
  iintro %_ HG
  ihave HG := (Entails.of_eq (show Ck d L tab IDS qI (ShareLeaves.leaf 3 qt) O W k0_t1_loop.trips = Ck d L tab IDS qI (ShareLeaves.leaf 3 qt) O W 4 by rw [t1_trips])) $$ HG
  unfold Ck Owes
  icases HG with ⟨-, Hi, Hs, Hu, HB, ⟨%f, %hf, Ho⟩, CA, CB, HO⟩
  ihave HB := (bufs_out d L tab qt) $$ HB
  icases HB with ⟨Hr, Ht, C0, C2, C4, C6, C1, C3, C5, C7⟩
  iapply (le_wp_ret _ _ _ _ _)
  isplitl [Hi Ht Ho]
  · isplitl [Hi]; · iexact Hi
    isplitl [Ht]; · iexact Ht
    iapply (Entails.of_eq (pointsTo_congr (ℓ := oL d L) (q := fullShare) (I := oTile L) (f := f) (g := RES tab IDS)
      (fun x hx => hf x (Finset.mem_filter.mp hx).2.1 (Finset.mem_filter.mp hx).2.2))) $$ Ho
  isplitl [Hs Hr Hu Hbufs]
  · isplitl [Hs]; · iexact Hs
    isplitl [Hr]; · iexact Hr
    isplitl [Hu]; · iexact Hu
    iexact Hbufs
  isplitr [HO]
  · isplitr [Hsems]
    · isplitl [C0]; · iexact C0
      isplitl [C2]; · iexact C2
      isplitl [C4]; · iexact C4
      isplitl [C6]; · iexact C6
      isplitl [C1]; · iexact C1
      isplitl [C3]; · iexact C3
      isplitl [C5]; · iexact C5
      isplitl [C7]; · iexact C7
      isplitl [CA]; · iexact CA
      iexact CB
    iexact Hsems
  iexact HO

end Tile

end Cert.Proof.PoolIdeal

end
-- ==== Proof.IdealRegion.lean ====
/-
  The head's call on the TensorCore: eight blocks of 2048 rows, each fetched, computed on and written back.
  `head_call`: from the buffers at any contents, the call leaves them as `afterHead` says: the result's array overwritten
  block by block, every other buffer as it was.
-/
module

public import proofs.«01_k».proof.Proof.IdealSeg
public import Idealize.ShloMosaic.Lib.Pipeline.FrameBody
public import Idealize.ShloMosaic.Lib.Pipeline.FrameTail
public import Idealize.ShloMosaic.Lib.Pipeline.RegionArrays
public import Idealize.ShloMosaic.Lib.Pipeline.RegionArraysS
public import Idealize.ShloMosaic.Lib.Pipeline.Kit
public import proofs.«01_k».proof.Proof.Gen.KernelIdeal.Launch
public import proofs.«01_k».proof.Proof.Gen.KernelIdeal.Skeleton
public import proofs.«01_k».proof.Proof.Gen.KernelIdeal.Points

@[expose] public section

set_option maxRecDepth 16384

noncomputable section

namespace Cert.Proof.PoolIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (Z : Dev nD → Valuation τ sig (Elt F))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (Z c (Proc.devRef .tc (Pipeline.arrRef spec1 w)))

/-- Input window 0's staging buffer holds its block at every point, whether fetched there or earlier. -/
theorem before1_0_of {c : Dev nD} (dat : Dat τ (Elt F) (HIx 1) ℕ UU ℕ cfg1 c) (hA : dat.A 0 = Z c (Proc.devRef .tc (Pipeline.arrRef spec1 0)))
    (hafter : ∀ t, dat.after 0 t = iblk Z c 0 t) (t : Fin cfg1.N) (d) : dat.before 0 t d = iblk Z c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether fetched there or earlier. -/
theorem before1_1_of {c : Dev nD} (dat : Dat τ (Elt F) (HIx 1) ℕ UU ℕ cfg1 c) (hA : dat.A 1 = Z c (Proc.devRef .tc (Pipeline.arrRef spec1 1)))
    (hafter : ∀ t, dat.after 1 t = iblk Z c 1 t) (t : Fin cfg1.N) (d) : dat.before 1 t d = iblk Z c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether fetched there or earlier. -/
theorem before1_2_of {c : Dev nD} (dat : Dat τ (Elt F) (HIx 1) ℕ UU ℕ cfg1 c) (hA : dat.A 2 = Z c (Proc.devRef .tc (Pipeline.arrRef spec1 2)))
    (hafter : ∀ t, dat.after 2 t = iblk Z c 2 t) (t : Fin cfg1.N) (d) : dat.before 2 t d = iblk Z c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether fetched there or earlier. -/
theorem before1_3_of {c : Dev nD} (dat : Dat τ (Elt F) (HIx 1) ℕ UU ℕ cfg1 c) (hA : dat.A 3 = Z c (Proc.devRef .tc (Pipeline.arrRef spec1 3)))
    (hafter : ∀ t, dat.after 3 t = iblk Z c 3 t) (t : Fin cfg1.N) (d) : dat.before 3 t d = iblk Z c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether fetched there or earlier. -/
theorem before1_4_of {c : Dev nD} (dat : Dat τ (Elt F) (HIx 1) ℕ UU ℕ cfg1 c) (hA : dat.A 4 = Z c (Proc.devRef .tc (Pipeline.arrRef spec1 4)))
    (hafter : ∀ t, dat.after 4 t = iblk Z c 4 t) (t : Fin cfg1.N) (d) : dat.before 4 t d = iblk Z c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rc1_0 : Rect S2048x64 := Rect.unit (s := S2048x64) ![0, 0] S2048x64.size inb_S2048x64_S2048x64_0_0
abbrev rc1_1 : Rect S1x64 := Rect.unit (s := S1x64) ![0, 0] S1x64.size inb_S1x64_S1x64_0_0
abbrev rc1_2 : Rect S64x64 := Rect.unit (s := S64x64) ![0, 0] S64x64.size inb_S64x64_S64x64_0_0

/-! ## What the body leaves in each output window's buffer -/

/-- The result's staging buffer after the body, from the blocks of the five operands. -/
def out1_5 (x0 : Vec F S2048x64 .f32) (x1 : Vec F S1x64 .f32) (x2 : Vec F S1x64 .f32) (x3 : Vec F S64x64 .f32) (x4 : Vec F S1x64 .f32) : Vec F S2048x64 .f32 :=
  View.canon [⟨rc1_0, k1_pay6 (k1_pay2 (View.ld x0 rc1_0) (View.ld x1 rc1_1) (View.ld x2 rc1_1) (View.ld x3 rc1_2) (View.ld x4 rc1_1)) (k1_pay3 (View.ld x0 rc1_0) (View.ld x1 rc1_1) (View.ld x2 rc1_1) (View.ld x3 rc1_2) (View.ld x4 rc1_1)) (k1_pay4 (View.ld x0 rc1_0) (View.ld x1 rc1_1) (View.ld x2 rc1_1) (View.ld x3 rc1_2) (View.ld x4 rc1_1)) (k1_pay5 (View.ld x0 rc1_0) (View.ld x1 rc1_1) (View.ld x2 rc1_1) (View.ld x3 rc1_2) (View.ld x4 rc1_1)) (Scalar.ofBits .f32 0x3F800000#32)⟩]

/-- The one store covers the buffer. -/
theorem cover1_5 (p0 : Vec F S2048x64 .f32) (y : S2048x64.Idx) :
    ∃ pc ∈ ([⟨rc1_0, p0⟩] : List (View.Piece (Elt F) S2048x64 .f32)), y ∈ pc.1.set :=
  View.cover_of_tiled [⟨rc1_0, p0⟩] S2048x64.size (by rfl) y

/-! ## The body's triple -/

set_option maxHeartbeats 1000000 in
/-- The head's body on whole staging buffers: the five operands' stay as they are, the result's is left at `out1_5` of them. -/
theorem sound_kernel (c : Dev nD) (E : Set ℕ) (i : grid1.Coords) (arg1 : Memref sig .tc .vmem S2048x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2048x64 .f32) (harg6 : arg6.IsWhole)
    (x0 : Vec F S2048x64 .f32) (x1 : Vec F S1x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__head_body i arg1 harg1 arg2 harg2 arg3 harg3 arg4 harg4 arg5 harg5 arg6 harg6) K := by
  simp only [cc1__head_body_eq_skeleton]; unfold cc1__head_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The call's arrays, buffers and waits -/

variable (b : ℕ)

/-- What the call's arrays hold when it begins, what the body leaves in each staging buffer, and which waits the core may
    have recorded: those at a level of at most `b`. Nothing is owed, and every array is held whole. -/
def dats (_ : Fin 1) (c : Dev nD) : Dat τ (Elt F) (HIx 1) ℕ UU ℕ cfg1 c where
  A w := Z c (Proc.devRef .tc (Pipeline.arrRef spec1 w))
  after w t := match w with
    | ⟨0, _⟩ => iblk Z c 0 t
    | ⟨1, _⟩ => iblk Z c 1 t
    | ⟨2, _⟩ => iblk Z c 2 t
    | ⟨3, _⟩ => iblk Z c 3 t
    | ⟨4, _⟩ => iblk Z c 4 t
    | ⟨5, _⟩ => out1_5 (iblk Z c 0 t) (iblk Z c 1 t) (iblk Z c 2 t) (iblk Z c 3 t) (iblk Z c 4 t)
  Φ _ := iprop(emp)
  q _ := fullShare
  owed _ := 0
  recorded _ := {p | (K (F := F)).lev (T c, p.1) p.2 ≤ b}

/-- The arrays as the call finds them. -/
theorem A_eq (c : Dev nD) (w : Fin cfg1.W) : (dats Z b 0 c).A w = Z c (Proc.devRef .tc (Pipeline.arrRef spec1 w)) := by
  dsimp only [dats]

/-- What the body leaves, window by window. -/
theorem after1_0 (c : Dev nD) (t : Fin cfg1.N) : (dats Z b 0 c).after 0 t = iblk Z c 0 t := by dsimp only [dats]
theorem after1_1 (c : Dev nD) (t : Fin cfg1.N) : (dats Z b 0 c).after 1 t = iblk Z c 1 t := by dsimp only [dats]
theorem after1_2 (c : Dev nD) (t : Fin cfg1.N) : (dats Z b 0 c).after 2 t = iblk Z c 2 t := by dsimp only [dats]
theorem after1_3 (c : Dev nD) (t : Fin cfg1.N) : (dats Z b 0 c).after 3 t = iblk Z c 3 t := by dsimp only [dats]
theorem after1_4 (c : Dev nD) (t : Fin cfg1.N) : (dats Z b 0 c).after 4 t = iblk Z c 4 t := by dsimp only [dats]
theorem after1_5 (c : Dev nD) (t : Fin cfg1.N) : (dats Z b 0 c).after 5 t = out1_5 (iblk Z c 0 t) (iblk Z c 1 t) (iblk Z c 2 t) (iblk Z c 3 t) (iblk Z c 4 t) := by dsimp only [dats]

/-- Each operand's staging buffer holds its block. -/
theorem before1_0 (c : Dev nD) (t : Fin cfg1.N) (d) : (dats Z b 0 c).before 0 t d = iblk Z c 0 t :=
  before1_0_of Z (dats Z b 0 c) (A_eq Z b c 0) (after1_0 Z b c) t d
theorem before1_1 (c : Dev nD) (t : Fin cfg1.N) (d) : (dats Z b 0 c).before 1 t d = iblk Z c 1 t :=
  before1_1_of Z (dats Z b 0 c) (A_eq Z b c 1) (after1_1 Z b c) t d
theorem before1_2 (c : Dev nD) (t : Fin cfg1.N) (d) : (dats Z b 0 c).before 2 t d = iblk Z c 2 t :=
  before1_2_of Z (dats Z b 0 c) (A_eq Z b c 2) (after1_2 Z b c) t d
theorem before1_3 (c : Dev nD) (t : Fin cfg1.N) (d) : (dats Z b 0 c).before 3 t d = iblk Z c 3 t :=
  before1_3_of Z (dats Z b 0 c) (A_eq Z b c 3) (after1_3 Z b c) t d
theorem before1_4 (c : Dev nD) (t : Fin cfg1.N) (d) : (dats Z b 0 c).before 4 t d = iblk Z c 4 t :=
  before1_4_of Z (dats Z b 0 c) (A_eq Z b c 4) (after1_4 Z b c) t d

/-! ## The body obligation, at a generic point -/

/-- What the body is called with at point `t`, -/
def bodyPre (c : Dev nD) (t : Fin cfg1.N) : sProp 𝕄 :=
  iprop((dats Z b 0 c).Φ t.castSucc ∗ (dats Z b 0 c).owesAt none t.castSucc
    ∗ (∃ d, owns (c : Thread nD τ) (st1_0 t) fullShare ((dats Z b 0 c).before 0 t d))
    ∗ (∃ d, owns (c : Thread nD τ) (st1_1 t) fullShare ((dats Z b 0 c).before 1 t d))
    ∗ (∃ d, owns (c : Thread nD τ) (st1_2 t) fullShare ((dats Z b 0 c).before 2 t d))
    ∗ (∃ d, owns (c : Thread nD τ) (st1_3 t) fullShare ((dats Z b 0 c).before 3 t d))
    ∗ (∃ d, owns (c : Thread nD τ) (st1_4 t) fullShare ((dats Z b 0 c).before 4 t d))
    ∗ (∃ d, owns (c : Thread nD τ) (st1_5 t) fullShare ((dats Z b 0 c).before 5 t d)))

/-- and what it returns. -/
def bodyPost (c : Dev nD) (t : Fin cfg1.N) : sProp 𝕄 :=
  iprop((dats Z b 0 c).Φ t.succ ∗ (dats Z b 0 c).owesAt none t.succ
    ∗ owns (c : Thread nD τ) (st1_0 t) fullShare ((dats Z b 0 c).after 0 t)
    ∗ owns (c : Thread nD τ) (st1_1 t) fullShare ((dats Z b 0 c).after 1 t)
    ∗ owns (c : Thread nD τ) (st1_2 t) fullShare ((dats Z b 0 c).after 2 t)
    ∗ owns (c : Thread nD τ) (st1_3 t) fullShare ((dats Z b 0 c).after 3 t)
    ∗ owns (c : Thread nD τ) (st1_4 t) fullShare ((dats Z b 0 c).after 4 t)
    ∗ owns (c : Thread nD τ) (st1_5 t) fullShare ((dats Z b 0 c).after 5 t))

/-- The body at any point: it needs only the six staging buffers, and the rest passes through unread. -/
theorem sound_body (c : Dev nD) (t : Fin cfg1.N) :
    bodyPre Z b c t ⊢ wp frame (wpE (defs₀ (F := F)) Variants.none c none) Set.univ (bodyAt1 t) (fun _ => bodyPost Z b c t) := by
  unfold bodyPre bodyPost bodyAt1
  simp only [before1_0, before1_1, before1_2, before1_3, before1_4]
  rw [show (dats Z b 0 c).Φ t.succ = (dats Z b 0 c).Φ t.castSucc from rfl,
    show (dats Z b 0 c).owesAt none t.succ = (dats Z b 0 c).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk Z c 0 t) (iblk Z c 1 t) (iblk Z c 2 t) (iblk Z c 3 t) (iblk Z c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body that runs at point `t` is the head's. -/
theorem defs₀_row (t : Fin cfg1.N) :
    defs₀ (F := F) .tc cfg1.body (cfg1.bodyArgs t (cfg1.slots t)) = bodyAt1 t := rfl

/-- The body does at every point what the call asks of it. -/
theorem body_obligation (c : Dev nD) : BodyObligation (dats (F := F) Z b 0 c) (defs₀ (F := F)) Variants.none none Set.univ := fun t => by
  rw [bigSep_W1, bigSep_W1, defs₀_row]
  exact triple_restated (sound_body Z b c t) rfl .rfl fun _ => .rfl

/-! ## The call -/

theorem kit1 : Pipeline.PLaunchFacts (nD := nD) (τ := τ) (pcfgs (F := F)) 0 := launch1.toP

/-- Every buffer after the call. -/
def afterHead (c : Dev nD) : Valuation τ sig (Elt F) := Pipeline.afterRegion (dats Z b 0 c) (Z c)

variable (SS : Finset (DevRef τ sig)) (hS : Pipeline.arrRefs spec1 ⊆ SS)
include hS

/-- The call over a set of buffers that has the six arrays: entered with the buffers at `Z`, left with them at
    `afterHead`, the waits recorded still at a level of at most `b`. -/
def headSeg : Pipeline.RegionSeg (Name := ℕ) (U := UU) pcfgs (fun q => (cfgs q).toPCfg_adm) (dats Z b) none (defs₀ (F := F)) Variants.none
    (K (F := F)).L (K (F := F)).lev 0 where
  win := (kit1 (F := F)).win.to₀
  block_pos := (kit1 (F := F)).block_pos
  stage_whole := (kit1 (F := F)).stage_whole
  K := PEmpty
  osem k := k.elim
  ho := Pipeline.OwnSemFacts.none _
  hbody c := (body_obligation Z b c).loose
  hwaits := Pipeline.hwaits_of_owed_zero pcfgs (fun q => (cfgs q).toPCfg_adm) (dats Z b) none (K (F := F)).L (K (F := F)).lev 0 fun _ _ => rfl
  pre c := iprop(StableHlo.held (T c) SS (Z c) ∗ ∃ W, ⌜(K (F := F)).WBelow (T c) W b⌝ ∗ owes (T c) 0 W)
  post c := iprop(StableHlo.held (T c) SS (afterHead Z b c) ∗ ∃ W, ⌜(K (F := F)).WBelow (T c) W b⌝ ∗ owes (T c) 0 W)
  X _ := iprop(emp)
  Y _ := iprop(emp)
  Z c := StableHlo.held (T c) (SS \ Pipeline.arrRefs spec1) (Z c)
  hentry c := by
    rw [Pipeline.ownSems0_none, Pipeline.prefHeld_of_none _ rfl,
      Pipeline.arrays_held pcfgs (fun q => (cfgs q).toPCfg_adm) (dats Z b) 0 kit1 c ((dats Z b 0 c).share_full fun _ => rfl) ((dats Z b 0 c).arrAt · 0) (Z c) (fun w => A_eq Z b c w),
      StableHlo.held_sub_split (T c) hS (Z c)]
    iintro ⟨⟨⟨Ha, HR⟩, HO⟩, -, -⟩
    imodintro
    isplitl [Ha]; · iexact Ha
    isplitr; · iempintro
    isplitl [HO]
    · unfold Dat.owesAt Pipeline.owesWithin Dat.bound
      icases HO with ⟨%W, %hW, HO⟩; iexists W; isplitr; · ipureintro; exact fun p hp => Or.inl (hW p hp)
      iexact HO
    isplitr; · iempintro
    iexact HR
  hin c := by
    iintro -
    exact .rfl
  hout c := by
    rw [Pipeline.ownSems0_none]
    iintro -
    isplitr; · iempintro
    isplitr; · iempintro
    rw [show (Pipeline.scopedRest (pcfgs (F := F) 0).spec c : sProp 𝕄) = iprop(emp) from scopedRest1_eq c]
    iempintro
  hexit c := by
    rw [Pipeline.arrays_held pcfgs (fun q => (cfgs q).toPCfg_adm) (dats Z b) 0 kit1 c ((dats Z b 0 c).share_full fun _ => rfl) _ (afterHead Z b c)
      (fun w => (Pipeline.afterRegion_arr (dats Z b 0 c) (Z c) launch1.win.arr_inj w).symm)]
    iintro ⟨Ha, HO, -, HR⟩
    imodintro
    isplitl [Ha HR]
    · rw [StableHlo.held_sub_split (T c) hS (afterHead Z b c),
        show (StableHlo.held (T c) (SS \ Pipeline.arrRefs spec1) (afterHead Z b c) : sProp 𝕄) = StableHlo.held (T c) (SS \ Pipeline.arrRefs spec1) (Z c) from
          StableHlo.held_congr (T c) (Pipeline.afterRegion_off (dats Z b 0 c) (Z c) SS)]
      isplitl [Ha]; · iexact Ha
      iexact HR
    unfold Dat.owesAt Pipeline.owesWithin Dat.bound
    icases HO with ⟨%W, %hW, HO⟩; iexists W; isplitr
    · ipureintro
      intro p hp
      rcases hW hp with h | h
      · exact h
      · obtain ⟨w, s, rfl⟩ := h
        exact Nat.zero_le _
    iexact HO

instance : (EP (F := F)).LandsIn (upEmb : UEmb _ 𝕄) := by unfold EP embR; infer_instance

/-- The call in the whole program: from the boundary, the buffers at `Z` and the call's own tokens to the boundary and
    the buffers at `afterHead`. -/
theorem head_call [∀ e, Nonempty (Elt F e)] (c : Dev nD) (Φ : PUnit → sProp 𝕄) :
    iprop((iprop(boundary (T c) ∗ StableHlo.held (T c) SS (afterHead Z b c) ∗ ∃ W, ⌜(K (F := F)).WBelow (T c) W b⌝ ∗ owes (T c) 0 W) -∗ Φ ⟨⟩)
        ∗ boundary (T c) ∗ (StableHlo.held (T c) SS (Z c) ∗ ∃ W, ⌜(K (F := F)).WBelow (T c) W b⌝ ∗ owes (T c) 0 W)
        ∗ levAts (K (F := F)).L (K (F := F)).lev ∗ Pipeline.cellsGhost cfgs EP 0 c ∗ Pipeline.toksInit cfgs EP 0 c)
      ⊢ wp frame (wpE ((K (F := F)).defs D) 𝒱 (T c) none) Set.univ
          (Prog.lift (.customCall (SparseCore.inner (Pipeline.entry 0)) ())) Φ := by
  have h := (K (F := F)).wp_liftProg (D (F := F)) 𝒱 (T c) (N := 1) (Name := ℕ) (U := UU) Set.univ none
    (Prog.op (TpuEff.customCall (Pipeline.entry 0) ()) .ret : Prog (TpuEff nD τ sig (Elt F) (ΛP (F := F)) .tc) PUnit) Φ
  refine .trans ?_ h
  refine .trans ?_ (Pipeline.RegionSeg.wp pcfgs (fun q => (cfgs q).toPCfg_adm) (dats Z b) none cellOf_inj EP (defs₀ (F := F)) Variants.none
    (K (F := F)).L (K (F := F)).lev (headSeg Z b SS hS) c none (fun u hu => by cases hu) .ret Φ)
  dsimp only [headSeg]
  iintro ⟨Hk, Hb, Hpre, Hl, Hc, Ht⟩
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitl [Hl]; · iexact Hl
  isplitl [Hc]; · iexact Hc
  iexact Ht

end Cert.Proof.PoolIdeal

end
-- ==== Proof.IdealMain.lean ====
/-
  The whole program: how the pooling call's operands are split among the cores and the subcores, the host operations around the two calls, and what a run leaves.
-/
module

public import proofs.«01_k».proof.Proof.IdealBody
public import proofs.«01_k».proof.Proof.IdealRegion
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.ShareLeaves
public import Idealize.ShloMosaic.Lib.Tactic

@[expose] public section

noncomputable section

namespace Cert.Proof.PoolIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within nullary_result_ne' binary_result_ne' binary_result' nullary_result' reshape_result_ne reshape_result')
open Idealize.ShloMosaic.Tactic

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S16384x200 EltTy.i32)
local notation "tV" => (Memref.whole Cert.KernelIdeal.main_v0_scv : Memref Cert.KernelIdeal.sig Kind.scVector Space.hbm Cert.KernelIdeal.S1000000x128 EltTy.f32)
local notation "oV" => (Memref.whole Cert.KernelIdeal.main_v1_scv : Memref Cert.KernelIdeal.sig Kind.scVector Space.hbm Cert.KernelIdeal.S16384x64 EltTy.f32)
local notation "sV" => (Memref.whole Cert.KernelIdeal.cc0_scratch0 : Memref Cert.KernelIdeal.sig Kind.scVector Space.vmem Cert.KernelIdeal.S128x200 EltTy.i32)
local notation "rV" => (Memref.whole Cert.KernelIdeal.cc0_scratch1 : Memref Cert.KernelIdeal.sig Kind.scVector Space.vmem Cert.KernelIdeal.S4x200x128 EltTy.f32)
local notation "uV" => (Memref.whole Cert.KernelIdeal.cc0_scratch2 : Memref Cert.KernelIdeal.sig Kind.scVector Space.vmem Cert.KernelIdeal.S128x64 EltTy.f32)

variable [FloatOps F] [Named F]

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory and the buffers -/

variable (m : (ℓ : Loc nD τ sig) → Buf (Elt F) ℓ) (ρ : Dev nD → PrngReg)

abbrev iLoc (d : Dev nD) : Loc nD τ sig := (SparseCore.T d).loc main_arg0
abbrev aLoc (d : Dev nD) : Loc nD τ sig := (SparseCore.T d).loc main_arg1
abbrev zLoc (d : Dev nD) : Loc nD τ sig := (SparseCore.T d).loc main_cst
abbrev tLoc (d : Dev nD) : Loc nD τ sig := (SparseCore.T d).loc main_v0
abbrev oLoc (d : Dev nD) : Loc nD τ sig := (SparseCore.T d).loc main_v1

/-- The table with its rows padded by zeros to 128 lanes. -/
def PAD (x : S1000000x64.Idx → Elt F .f32) : S1000000x128.Idx → Elt F .f32 :=
  pad S1000000x128 ![0, 0] ![0, 64] ![0, 0] x (constant S_ .f32 0x00000000#32) pads_S1000000x64_S1000000x128_000_0640 h_S_

/-- A device's padded table and its pooled rows, from the launch memory. -/
def TAB (d : Dev nD) : S1000000x128.Idx → Elt F .f32 := PAD (m (aLoc d))
def POOL (d : Dev nD) : S16384x64.Idx → Elt F .f32 := RES (TAB m d) (m (iLoc d))

/-- A core's grid coordinates and a subcore's. -/
def coordsV (c : Fin (grid0.bound 0)) (s : Fin (grid0.bound 1)) : grid0.Coords :=
  fun | 0 => c | 1 => s | ⟨_ + 2, h⟩ => absurd h (Nat.not_lt.2 (Nat.le_add_left _ _))

/-- The rows of the result that a core's subcores compute. -/
def oCore (c : Fin 2) : Finset S16384x64.Idx := Finset.univ.filter fun x => (x 0).val / 512 % 2 = c.val

/-- A core's share of what every subcore reads, and a subcore's. -/
abbrev qC (c : Fin 2) : PosShare TreeShare := ShareLeaves.leaf 1 fullShare c
abbrev qCI (c : Fin 2) (i : Fin 16) : PosShare TreeShare := ShareLeaves.leaf 4 (qC c) i

/-! ## What the handshakes carry -/

/-- What a core takes and gives back: shares of the ids and of the table, and its rows of the result. -/
abbrev coreRes (d : Dev nD) (c : Fin 2) (f : S16384x64.Idx → Elt F .f32) : sProp 𝕄 :=
  iprop((iLoc d ↦{qC c} m (iLoc d)) ∗ (tLoc d ↦{qC c} TAB m d) ∗ oLoc d ↦[oCore c]{fullShare} f)
/-- What a subcore takes and gives back. -/
abbrev tileRes (d : Dev nD) (c : Fin 2) (i : Fin 16) (f : S16384x64.Idx → Elt F .f32) : sProp 𝕄 :=
  iprop((iLoc d ↦{qCI c i} m (iLoc d)) ∗ (tLoc d ↦{qCI c i} TAB m d) ∗ oLoc d ↦[oTile (coordsV c i)]{fullShare} f)

/-- The call runs on two cores. -/
theorem nCore_zero : (K (F := F)).nCore 0 = 2 := rfl

def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (POOL m d)
  go := fun q d c i => match q with | 0 => tileRes m d (Fin.cast nCore_zero c) (Fin.cast nSub_zero i) (m (oLoc d))
  td := fun q d c i => match q with | 0 => tileRes m d (Fin.cast nCore_zero c) (Fin.cast nSub_zero i) (POOL m d)
  x := fun _ _ => iprop(emp)

instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (POOL m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (POOL m d)))

/-- Every id names a row of the table. -/
def PreOK : Prop := ∀ (d : Dev nD) (j : S16384x200.Idx), (m (iLoc d) j).toNat < 1000000

/-! ## The obligation -/

/-- A subcore's definition is the pooling kernel's body at its coordinates. -/
theorem defs₀_vector (c : Fin τ.nSC) (s : Fin τ.nSub) :
    defs₀ (F := F) (.scVector c s) 0 ()
      = SparseCore.onTile hcore0 hsub0 (fun c s => cc0__sc_pool_body (coordsV c s)
          iV (Memref.isWhole_whole _) tV (Memref.isWhole_whole _) oV (Memref.isWhole_whole _) sV (Memref.isWhole_whole _) rV (Memref.isWhole_whole _)
            uV (Memref.isWhole_whole _) cc0_scratch3 cc0_scratch4 cc0_scratch5 cc0_scratch6 cc0_scratch7 cc0_scratch8 cc0_scratch9 cc0_scratch10 cc0_scoped0 cc0_scoped1) ⟨⟩ c s := rfl

/-- A subcore's end, with its waits as the launch states them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task meets the call's obligation, for ids in range. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (TAB m d) (m (iLoc d)) (qCI (Fin.cast nCore_zero c) (Fin.cast nSub_zero i)) (qCI (Fin.cast nCore_zero c) (Fin.cast nSub_zero i))
    hF (hpre d) (m (oLoc d)) O W hO).trans (wp_mono frame _ _ fun _ => obl_post)

/-! ## The rows split and join; the shares -/

omit [FloatOps F] [Named F] in
/-- A result row is a subcore's if its block of 512 rows is. -/
theorem mem_oTile (c : Fin 2) (i : Fin 16) (x : S16384x64.Idx) : x ∈ oTile (coordsV c i) ↔ (x 0).val / 512 = 2 * i.val + c.val := by
  unfold oTile base
  rw [Finset.mem_filter]
  show _ ∧ (1024 * i.val + 512 * c.val + 128 * 0 ≤ (x 0).val ∧ (x 0).val < 1024 * i.val + 512 * c.val + 128 * 4) ↔ _
  constructor
  · rintro ⟨-, h0, h1⟩; omega
  · intro h; exact ⟨Finset.mem_univ _, by omega, by omega⟩

omit [FloatOps F] [Named F] in
/-- Two subcores of a core share no row. -/
theorem tiles_disjoint (c : Fin 2) : ∀ i ∈ (Finset.univ : Finset (Fin 16)), ∀ j ∈ (Finset.univ : Finset (Fin 16)), i ≠ j →
    Disjoint (oTile (coordsV c i)) (oTile (coordsV c j)) := by
  intro i _ j _ h
  refine Finset.disjoint_left.mpr fun x hi hj => h (Fin.ext ?_)
  have := (mem_oTile c i x).mp hi
  have := (mem_oTile c j x).mp hj
  omega

omit [FloatOps F] [Named F] in
/-- A core's rows are its subcores' rows. -/
theorem tiles_cover (c : Fin 2) : ((Finset.univ : Finset (Fin 16)).biUnion fun i => oTile (coordsV c i)) = oCore c := by
  ext x
  have hx0 : (x 0).val < 16384 := (x 0).isLt
  rw [Finset.mem_biUnion, oCore, Finset.mem_filter]
  constructor
  · rintro ⟨i, -, h⟩
    have := (mem_oTile c i x).mp h
    exact ⟨Finset.mem_univ _, by have := c.isLt; omega⟩
  · rintro ⟨-, h⟩
    exact ⟨⟨(x 0).val / 1024, by omega⟩, Finset.mem_univ _, (mem_oTile c _ x).mpr (by show _ = 2 * ((x 0).val / 1024) + c.val; omega)⟩

omit [FloatOps F] [Named F] in
/-- The two cores share no row. -/
theorem cores_disjoint : ∀ i ∈ (Finset.univ : Finset (Fin 2)), ∀ j ∈ (Finset.univ : Finset (Fin 2)), i ≠ j → Disjoint (oCore i) (oCore j) := by
  intro i _ j _ h
  refine Finset.disjoint_left.mpr fun x hi hj => h (Fin.ext ?_)
  exact (Finset.mem_filter.mp hi).2.symm.trans (Finset.mem_filter.mp hj).2

omit [FloatOps F] [Named F] in
/-- The two cores have all the rows. -/
theorem cores_cover : (Finset.univ : Finset (Fin 2)).biUnion oCore = Finset.univ :=
  Finset.eq_univ_iff_forall.mpr fun x => Finset.mem_biUnion.mpr
    ⟨⟨(x 0).val / 512 % 2, by omega⟩, Finset.mem_univ _, Finset.mem_filter.mpr ⟨Finset.mem_univ _, rfl⟩⟩

/-- A core's rows of the result are dealt to its subcores. -/
theorem oCore_tiles (d : Dev nD) (c : Fin 2) (f : Buf (Elt F) (oLoc d)) :
    (oLoc d ↦[oCore c]{fullShare} f : sProp 𝕄) = bigSep Finset.univ fun i : Fin 16 => oLoc d ↦[oTile (coordsV c i)]{fullShare} f := by
  rw [← pointsTo_biUnion Finset.univ (ℓ := oLoc d) (fun i : Fin 16 => oTile (coordsV c i)) (tiles_disjoint c), tiles_cover]; try rfl

/-- The result is dealt to the cores. -/
theorem out_cores (d : Dev nD) (f : Buf (Elt F) (oLoc d)) :
    (oLoc d ↦{fullShare} f : sProp 𝕄) = bigSep Finset.univ fun c : Fin 2 => oLoc d ↦[oCore c]{fullShare} f := by
  rw [← pointsTo_biUnion Finset.univ (ℓ := oLoc d) oCore cores_disjoint, cores_cover]; try rfl

/-- A share of an array as sixteen shares. -/
theorem leaves16 {ℓ : Loc nD τ sig} (f : Buf (Elt F) ℓ) (q : PosShare TreeShare) :
    (ℓ ↦{q} f : sProp 𝕄) = bigSep Finset.univ fun i : Fin 16 => ℓ ↦{ShareLeaves.leaf 4 q i} f := ShareLeaves.pointsTo_leaves Finset.univ f 4 q
/-- A share of an array as two shares. -/
theorem leaves2 {ℓ : Loc nD τ sig} (f : Buf (Elt F) ℓ) (q : PosShare TreeShare) :
    (ℓ ↦{q} f : sProp 𝕄) = bigSep Finset.univ fun i : Fin 2 => ℓ ↦{ShareLeaves.leaf 1 q i} f := ShareLeaves.pointsTo_leaves Finset.univ f 1 q

/-- A core's part is its subcores' parts together. -/
theorem coreRes_tiles (d : Dev nD) (c : Fin 2) (f : S16384x64.Idx → Elt F .f32) :
    coreRes m d c f = bigSep Finset.univ fun i : Fin 16 => tileRes m d c i f := by
  unfold coreRes tileRes
  rw [bigSep_sep', bigSep_sep', oCore_tiles, leaves16 (m (iLoc d)) (qC c), leaves16 (F := F) (ℓ := tLoc d) (TAB m d) (qC c)]

/-- The call's arrays are the two cores' parts together. -/
theorem call_cores (d : Dev nD) (f : S16384x64.Idx → Elt F .f32) :
    (iprop((iLoc d ↦{fullShare} m (iLoc d)) ∗ (tLoc d ↦{fullShare} TAB m d) ∗ oLoc d ↦{fullShare} f) : sProp 𝕄)
      = bigSep Finset.univ fun c : Fin 2 => coreRes m d c f := by
  unfold coreRes
  rw [bigSep_sep', bigSep_sep', out_cores, leaves2 (m (iLoc d)) fullShare, leaves2 (F := F) (ℓ := tLoc d) (TAB m d) fullShare]

/-- The subcores' resources, by their numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- The cores' resources, by their numbers. -/
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's resources are dealt to its subcores, and come back joined. -/
theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (POOL m d))
          -∗ coreRes m d (Fin.cast nCore_zero c) (POOL m d)))
  rw [bigSep_tasks (F := F) (fun i => tileRes m d (Fin.cast nCore_zero c) i (m (oLoc d))),
    bigSep_tasks (F := F) (fun i => tileRes m d (Fin.cast nCore_zero c) i (POOL m d)), ← coreRes_tiles, ← coreRes_tiles]
  iintro H; imodintro
  isplitl [H]; · iexact H
  iintro H; iexact H

/-! ## The launch element of the ghost state -/

def u₀ : UU := (initOf (K (F := F)).hsCells (K (F := F)).hsToks,
  initOf (Pipeline.cells (nD := nD) (τ := τ) cfgs cellOf_inj) (Pipeline.launchToks (nD := nD) (τ := τ) cfgs cellOf_inj), 1)

/-- What a device holds for the head's call: the tokens of its staging buffers' transfers. -/
abbrev G (d : Dev nD) : sProp 𝕄 := iprop(Pipeline.cellsGhost cfgs EP 0 d ∗ Pipeline.toksInit cfgs EP 0 d)

/-- Nothing, many times, is nothing. -/
theorem bigSep_emp' {I : Type} (s : Finset I) : (bigSep s fun _ => iprop(emp)) = (iprop(emp) : sProp 𝕄) := bigSep_emp_const s

/-- The launch's ghost element gives the handshakes' start and every device's tokens for the head's call. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair_emb (embR : Emb (UP × Counters) 𝕄) (initOf (Pipeline.cells (nD := nD) (τ := τ) cfgs cellOf_inj) (Pipeline.launchToks (nD := nD) (τ := τ) cfgs cellOf_inj)) (1 : Counters)) $$ HR
  icases H with ⟨HP, -⟩
  imod (Pipeline.fund_ghost (nD := nD) (τ := τ) cfgs EP cellOf_inj) $$ HP with ⟨Hg, Ht⟩
  imodintro
  isplitl [HH]; · iexact HH
  isplitl [Hg Ht]
  · unfold G
    rw [bigSep_sep',
      ← show (bigSep Finset.univ fun d : Dev nD => bigSep Finset.univ fun q : Fin 1 => (Pipeline.cellsGhost cfgs EP q d : sProp 𝕄)) = bigSep Finset.univ fun d : Dev nD => Pipeline.cellsGhost cfgs EP 0 d from
        bigSep_congr fun _ _ => bigSep_univ_of_subsingleton (0 : Fin 1),
      ← show (bigSep Finset.univ fun d : Dev nD => bigSep Finset.univ fun q : Fin 1 => (Pipeline.toksInit cfgs EP q d : sProp 𝕄)) = bigSep Finset.univ fun d : Dev nD => Pipeline.toksInit cfgs EP 0 d from
        bigSep_congr fun _ _ => bigSep_univ_of_subsingleton (0 : Fin 1)]
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

abbrev i' : DevRef τ sig := Proc.devRef .tc (main_arg0 : Ref sig .tc)
abbrev a' : DevRef τ sig := Proc.devRef .tc (main_arg1 : Ref sig .tc)
abbrev z' : DevRef τ sig := Proc.devRef .tc (main_cst : Ref sig .tc)
abbrev t' : DevRef τ sig := Proc.devRef .tc (main_v0 : Ref sig .tc)
abbrev o' : DevRef τ sig := Proc.devRef .tc (main_v1 : Ref sig .tc)
/-- The pooling call's three arrays. -/
abbrev S3 : Finset (DevRef τ sig) := {i', t', o'}
/-- Every array of the program. -/
abbrev SA : Finset (DevRef τ sig) := Pipeline.ucRefs τ sig
/-- The six arguments and the result. -/
abbrev S7 : Finset (DevRef τ sig) := {i', a', Proc.devRef .tc (main_arg2 : Ref sig .tc), Proc.devRef .tc (main_arg3 : Ref sig .tc),
  Proc.devRef .tc (main_arg4 : Ref sig .tc), Proc.devRef .tc (main_arg5 : Ref sig .tc), Proc.devRef .tc (main_v5 : Ref sig .tc)}

abbrev opZ : HloOp τ sig (Elt F) := StableHlo.nullary main_cst (constant S_ .f32 0x00000000#32)
abbrev opP : HloOp τ sig (Elt F) := StableHlo.binary main_arg1 main_cst main_v0
  ((fun x v => pad S1000000x128 ![0, 0] ![0, 64] ![0, 0] x v pads_S1000000x64_S1000000x128_000_0640 h_S_) :
    (⟨S1000000x64, .f32⟩ : BufTy).Contents (Elt F) → (⟨S_, .f32⟩ : BufTy).Contents (Elt F) → (⟨S1000000x128, .f32⟩ : BufTy).Contents (Elt F))
abbrev opG : HloOp τ sig (Elt F) := StableHlo.reshape main_arg2 main_v2 (rfl : (.f32 : EltTy) = .f32) shapeCasts_S64_S1x64
abbrev opB : HloOp τ sig (Elt F) := StableHlo.reshape main_arg3 main_v3 (rfl : (.f32 : EltTy) = .f32) shapeCasts_S64_S1x64
abbrev opC : HloOp τ sig (Elt F) := StableHlo.reshape main_arg5 main_v4 (rfl : (.f32 : EltTy) = .f32) shapeCasts_S64_S1x64

/-- Three arrays one by one. -/
theorem held_S3 (d : Dev nD) (W : Valuation τ sig (Elt F)) :
    (held (T d) S3 W : sProp 𝕄) = iprop((iLoc d ↦{fullShare} W i') ∗ (tLoc d ↦{fullShare} W t') ∗ oLoc d ↦{fullShare} W o') := by
  unfold held S3
  rw [SparseCore.bigSep_insert' (by decide), SparseCore.bigSep_insert' (by decide), bigSep_singleton]

/-- The launch contents, those after the two host operations, after the pooling call, and after the three reshapes. -/
def V0 (d : Dev nD) : Valuation τ sig (Elt F) := fun b => m (d, b)
def V2 (d : Dev nD) : Valuation τ sig (Elt F) := (opP (F := F)).result ((opZ (F := F)).result (V0 m d))
def V3 (d : Dev nD) : Valuation τ sig (Elt F) := Function.update (V2 m d) o' (POOL m d)
def V6 (d : Dev nD) : Valuation τ sig (Elt F) := (opC (F := F)).result ((opB (F := F)).result ((opG (F := F)).result (V3 m d)))
/-- The contents at the end. -/
def VF (d : Dev nD) : Valuation τ sig (Elt F) := afterHead (V6 m) 8 d

/-- The launch's arrays are held. -/
theorem unscoped_held (d : Dev nD) : (unscopedBufs d (fun b => m ((SparseCore.T d).loc b)) : sProp 𝕄) = held (T d) SA (V0 m d) :=
  Pipeline.unscopedBufs_held d (V0 m d)

/-- The host operations before the pooling call write only the constant and the padded table. -/
theorem V2_of (d : Dev nD) (r : Ref sig .tc) (h1 : r ≠ main_v0) (h2 : r ≠ main_cst) : V2 m d (Proc.devRef .tc r) = m ((SparseCore.T d).loc r) :=
  (binary_result_ne' _ _ _ _ _ h1).trans (nullary_result_ne' _ _ _ h2)
/-- The padded table is the table padded. -/
theorem V2_t (d : Dev nD) : V2 m d t' = TAB m d := by
  refine (binary_result' _ _ _ _ _).trans ?_
  rw [show (opZ (F := F)).result (V0 m d) (Proc.devRef .tc main_arg1) = m (aLoc d) from nullary_result_ne' _ _ _ (by decide),
    show (opZ (F := F)).result (V0 m d) (Proc.devRef .tc main_cst) = constant S_ .f32 0x00000000#32 from nullary_result' _ _ _]
  rfl
/-- After the pooling call its result is pooled and the rest as before. -/
theorem V3_o (d : Dev nD) : V3 m d o' = POOL m d := Function.update_self _ _ _
theorem V3_of (d : Dev nD) (b : DevRef τ sig) (h : b ≠ o') : V3 m d b = V2 m d b := Function.update_of_ne h _ _

/-- The three arrays before the pooling call and after it. -/
theorem held_V2 (d : Dev nD) :
    (held (T d) S3 (V2 m d) : sProp 𝕄) = iprop((iLoc d ↦{fullShare} m (iLoc d)) ∗ (tLoc d ↦{fullShare} TAB m d) ∗ oLoc d ↦{fullShare} m (oLoc d)) := by
  rw [held_S3, V2_t, V2_of m d main_arg0 (by decide) (by decide), V2_of m d main_v1 (by decide) (by decide)]
theorem held_V3 (d : Dev nD) :
    (held (T d) S3 (V3 m d) : sProp 𝕄) = iprop((iLoc d ↦{fullShare} m (iLoc d)) ∗ (tLoc d ↦{fullShare} TAB m d) ∗ oLoc d ↦{fullShare} POOL m d) := by
  rw [held_S3, V3_o, V3_of m d i' (by decide), V3_of m d t' (by decide), V2_t, V2_of m d main_arg0 (by decide) (by decide)]

/-- An array that no operation after the launch's first two and the pooling call writes. -/
theorem V6_of (d : Dev nD) (r : Ref sig .tc) (h1 : r ≠ main_v4) (h2 : r ≠ main_v3) (h3 : r ≠ main_v2) :
    V6 m d (Proc.devRef .tc r) = V3 m d (Proc.devRef .tc r) :=
  (reshape_result_ne _ _ _ _ _ _ _ h1).trans ((reshape_result_ne _ _ _ _ _ _ _ h2).trans (reshape_result_ne _ _ _ _ _ _ _ h3))
/-- An argument before the head's call. -/
theorem V6_arg (d : Dev nD) (r : Ref sig .tc) (h1 : r ≠ main_v4) (h2 : r ≠ main_v3) (h3 : r ≠ main_v2) (h4 : r ≠ main_v1) (h5 : r ≠ main_v0) (h6 : r ≠ main_cst) :
    V6 m d (Proc.devRef .tc r) = m ((SparseCore.T d).loc r) :=
  (V6_of m d r h1 h2 h3).trans ((V3_of m d _ fun e => h4 (Proc.devRef_injective _ e)).trans (V2_of m d r h5 h6))
/-- The pooled rows before the head's call. -/
theorem V6_o (d : Dev nD) : V6 m d o' = POOL m d := (V6_of m d main_v1 (by decide) (by decide) (by decide)).trans (V3_o m d)
/-- The three reshaped arguments before the head's call. -/
theorem V6_g (d : Dev nD) : V6 m d (Proc.devRef .tc main_v2) = shapeCast S1x64 (m ((SparseCore.T d).loc main_arg2)) shapeCasts_S64_S1x64 := by
  refine (reshape_result_ne _ _ _ _ _ _ _ (by decide)).trans ((reshape_result_ne _ _ _ _ _ _ _ (by decide)).trans ((reshape_result' _ _ _ _ _).trans ?_))
  change shapeCast S1x64 (V3 m d (Proc.devRef .tc main_arg2)) _ = _
  rw [V3_of m d _ (by decide), V2_of m d main_arg2 (by decide) (by decide)]
theorem V6_b (d : Dev nD) : V6 m d (Proc.devRef .tc main_v3) = shapeCast S1x64 (m ((SparseCore.T d).loc main_arg3)) shapeCasts_S64_S1x64 := by
  refine (reshape_result_ne _ _ _ _ _ _ _ (by decide)).trans ((reshape_result' _ _ _ _ _).trans ?_)
  change shapeCast S1x64 ((opG (F := F)).result (V3 m d) (Proc.devRef .tc main_arg3)) _ = _
  rw [show (opG (F := F)).result (V3 m d) (Proc.devRef .tc main_arg3) = V3 m d (Proc.devRef .tc main_arg3) from reshape_result_ne _ _ _ _ _ _ _ (by decide),
    V3_of m d _ (by decide), V2_of m d main_arg3 (by decide) (by decide)]
theorem V6_c (d : Dev nD) : V6 m d (Proc.devRef .tc main_v4) = shapeCast S1x64 (m ((SparseCore.T d).loc main_arg5)) shapeCasts_S64_S1x64 := by
  refine (reshape_result' _ _ _ _ _).trans ?_
  change shapeCast S1x64 ((opB (F := F)).result ((opG (F := F)).result (V3 m d)) (Proc.devRef .tc main_arg5)) _ = _
  rw [show (opB (F := F)).result ((opG (F := F)).result (V3 m d)) (Proc.devRef .tc main_arg5) = V3 m d (Proc.devRef .tc main_arg5) from
      (reshape_result_ne _ _ _ _ _ _ _ (by decide)).trans (reshape_result_ne _ _ _ _ _ _ _ (by decide)),
    V3_of m d _ (by decide), V2_of m d main_arg5 (by decide) (by decide)]

/-- The head's call leaves an array that is not its result as it was. -/
theorem VF_of (d : Dev nD) (r : Ref sig .tc) (h : ∀ w, Pipeline.arrRef spec1 w = r → (cfg1.win w).isOut = false) :
    VF m d (Proc.devRef .tc r) = V6 m d (Proc.devRef .tc r) :=
  Pipeline.afterRegion_keeps (dats (V6 m) 8 0 d) (V6 m d) launch1.win.arr_inj (A_eq (V6 m) 8 d) r h
/-- The result, written back block by block. -/
theorem VF_r (d : Dev nD) : VF m d (Proc.devRef .tc main_v5) = (dats (V6 m) 8 0 d).arrAt 5 cfg1.N :=
  Pipeline.afterRegion_arr (dats (V6 m) 8 0 d) (V6 m d) launch1.win.arr_inj 5

/-- What the cores take at the call. -/
theorem st0_eq (d : Dev nD) : (bigSep Finset.univ fun c : Fin ((K (F := F)).nCore 0) => (P m).st 0 d c)
    = iprop((iLoc d ↦{fullShare} m (iLoc d)) ∗ (tLoc d ↦{fullShare} TAB m d) ∗ oLoc d ↦{fullShare} m (oLoc d)) :=
  (bigSep_cores (F := F) (fun c => coreRes m d c (m (oLoc d)))).trans (call_cores m d (m (oLoc d))).symm
/-- What the cores give back. -/
theorem dn0_eq (d : Dev nD) : (bigSep Finset.univ fun c : Fin ((K (F := F)).nCore 0) => (P m).dn 0 d c)
    = iprop((iLoc d ↦{fullShare} m (iLoc d)) ∗ (tLoc d ↦{fullShare} TAB m d) ∗ oLoc d ↦{fullShare} POOL m d) :=
  (bigSep_cores (F := F) (fun c => coreRes m d c (POOL m d))).trans (call_cores m d (POOL m d)).symm

/-- Every operation reads and writes held arrays. -/
theorem hZ : (opZ (F := F)).bufs ⊆ SA := show ({z'} : Finset (DevRef τ sig)) ⊆ SA by decide
theorem hP : (opP (F := F)).bufs ⊆ SA := show ({a', z', t'} : Finset (DevRef τ sig)) ⊆ SA by decide
theorem hG : (opG (F := F)).bufs ⊆ SA := show ({Proc.devRef .tc main_arg2, Proc.devRef .tc main_v2} : Finset (DevRef τ sig)) ⊆ SA by decide
theorem hB : (opB (F := F)).bufs ⊆ SA := show ({Proc.devRef .tc main_arg3, Proc.devRef .tc main_v3} : Finset (DevRef τ sig)) ⊆ SA by decide
theorem hC : (opC (F := F)).bufs ⊆ SA := show ({Proc.devRef .tc main_arg5, Proc.devRef .tc main_v4} : Finset (DevRef τ sig)) ⊆ SA by decide
theorem hS3 : S3 ⊆ SA := by decide
theorem hS7 : S7 ⊆ SA := by decide
theorem hArr : Pipeline.arrRefs spec1 ⊆ SA := by decide

/-- After the pooling call only its three arrays may have changed. -/
theorem held_off (d : Dev nD) : (held (T d) (SA \ S3) (V2 m d) : sProp 𝕄) = held (T d) (SA \ S3) (V3 m d) :=
  StableHlo.held_congr (T d) fun b hb => (V3_of m d b fun e => (Finset.mem_sdiff.mp hb).2 (by rw [e]; decide)).symm

/-- A first part said in another way. -/
theorem split_first {A A' R : sProp 𝕄} (h : A = A') : ∃ R', iprop(A ∗ R) = iprop(A' ∗ R') := ⟨R, by rw [h]⟩

/-- The main thread's state with the calls on the SparseCores done: nothing owed, the waits recorded at a level of at most 8. -/
theorem tc_open (d : Dev nD) : ∃ R : sProp 𝕄, (K (F := F)).tcSt EH d 1 = iprop((∃ W, ⌜(K (F := F)).WBelow (T d) W 8⌝ ∗ owes (T d) 0 W) ∗ R) := by
  unfold SparseCore.Cfg.tcSt
  exact split_first (by rw [(K (F := F)).Otc_end d (le_refl 1)]; rfl)

/-- What the host program leaves: every array at its contents at the end. -/
abbrev FIN (d : Dev nD) : sProp 𝕄 := held (T d) S7 (VF m d)

/-- The program's main thread: the pad, the pooling call, the reshapes, the head's call, and the arrays as they are left. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tc_open (F := F) d
  unfold SparseCore.Cfg.tcRes SparseCore.Cfg.tcEnd
  rw [unscoped_held]
  simp only [main, wp_bind, wp_pure]
  iintro ⟨#Hctx, Hst, ⟨Hb, Hheld, Hts, -⟩, Hg, Htok⟩
  iapply (wp_hlo_within 𝒱 (SparseCore.T d) none Set.univ (op := opZ) (S := SA) hZ (V := V0 m d)) $$ [Hb Hheld]
  · isplitl [Hb] <;> iassumption
  iintro ⟨Hb, Hheld⟩
  rw [wp_ret]; imodintro
  iapply (wp_hlo_within 𝒱 (SparseCore.T d) none Set.univ (op := opP) (S := SA) hP (V := (opZ (F := F)).result (V0 m d))) $$ [Hb Hheld]
  · isplitl [Hb] <;> iassumption
  iintro ⟨Hb, Hheld⟩
  rw [wp_ret]; imodintro
  ihave Hh := (Entails.of_eq ((congrArg (fun W => held (T d) SA W) (show (opP (F := F)).result ((opZ (F := F)).result (V0 m d)) = V2 m d from rfl)).trans
    ((StableHlo.held_sub_split (T d) hS3 (V2 m d)).trans (by rw [held_V2, held_off])))) $$ Hheld
  icases Hh with ⟨⟨Hi, Ht, Ho⟩, Hrest⟩
  iapply ((K (F := F)).wp_run (D (F := F)) 𝒱 (EH := EH) (P := P m) κ d 0) $$ [Hst Hi Ht Ho Hrest Hb Hts Hg Htok]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq ((dn0_eq m d).trans (held_V3 m d).symm)) $$ Hdn
  ihave Hheld := (Entails.of_eq (StableHlo.held_sub_split (T d) hS3 (V3 m d)).symm) $$ [Hdn' Hrest]
  · isplitl [Hdn'] <;> iassumption
  iapply (wp_hlo_within 𝒱 (SparseCore.T d) none Set.univ (op := opG) (S := SA) hG (V := V3 m d)) $$ [Hb Hheld]
  · isplitl [Hb] <;> iassumption
  iintro ⟨Hb, Hheld⟩
  rw [wp_ret]; imodintro
  iapply (wp_hlo_within 𝒱 (SparseCore.T d) none Set.univ (op := opB) (S := SA) hB (V := (opG (F := F)).result (V3 m d))) $$ [Hb Hheld]
  · isplitl [Hb] <;> iassumption
  iintro ⟨Hb, Hheld⟩
  rw [wp_ret]; imodintro
  iapply (wp_hlo_within 𝒱 (SparseCore.T d) none Set.univ (op := opC) (S := SA) hC (V := (opB (F := F)).result ((opG (F := F)).result (V3 m d)))) $$ [Hb Hheld]
  · isplitl [Hb] <;> iassumption
  iintro ⟨Hb, Hheld⟩
  rw [wp_ret]; imodintro
  ihave Hst' := (Entails.of_eq (show (K (F := F)).tcSt EH d ((0 : Fin 1).val + 1) = _ from hR)) $$ Hst
  icases Hst' with ⟨HO, HR⟩
  ihave Hlev := ((K (F := F)).ctx_levAts κ) $$ Hctx
  iapply (head_call (V6 m) 8 SA hArr d)
  isplitl [HR Hts]
  · iintro ⟨Hb, Hheld, HO⟩
    imodintro
    isplitl [HR HO]
    · iapply (Entails.of_eq hR.symm)
      isplitl [HO]; · iexact HO
      iexact HR
    isplitl [Hheld]
    · ihave Hh := (Entails.of_eq ((StableHlo.held_sub_split (T d) hS7 (afterHead (V6 m) 8 d)))) $$ Hheld
      icases Hh with ⟨Hh, -⟩
      iexact Hh
    isplitl [Hb] <;> iassumption
  isplitl [Hb]; · iexact Hb
  isplitl [Hheld HO]
  · isplitl [Hheld]; · iexact Hheld
    iexact HO
  isplitl [Hlev]; · iexact Hlev
  isplitl [Hg]; · iexact Hg
  iexact Htok

/-- The six arguments and the result at the end of a run, from a finished state. -/
def fq (d : Dev nD) (s' : Phys nD τ sig (Elt F)) : Prop := ∀ b ∈ S7, s'.mem.mem (d, b) = VF m d b

set_option maxRecDepth 16384 in
/-- What is held at the end says what memory holds. -/
theorem hfin (d : Dev nD) (s' : Phys nD τ sig (Elt F)) : iprop(FIN m d ∗ SI s') ⊢ (⌜fq m d s'⌝ : sProp 𝕄) := by
  have key : ∀ b : DevRef τ sig, b ∈ S7 → (iprop(FIN m d ∗ SI s') ⊢ (⌜s'.mem.mem (d, b) = VF m d b⌝ : sProp 𝕄)) := by
    intro b hb
    iintro ⟨Hh, HSI⟩
    ihave H1 := (show (FIN m d : sProp 𝕄) ⊢ (((d, b) : Loc nD τ sig) ↦{fullShare} VF m d b) from
      (bigSep_elim (Φ := fun b' : DevRef τ sig => (((d, b') : Loc nD τ sig) ↦{fullShare} VF m d b' : sProp 𝕄)) hb)) $$ Hh
    ihave H := (SI_pointsTo_agree (st := s') (ℓ := ((d, b) : Loc nD τ sig)) (I := Finset.univ) (q := fullShare) (f := VF m d b)) $$ [HSI H1]
    · isplitl [HSI] <;> iassumption
    icases H with %h
    ipureintro; exact funext fun i => h i (Finset.mem_univ i)
  unfold fq
  exact ((Laws.forall_intro fun b : {b // b ∈ S7} => key b.1 b.2).trans Laws.pure_forall.2).trans (Laws.pure_mono fun h b hb => h ⟨b, hb⟩)

/-! ## The program's run -/

/-- The arguments unchanged, the result the head of the pooled rows, every semaphore counter at zero. -/
def QC : PUnit × MemSt nD τ sig (Elt F) → Prop := fun r =>
  (∀ c : Dev nD, (r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5))
    ∧ r.2.mem ((SparseCore.T c).loc main_v5) = (dats (V6 m) 8 0 c).arrAt 5 cfg1.N) ∧ r.2.sem = fun _ => 0

/-- What is known of a finished state is what a run leaves. -/
theorem QC_of (s' : Phys nD τ sig (Elt F)) (h : ∀ d, fq m d s') (hz : s'.mem.sem = fun _ => 0) : QC m (⟨⟩, s'.mem) := by
  refine ⟨fun c => ⟨⟨?_, ?_, ?_, ?_, ?_, ?_⟩, ?_⟩, hz⟩
  · exact (h c (Proc.devRef .tc (main_arg0 : Ref sig .tc)) (by decide)).trans ((VF_of m c main_arg0 (by decide)).trans (V6_arg m c main_arg0 (by decide) (by decide) (by decide) (by decide) (by decide) (by decide)))
  · exact (h c (Proc.devRef .tc (main_arg1 : Ref sig .tc)) (by decide)).trans ((VF_of m c main_arg1 (by decide)).trans (V6_arg m c main_arg1 (by decide) (by decide) (by decide) (by decide) (by decide) (by decide)))
  · exact (h c (Proc.devRef .tc (main_arg2 : Ref sig .tc)) (by decide)).trans ((VF_of m c main_arg2 (by decide)).trans (V6_arg m c main_arg2 (by decide) (by decide) (by decide) (by decide) (by decide) (by decide)))
  · exact (h c (Proc.devRef .tc (main_arg3 : Ref sig .tc)) (by decide)).trans ((VF_of m c main_arg3 (by decide)).trans (V6_arg m c main_arg3 (by decide) (by decide) (by decide) (by decide) (by decide) (by decide)))
  · exact (h c (Proc.devRef .tc (main_arg4 : Ref sig .tc)) (by decide)).trans ((VF_of m c main_arg4 (by decide)).trans (V6_arg m c main_arg4 (by decide) (by decide) (by decide) (by decide) (by decide) (by decide)))
  · exact (h c (Proc.devRef .tc (main_arg5 : Ref sig .tc)) (by decide)).trans ((VF_of m c main_arg5 (by decide)).trans (V6_arg m c main_arg5 (by decide) (by decide) (by decide) (by decide) (by decide) (by decide)))
  · exact (h c (Proc.devRef .tc (main_v5 : Ref sig .tc)) (by decide)).trans (VF_r m c)

/-- A run from ids in range ends with the arguments as they were, the head of the pooled rows in the result, and every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (QC_of m)

end Cert.Proof.PoolIdeal

end
-- ==== Proof.FramesIdeal.lean ====
/-
  The frames of the idealized kernel and of the reference: from any memory whose ids name rows of the table, a run ends,
  leaves the arguments as they were, and every semaphore counter at zero.
-/
module

public import proofs.«01_k».proof.Defs
public import proofs.«01_k».proof.Proof.IdealMain
public import proofs.«01_k».proof.Proof.Pre
public import proofs.«01_k».proof.Proof.Gen.ReferenceIdeal.Run

@[expose] public section

noncomputable section

namespace Cert.Proof

open Idealize.ShloMosaic Idealize.SL.Sem

attribute [local instance] Cert.KernelIdeal.Gen.facts Cert.ReferenceIdeal.Gen.facts Pre.facts₁ Pre.facts₂

instance nonempty_ideal (e : EltTy) : Nonempty (Elt Ideal e) := inferInstance

/-- Under the first precondition the ids of the launch memory are in range. -/
theorem ok_ideal (m : (ℓ : Loc Cert.KernelIdeal.nD Cert.KernelIdeal.τ Cert.KernelIdeal.sig) → Buf (Elt Ideal) ℓ) (h : Cert.Pre_KernelIdeal m) :
    PoolIdeal.PreOK (F := Ideal) m := fun d j => Pre.ids_lt _ _ _ _ _ _ (h d) j

/-- Under the second one too. -/
theorem ok_ideal_zero (m : (ℓ : Loc Cert.KernelIdeal.nD Cert.KernelIdeal.τ Cert.KernelIdeal.sig) → Buf (Elt Ideal) ℓ)
    (h : Cert.Pre_KernelIdeal_ids_in_rows_pad_row_zero m) : PoolIdeal.PreOK (F := Ideal) m := fun d j => (Pre.both _ _ _ _ _ _ (h d)).1 j

/-- The idealized kernel's frame, for ids in range. -/
theorem frame_ideal : Cert.quiescent_KernelIdeal := fun m g h =>
  (θ_run Cert.KernelIdeal.defs _ _).mono (fun _ h => ⟨fun c => (h.1 c).1, h.2⟩) (PoolIdeal.run_main (F := Ideal) m g (ok_ideal m h))

/-- The idealized kernel's frame, for ids in range and a zero row 0. -/
theorem frame_ideal_zero : Cert.quiescent_KernelIdeal_pre_ids_in_rows_pad_row_zero := fun m g h =>
  (θ_run Cert.KernelIdeal.defs _ _).mono (fun _ h => ⟨fun c => (h.1 c).1, h.2⟩) (PoolIdeal.run_main (F := Ideal) m g (ok_ideal_zero m h))

/-- The reference's run: the arguments as they were; it declares no semaphore. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The same under the precondition. -/
theorem frame_reference_zero : Cert.quiescent_ReferenceIdeal_pre_ids_in_rows_pad_row_zero := fun m g _ => frame_reference m g trivial

end Cert.Proof

end
-- ==== Proof.HeadRow.lean ====
/-
  One row of the head in extended reals: its normalization, projection, activation and division by its norm, and how
  the operations on whole blocks read at one entry.
-/
module

public import Idealize.ShloMosaic.PureOps.Ideal.Laws
public import Idealize.ShloMosaic.Lib.MatmulPlain
public import Idealize.ShloMosaic.Lib.Pointwise.Reduce
public import Idealize.ShloMosaic.Lib.Pointwise.Index
public import Idealize.ShloMosaic.Lib.Pipeline.Value

@[expose] public section

noncomputable section

namespace Cert.Proof.HeadRow

open Idealize.ShloMosaic
open scoped BigOperators

/-- A row of 64 entries. -/
abbrev Row := Fin 64 → EReal

/-- The mean of a row. -/
def mean (x : Row) : EReal := Ideal.div (∑ k, x k) (Ideal.ofBits .f32 0x42800000#32)
/-- A row less its mean. -/
def cen (x : Row) : Row := fun k => x k - mean x
/-- The mean of the squares of a row less its mean. -/
def var (x : Row) : EReal := Ideal.div (∑ k, cen x k * cen x k) (Ideal.ofBits .f32 0x42800000#32)
/-- The normalized row. -/
def xn (γ β x : Row) : Row :=
  fun k => Ideal.div (cen x k) (Ideal.sqrt (var x + Ideal.ofBits .f32 0x3727C5AC#32)) * γ k + β k
/-- The projected row. -/
def proj (γ β : Row) (W : Fin 64 → Row) (b x : Row) : Row := fun j => (∑ k, xn γ β x k * W j k) + b j
/-- The quotient that the polynomial is taken of. -/
def tq (q : EReal) : EReal :=
  Ideal.div (Ideal.ofBits .f32 0x3F800000#32) (Ideal.ofBits .f32 0x3F800000#32 + Ideal.ofBits .f32 0x3EA7BA05#32 * max q (-q))
/-- The polynomial, with its five coefficients and no constant term. -/
def poly (t : EReal) : EReal :=
  ((((Ideal.ofBits .f32 0x3F87DC22#32 * t + Ideal.ofBits .f32 0xBFBA00E3#32) * t + Ideal.ofBits .f32 0x3FB5F0E3#32) * t
    + Ideal.ofBits .f32 0xBE91A98E#32) * t + Ideal.ofBits .f32 0x3E827906#32) * t
/-- The error function as the polynomial has it. -/
def erf (q : EReal) : EReal :=
  Ideal.sign q * (Ideal.ofBits .f32 0x3F800000#32 - poly (tq q) * Ideal.exp (-(q * q)))
/-- The activation of one entry. -/
def act (p : EReal) : EReal :=
  Ideal.ofBits .f32 0x3F000000#32 * p * (Ideal.ofBits .f32 0x3F800000#32 + erf (p * (((Real.sqrt 2)⁻¹ : ℝ) : EReal)))
/-- A row over its norm, which counts as the small constant where it is less. -/
def unit (g : Row) : Row :=
  fun j => Ideal.div (g j) (max (Ideal.sqrt (∑ k, g k * g k)) (Ideal.ofBits .f32 0x2B8CBCCC#32))
/-- The head of one row. -/
def head (γ β : Row) (W : Fin 64 → Row) (b x : Row) : Row := unit fun j => act (proj γ β W b x j)

/-! ## Two equations of extended reals -/

/-- The square of a number's size is the square of the number. -/
theorem size_sq (q : EReal) : max q (-q) * max q (-q) = q * q := by
  rcases max_choice q (-q) with h | h <;> rw [h]
  rw [neg_mul_neg]

/-- Less the size, times the size, is the negative of the square. -/
theorem neg_size_sq (q : EReal) : (0 - max q (-q)) * max q (-q) = -(q * q) := by
  rw [zero_sub, neg_mul, size_sq]

/-! ## Whole blocks at one entry -/

section Blocks
variable {n : Nat}

/-- The sum of a row of a block. -/
theorem kernel_sum (v : FVec Ideal ⟨2, ![n, 64]⟩ .f32) (h : (⟨2, ![n, 64]⟩ : Shape).Reduces [1] ⟨1, ![n]⟩)
    (hφ : FKind.Formats .f32) (hacc : (0x00000000#32 : BitVec FTy.f32.bits) = FKind.add.neutral .f32 hφ) (r : Fin n) :
    multiReduction .add [1] ⟨1, ![n]⟩ v 0x00000000#32 h hφ hacc (ix1 r) = ∑ k, v (ix2 r k) := by
  rw [multiReduction_add_apply, Ideal.reduceAdd_def, Ideal.reduceAdd_r2_a1]
  rfl

/-- The sum of a row of a whole array. -/
theorem host_sum (v : FVec Ideal ⟨2, ![n, 64]⟩ .f32) (h : (⟨2, ![n, 64]⟩ : Shape).ReducesTo [1] ⟨1, ![n]⟩) (hu : 0 < (⟨0, ![]⟩ : Shape).numel)
    (r : Fin n) : Host.reduceAdd v (constant ⟨0, ![]⟩ .f32 0x00000000#32) h hu (ix1 r) = ∑ k, v (ix2 r k) := by
  rw [Host.reduceAdd_apply, Ideal.hostReduceAdd_def, Ideal.hostReduceAdd_r2_a1]
  show Ideal.ofBits .f32 0x00000000#32 + _ = _
  rw [Ideal.ofBits_zero_f32, zero_add]
  rfl

end Blocks

end Cert.Proof.HeadRow

end
-- ==== Proof.HeadRun.lean ====
/-
  The kernel's run in extended reals: the result array holds, row by row, the head of the pooled rows.
-/
module

public import proofs.«01_k».proof.Proof.HeadVal
public import proofs.«01_k».proof.Proof.IdealMain
public import Idealize.ShloMosaic.Lib.Pipeline.Value
public import Idealize.ShloMosaic.Lib.Quiescent

@[expose] public section

noncomputable section

namespace Cert.Proof.HeadRun

open Cert.KernelIdeal Cert.KernelIdeal.Gen Cert.Proof.HeadRow Cert.Proof.HeadVal
open Idealize.ShloMosaic Idealize.ShloMosaic.TcCoe Idealize.SL.Sem
open Idealize.ShloMosaic.Pipeline (Dat)
open Cert.Proof.PoolIdeal (iblk dats out1_5 after1_5 POOL V6 V6_arg V6_o V6_g V6_b V6_c PreOK)
open scoped BigOperators

variable (m : (ℓ : Loc nD τ sig) → Buf (Elt Ideal) ℓ) (ρ : Dev nD → PrngReg)

/-- The head of the rows of a whole array. -/
def headArr (x : FVec Ideal S16384x64 .f32) (γ β : FVec Ideal S64 .f32) (w : FVec Ideal S64x64 .f32) (b : FVec Ideal S64 .f32) :
    FVec Ideal S16384x64 .f32 :=
  fun i => head (fun k => γ (ix1 k)) (fun k => β (ix1 k)) (fun j k => w (ix2 j k)) (fun k => b (ix1 k)) (fun k => x (ix2 (i 0 : Fin 16384) k)) (i 1 : Fin 64)

/-- The head of the pooled rows, from the arguments at launch. -/
abbrev OUTV (c : Dev nD) : Buf (Elt Ideal) ((c : Thread nD τ).loc main_v5) :=
  headArr (POOL (F := Ideal) m c) (m ((c : Thread nD τ).loc main_arg2)) (m ((c : Thread nD τ).loc main_arg3))
    (m ((c : Thread nD τ).loc main_arg4)) (m ((c : Thread nD τ).loc main_arg5))

/-- The offsets of a whole block are zero. -/
theorem hz : (![0, 0] : Fin 2 → Nat) = fun _ => 0 := funext fun a => by fin_cases a <;> rfl

/-- A list as one row. -/
theorem wide {α : Type} (v : S64.Idx → α) (h : S64.ShapeCasts S1x64) (k : Fin 64) : shapeCast S1x64 v h (ix2 (0 : Fin 1) k) = v (ix1 k) :=
  shapeCast_apply v h _ _ (by
    rw [Shape.rowMajor_val_two, Shape.rowMajor_val_one]
    show k.val = 0 * 64 + k.val
    omega)

/-- Which block of the array a grid point has. -/
theorem idx0 : ∀ t : Fin grid1.N, win1_0.index t 0 = t.val ∧ win1_0.index t 1 = 0 ∧ win1_5.index t 0 = t.val ∧ win1_5.index t 1 = 0 := by decide +kernel
/-- The other arguments have one block each. -/
theorem idxs : ∀ t : Fin grid1.N, win1_1.index t 0 = 0 ∧ win1_1.index t 1 = 0 ∧ win1_2.index t 0 = 0 ∧ win1_2.index t 1 = 0
    ∧ win1_3.index t 0 = 0 ∧ win1_3.index t 1 = 0 ∧ win1_4.index t 0 = 0 ∧ win1_4.index t 1 = 0 := by decide +kernel

/-- There are eight grid points. -/
theorem lt8 (t : Fin cfg1.N) : t.val < 8 := lt_of_lt_of_eq t.isLt N_1

/-- The array's row of a block's row. -/
abbrev grow (t : Fin cfg1.N) (r : Fin 2048) : Fin 16384 := ⟨2048 * t.val + r.val, by have := lt8 t; omega⟩

/-- The block of the pooled rows. -/
theorem blk0 (c : Dev nD) (t : Fin cfg1.N) (r : Fin 2048) (k : Fin 64) :
    iblk (V6 m) c 0 t (ix2 r k) = POOL (F := Ideal) m c (ix2 (grow t r) k) := by
  refine Eq.trans ?_ (congrFun (V6_o (F := Ideal) m c) (ix2 (grow t r) k))
  show V6 m c (Proc.devRef .tc main_v1) (((cfg1.win 0).blk t).view.emb (ix2 r k)) = _
  refine congrArg _ (funext fun a => Fin.ext ?_)
  match a with
  | ⟨0, _⟩ =>
    show win1_0.index t 0 * 2048 + 1 * r.val = 2048 * t.val + r.val
    rw [(idx0 t).1]; omega
  | ⟨1, _⟩ =>
    show win1_0.index t 1 * 64 + 1 * k.val = k.val
    rw [(idx0 t).2.1]; omega

/-- The third argument's one block. -/
theorem blk1 (c : Dev nD) (t : Fin cfg1.N) (k : Fin 64) :
    iblk (V6 m) c 1 t (ix2 (0 : Fin 1) k) = m ((c : Thread nD τ).loc main_arg2) (ix1 k) := by
  refine Eq.trans ?_ ((congrFun (V6_g (F := Ideal) m c) (ix2 (0 : Fin 1) k)).trans (wide _ _ k))
  show V6 m c (Proc.devRef .tc main_v2) (((cfg1.win 1).blk t).view.emb (ix2 (0 : Fin 1) k)) = _
  refine congrArg _ (funext fun a => Fin.ext ?_)
  match a with
  | ⟨0, _⟩ =>
    show win1_1.index t 0 * 1 + 1 * 0 = 0
    rw [(idxs t).1]
  | ⟨1, _⟩ =>
    show win1_1.index t 1 * 64 + 1 * k.val = k.val
    rw [(idxs t).2.1]; omega

/-- The fourth argument's one block. -/
theorem blk2 (c : Dev nD) (t : Fin cfg1.N) (k : Fin 64) :
    iblk (V6 m) c 2 t (ix2 (0 : Fin 1) k) = m ((c : Thread nD τ).loc main_arg3) (ix1 k) := by
  refine Eq.trans ?_ ((congrFun (V6_b (F := Ideal) m c) (ix2 (0 : Fin 1) k)).trans (wide _ _ k))
  show V6 m c (Proc.devRef .tc main_v3) (((cfg1.win 2).blk t).view.emb (ix2 (0 : Fin 1) k)) = _
  refine congrArg _ (funext fun a => Fin.ext ?_)
  match a with
  | ⟨0, _⟩ =>
    show win1_2.index t 0 * 1 + 1 * 0 = 0
    rw [(idxs t).2.2.1]
  | ⟨1, _⟩ =>
    show win1_2.index t 1 * 64 + 1 * k.val = k.val
    rw [(idxs t).2.2.2.1]; omega

/-- The fifth argument's one block. -/
theorem blk3 (c : Dev nD) (t : Fin cfg1.N) (j k : Fin 64) :
    iblk (V6 m) c 3 t (ix2 j k) = m ((c : Thread nD τ).loc main_arg4) (ix2 j k) := by
  refine Eq.trans ?_ (congrFun (V6_arg (F := Ideal) m c main_arg4 (by decide) (by decide) (by decide) (by decide) (by decide) (by decide)) (ix2 j k))
  show V6 m c (Proc.devRef .tc main_arg4) (((cfg1.win 3).blk t).view.emb (ix2 j k)) = _
  refine congrArg _ (funext fun a => Fin.ext ?_)
  match a with
  | ⟨0, _⟩ =>
    show win1_3.index t 0 * 64 + 1 * j.val = j.val
    rw [(idxs t).2.2.2.2.1]; omega
  | ⟨1, _⟩ =>
    show win1_3.index t 1 * 64 + 1 * k.val = k.val
    rw [(idxs t).2.2.2.2.2.1]; omega

/-- The sixth argument's one block. -/
theorem blk4 (c : Dev nD) (t : Fin cfg1.N) (k : Fin 64) :
    iblk (V6 m) c 4 t (ix2 (0 : Fin 1) k) = m ((c : Thread nD τ).loc main_arg5) (ix1 k) := by
  refine Eq.trans ?_ ((congrFun (V6_c (F := Ideal) m c) (ix2 (0 : Fin 1) k)).trans (wide _ _ k))
  show V6 m c (Proc.devRef .tc main_v4) (((cfg1.win 4).blk t).view.emb (ix2 (0 : Fin 1) k)) = _
  refine congrArg _ (funext fun a => Fin.ext ?_)
  match a with
  | ⟨0, _⟩ =>
    show win1_4.index t 0 * 1 + 1 * 0 = 0
    rw [(idxs t).2.2.2.2.2.2.1]
  | ⟨1, _⟩ =>
    show win1_4.index t 1 * 64 + 1 * k.val = k.val
    rw [(idxs t).2.2.2.2.2.2.2]; omega

/-- What the body leaves at a block's entry. -/
theorem out_at (c : Dev nD) (t : Fin cfg1.N) (r : Fin 2048) (j : Fin 64) :
    out1_5 (iblk (V6 m) c 0 t) (iblk (V6 m) c 1 t) (iblk (V6 m) c 2 t) (iblk (V6 m) c 3 t) (iblk (V6 m) c 4 t) (ix2 r j) = OUTV m c (ix2 (grow t r) j) := by
  unfold out1_5
  rw [View.canon_unit_zero hz, View.ld_unit_zero hz, View.ld_unit_zero hz, View.ld_unit_zero hz, View.ld_unit_zero hz, View.ld_unit_zero hz]
  refine (out_apply (iblk (V6 m) c 0 t) (iblk (V6 m) c 1 t) (iblk (V6 m) c 2 t) (iblk (V6 m) c 3 t) (iblk (V6 m) c 4 t) r j).trans ?_
  simp only [blk0, blk1, blk2, blk3, blk4]
  rfl

/-- What a grid point writes back is its block of the whole array's head. -/
theorem flushed_eq (c : Dev nD) (t : Fin cfg1.N) : (dats (V6 m) 8 0 c).flushed 5 t = ((cfg1.win 5).blk t).view.read (Elt Ideal) (OUTV m c) := by
  show (cfg1.win 5).cut (grid1.coords t) ((dats (V6 m) 8 0 c).after 5 t) = _
  rw [after1_5 (V6 m) 8 c t]
  funext y
  have ey : (y : S2048x64.Idx) = ix2 (y 0 : Fin 2048) (y 1 : Fin 64) := by
    funext a
    match a with
    | ⟨0, _⟩ => rfl
    | ⟨1, _⟩ => rfl
  refine (congrArg (out1_5 (iblk (V6 m) c 0 t) (iblk (V6 m) c 1 t) (iblk (V6 m) c 2 t) (iblk (V6 m) c 3 t) (iblk (V6 m) c 4 t)) ey).trans ?_
  refine (out_at m c t (y 0 : Fin 2048) (y 1 : Fin 64)).trans ?_
  show _ = OUTV m c (((cfg1.win 5).blk t).view.emb y)
  refine congrArg _ (funext fun a => Fin.ext ?_)
  match a with
  | ⟨0, _⟩ =>
    show 2048 * t.val + (y 0).val = win1_5.index t 0 * 2048 + 1 * (y 0).val
    rw [(idx0 t).2.2.1]; omega
  | ⟨1, _⟩ =>
    show (y 1).val = win1_5.index t 1 * 64 + 1 * (y 1).val
    rw [(idx0 t).2.2.2]; omega

/-- Which entries of the array a grid point's block has. -/
theorem mem_blk (t : Fin cfg1.N) (i : S16384x64.Idx) (h : t.val * 2048 ≤ (i 0 : Nat) ∧ (i 0 : Nat) < t.val * 2048 + 2048) :
    i ∈ ((cfg1.win 5).blk t).view.set := by
  show i ∈ ((View.whole main_v5).slice (win1_5.rect t)).set
  rw [View.set_slice_whole, Rect.mem_set_unit]
  intro a
  match a with
  | ⟨0, _⟩ =>
    show win1_5.index t 0 * 2048 ≤ (i 0 : Nat) ∧ (i 0 : Nat) < win1_5.index t 0 * 2048 + 2048
    rw [(idx0 t).2.2.1]; exact h
  | ⟨1, _⟩ =>
    show win1_5.index t 1 * 64 ≤ (i 1 : Nat) ∧ (i 1 : Nat) < win1_5.index t 1 * 64 + 64
    have h1 : (i 1 : Nat) < 64 := (i 1).isLt
    rw [(idx0 t).2.2.2]; omega

/-- The blocks cover the array. -/
theorem cover (i : S16384x64.Idx) : ∃ t : Fin cfg1.N, (cfg1.win 5).flush t = true ∧ i ∈ ((cfg1.win 5).blk t).view.set := by
  have h0 : (i 0 : Nat) < 16384 := (i 0).isLt
  have hN : cfg1.N = 8 := N_1
  refine ⟨⟨(i 0 : Nat) / 2048, by omega⟩, flush1_5 _, mem_blk _ i ?_⟩
  dsimp only
  omega

/-- The result array after the run. -/
theorem final (c : Dev nD) : (dats (V6 m) 8 0 c).arrAt 5 cfg1.N = OUTV m c :=
  (dats (V6 m) 8 0 c).arrAt_eq_of_cover 5 (OUTV m c) (fun t _ => flushed_eq m c t) cover

/-- The run: the result array holds the head of the pooled rows, and the arguments are unchanged. -/
theorem run (hpre : PreOK (F := Ideal) m) : θ_run defs (threads (F := Ideal)) ⟨m, fun _ => 0, ρ⟩ fun r => ∀ c : Dev nD,
      r.2.mem ((c : Thread nD τ).loc main_v5) = OUTV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).2.trans (final m c), (h.1 c).1⟩) (PoolIdeal.run_main (F := Ideal) m ρ hpre)

end Cert.Proof.HeadRun

end
-- ==== Proof.Sums.lean ====
/-
  The kernel's pooled value in extended reals: the accumulated lanes are the sum of the gathered rows, and the divisor
  is the number of nonzero ids, at least one.
-/
module

public import proofs.«01_k».proof.Proof.IdealBody
public import Idealize.ShloMosaic.PureOps.Ideal
public import Idealize.ShloMosaic.Lib.IdealHost
public import Idealize.ShloMosaic.Lib.ValueLayout

@[expose] public section

noncomputable section

namespace Cert.Proof.PoolIdeal

open Cert.KernelIdeal Cert.KernelIdeal.Gen
open Idealize.ShloMosaic
open Idealize.ShloMosaic.ValueIdx

/-! ## The accumulated lanes -/

/-- The accumulator after `k` ids is the sum of the gathered rows' lanes. -/
theorem accV_apply (tab : S1000000x128.Idx → Elt Ideal .f32) (row : ℕ → BitVec 32) (c : ℕ) (j : S16.Idx) :
    ∀ k, accV (F := Ideal) tab row c k j = ∑ l ∈ Finset.range k, (tab (tix (trow (row l)) (c + (j 0).val)) : EReal)
  | 0 => by rw [Finset.sum_range_zero]; exact Ideal.ofBits_zero_f32
  | k + 1 => by
    rw [Finset.sum_range_succ, ← accV_apply tab row c j k]
    rfl

/-! ## The count -/

/-- One for a nonzero id. -/
def bit (w : BitVec 32) : ℕ := if w = 0#32 then 0 else 1
/-- A mark is at most one. -/
theorem bit_le (w : BitVec 32) : bit w ≤ 1 := by unfold bit; split <;> omega

/-- The comparison with zero, as a number. -/
theorem ne_toNat (w : BitVec 32) : (IntOp.cmpi .ne w 0#32).toNat = bit w := by
  unfold bit IntOp.cmpi
  by_cases h : w = 0#32
  · subst h; rfl
  · rw [if_neg h]
    show (BitVec.ofBool (w != 0#32)).toNat = 1
    rw [show (w != 0#32) = true from bne_iff_ne.mpr h]; rfl

/-- A running sum of words is the sum of their values, modulo 2³². -/
theorem foldl_toNat {ι : Type} (f : ι → BitVec 32) : ∀ (l : List ι) (a : BitVec 32),
    (l.foldl (fun r k => IntOp.addi r (f k)) a).toNat = (a.toNat + (l.map fun k => (f k).toNat).sum) % 2 ^ 32
  | [], a => by simp [Nat.mod_eq_of_lt a.isLt]
  | k :: l, a => by
    rw [List.foldl_cons, foldl_toNat f l, List.map_cons, List.sum_cons]
    show ((a + f k).toNat + _) % _ = _
    rw [BitVec.toNat_add]
    omega

/-- The last lane of a running sum over sixteen lanes is their total. -/
theorem scan_last (v : IVec S16 32) : (scan .sum v (lane 15)).toNat = (∑ k ∈ Finset.range 16, (v (lane k)).toNat) % 2 ^ 32 := by
  have e : ((List.finRange 16).filter fun k => decide (0 < k.val ∧ k.val ≤ 15)) = [1, 2, 3, 4, 5, 6, 7, 8, 9, 10, 11, 12, 13, 14, 15] := by decide
  have hl : ∀ k : Fin 16, (Shape.ofLane (d := ![16]) k) = lane k.val := by
    intro k; funext a
    match a with
    | ⟨0, _⟩ => exact Fin.ext (Nat.mod_eq_of_lt k.isLt).symm
  have h := foldl_toNat (fun k : Fin 16 => v (lane k.val)) [1, 2, 3, 4, 5, 6, 7, 8, 9, 10, 11, 12, 13, 14, 15] (v (lane 0))
  have hf : (fun (r : BitVec 32) (k : Fin 16) => IntOp.addi r (v (Shape.ofLane (d := ![16]) k))) = fun r k => IntOp.addi r (v (lane k.val)) :=
    funext fun r => funext fun k => by rw [hl k]
  have h0 : scan .sum v (lane 15) = ((List.finRange 16).filter fun k => decide (0 < k.val ∧ k.val ≤ 15)).foldl
      (fun (r : BitVec 32) (k : Fin 16) => IntOp.addi r (v (Shape.ofLane (d := ![16]) k))) (v (Shape.ofLane (d := ![16]) (⟨0, by decide⟩ : Fin 16))) := rfl
  rw [h0, hf, e, hl ⟨0, by decide⟩]
  refine h.trans (congrArg (· % 2 ^ 32) ?_)
  simp only [Finset.sum_range_succ, Finset.sum_range_zero, List.map_cons, List.map_nil, List.sum_cons, List.sum_nil,
    show ((1 : Fin 16).val) = 1 from rfl, show ((2 : Fin 16).val) = 2 from rfl, show ((3 : Fin 16).val) = 3 from rfl, show ((4 : Fin 16).val) = 4 from rfl,
    show ((5 : Fin 16).val) = 5 from rfl, show ((6 : Fin 16).val) = 6 from rfl, show ((7 : Fin 16).val) = 7 from rfl, show ((8 : Fin 16).val) = 8 from rfl,
    show ((9 : Fin 16).val) = 9 from rfl, show ((10 : Fin 16).val) = 10 from rfl, show ((11 : Fin 16).val) = 11 from rfl, show ((12 : Fin 16).val) = 12 from rfl,
    show ((13 : Fin 16).val) = 13 from rfl, show ((14 : Fin 16).val) = 14 from rfl, show ((15 : Fin 16).val) = 15 from rfl]
  ring

/-- A count with the total of sixteen lanes added. -/
theorem add_scan (c v : IVec S16 32) (j : S16.Idx) (f : ℕ → ℕ) (hf : ∀ k ∈ Finset.range 16, (v (lane k)).toNat = f k) :
    (addi c (broadcast S16 (extractAt ![15] (scan .sum v) inpos_S16_p15)) j).toNat = ((c j).toNat + ∑ k ∈ Finset.range 16, f k) % 2 ^ 32 := by
  have hx : extractAt ![15] (scan .sum v) inpos_S16_p15 = scan .sum v (lane 15) :=
    congrArg (scan .sum v) (funext fun a => by match a with | ⟨0, _⟩ => rfl)
  have hs := scan_last v
  rw [hx]
  generalize scan .sum v (lane 15) = s at hs ⊢
  show (c j + s).toNat = _
  rw [BitVec.toNat_add, hs, Finset.sum_congr rfl hf, Nat.add_mod_mod]

/-- Sixteen ids read as one row, by lane. -/
theorem shapeCast_ids (w : Vec Ideal S1x16 .i32) (k : ℕ) : (shapeCast S16 w shapeCasts_S1x16_S16 : IVec S16 32) (lane k) = w (ix2 (0 : Fin 1) (⟨k % 16, Nat.mod_lt _ (by decide)⟩ : Fin 16)) := by
  have : lane k = ix1 (⟨k % 16, Nat.mod_lt _ (by decide)⟩ : Fin 16) := by
    funext a
    match a with
    | ⟨0, _⟩ => rfl
  rw [this]
  exact shapeCast_1a_a_apply _ _ _

/-- A number of zeros and ones is at most their count. -/
theorem sum_bit_le (g : ℕ → BitVec 32) (n : ℕ) : ∑ k ∈ Finset.range n, bit (g k) ≤ n := by
  simpa using Finset.sum_le_sum (s := Finset.range n) fun k _ => bit_le (g k)

/-- Sixteen ids more. -/
theorem cntStep_toNat (row : ℕ → BitVec 32) (o : ℕ) (c : IVec S16 32) (j : S16.Idx) (ho : o ≤ 200) (hc : (c j).toNat = ∑ l ∈ Finset.range o, bit (row l)) :
    (cntStep (F := Ideal) c (idsVec (F := Ideal) row o) j).toNat = ∑ l ∈ Finset.range (o + 16), bit (row l) := by
  unfold cntStep
  refine (add_scan c _ j (fun k => bit (row (o + k))) ?_).trans ?_
  · intro k hk
    have hk := Finset.mem_range.mp hk
    show (BitVec.setWidth 32 (IntOp.cmpi .ne ((shapeCast S16 (idsVec (F := Ideal) row o) shapeCasts_S1x16_S16 : IVec S16 32) (lane k)) 0#32)).toNat = _
    rw [shapeCast_ids, BitVec.toNat_setWidth, ne_toNat]
    show bit (row (o + k % 16)) % _ = _
    rw [Nat.mod_eq_of_lt hk, Nat.mod_eq_of_lt (lt_of_le_of_lt (bit_le _) (by decide))]
  · have h1 := sum_bit_le row o
    have h2 := sum_bit_le (fun k => row (o + k)) 16
    rw [hc, Finset.sum_range_add]
    exact Nat.mod_eq_of_lt (by omega)

/-- The last eight ids: the first eight of the sixteen read are masked. -/
theorem cntLast_toNat (row : ℕ → BitVec 32) (c : IVec S16 32) (j : S16.Idx) (hc : (c j).toNat = ∑ l ∈ Finset.range 192, bit (row l)) :
    (cntLast (F := Ideal) c (idsVec (F := Ideal) row 184) j).toNat = ∑ l ∈ Finset.range 200, bit (row l) := by
  have hi : ∀ k : Fin 16, IntOp.cmpi .sge (iota .scVector S16 32 [0] iota_S16_d0_w32_scVector (lane k.val)) 8#32 = if k.val < 8 then 0#1 else 1#1 := by decide
  unfold cntLast
  refine (add_scan c _ j (fun k => if k < 8 then 0 else bit (row (184 + k))) ?_).trans ?_
  · intro k hk
    have hk := Finset.mem_range.mp hk
    show (BitVec.setWidth 32 (IntOp.andi (IntOp.cmpi .ne ((shapeCast S16 (idsVec (F := Ideal) row 184) shapeCasts_S1x16_S16 : IVec S16 32) (lane k)) 0#32)
      (IntOp.cmpi .sge (iota .scVector S16 32 [0] iota_S16_d0_w32_scVector (lane k)) 8#32))).toNat = _
    rw [hi ⟨k, hk⟩, shapeCast_ids]
    show _ = if k < 8 then 0 else bit (row (184 + k))
    by_cases h8 : k < 8
    · rw [if_pos h8, if_pos h8]
      generalize IntOp.cmpi .ne _ _ = b
      revert b; decide
    · rw [if_neg h8, if_neg h8, show ∀ b : BitVec 1, IntOp.andi b 1#1 = b from by decide, BitVec.toNat_setWidth, ne_toNat]
      show bit (row (184 + k % 16)) % _ = _
      rw [Nat.mod_eq_of_lt hk, Nat.mod_eq_of_lt (lt_of_le_of_lt (bit_le _) (by decide))]
  · have h1 := sum_bit_le row 192
    have h2 := sum_bit_le (fun k => row (192 + k)) 8
    have h16 : (∑ k ∈ Finset.range 16, if k < 8 then 0 else bit (row (184 + k))) = ∑ k ∈ Finset.range 8, bit (row (192 + k)) := by
      rw [show (16 : ℕ) = 8 + 8 from rfl, Finset.sum_range_add, Finset.sum_eq_zero fun k hk => if_pos (Finset.mem_range.mp hk), Nat.zero_add]
      exact Finset.sum_congr rfl fun k hk => (if_neg (by omega)).trans (congrArg (fun n => bit (row n)) (by omega))
    rw [hc, h16, show (200 : ℕ) = 192 + 8 from rfl, Finset.sum_range_add]
    exact Nat.mod_eq_of_lt (by omega)

/-- The divisor: the number of nonzero ids, at least one. -/
theorem den_apply (row : ℕ → BitVec 32) (j : S16.Idx) :
    den (F := Ideal) row j = max ((((∑ l ∈ Finset.range 200, bit (row l) : ℕ) : ℝ)) : EReal) 1 := by
  have h0 : ((broadcast S16 0#32 : IVec S16 32) j).toNat = ∑ l ∈ Finset.range 0, bit (row l) := rfl
  have h := cntStep_toNat row _ _ j (by decide) h0
  have h := cntStep_toNat row _ _ j (by decide) h
  have h := cntStep_toNat row _ _ j (by decide) h
  have h := cntStep_toNat row _ _ j (by decide) h
  have h := cntStep_toNat row _ _ j (by decide) h
  have h := cntStep_toNat row _ _ j (by decide) h
  have h := cntStep_toNat row _ _ j (by decide) h
  have h := cntStep_toNat row _ _ j (by decide) h
  have h := cntStep_toNat row _ _ j (by decide) h
  have h := cntStep_toNat row _ _ j (by decide) h
  have h := cntStep_toNat row _ _ j (by decide) h
  have h := cntStep_toNat row _ _ j (by decide) h
  have h := cntLast_toNat row _ j h
  have hlt : ∑ k ∈ Finset.range 200, bit (row k) ≤ 200 := by
    simpa using Finset.sum_le_sum (s := Finset.range 200) fun k _ => bit_le (row k)
  unfold den denom
  refine congrArg₂ max ?_ Ideal.ofBits_one_f32
  refine congrArg (fun z : ℤ => ((z : ℝ) : EReal)) (a₂ := ((∑ l ∈ Finset.range 200, bit (row l) : ℕ) : ℤ)) ?_ |>.trans ?_
  · rw [← h]
    refine BitVec.toInt_eq_toNat_of_lt ?_
    rw [h]; omega
  · push_cast; rfl

end Cert.Proof.PoolIdeal

end
-- ==== Proof.RefVal.lean ====
/-
  The reference's value in extended reals: a row's sum of the table rows that its nonzero ids name, over their number,
  at least one.
-/
module

public import proofs.«01_k».proof.Proof.Sums
public import proofs.«01_k».proof.Proof.Gen.ReferenceIdeal.Run
public import Idealize.ShloMosaic.Lib.ReduceAll
public import Idealize.ShloMosaic.Lib.IdealHost
public import Idealize.ShloMosaic.Lib.Pointwise.Reduce
public import Idealize.ShloMosaic.Lib.Pipeline.Value

@[expose] public section

noncomputable section

namespace Cert.Proof.Ref

open Cert.ReferenceIdeal Cert.ReferenceIdeal.Gen
open Idealize.ShloMosaic
open Cert.Proof.PoolIdeal (bit ne_toNat)

/-- The ids with a negative one counted from the table's end, as a column of row numbers. -/
def START (ids : IVec S16384x200 32) : IVec S16384x200x1 32 :=
  broadcastInDim S16384x200x1 ![0, 1] bcast_S16384x200_S16384x200x1_0_1 (select (cmpi .slt ids (broadcastInDim S16384x200 ![] bcast_S_S16384x200 (constantI S_ 32 0#32)))
    (addi ids (broadcastInDim S16384x200 ![] bcast_S_S16384x200 (constantI S_ 32 1000000#32))) ids)
/-- Whether each row number is in the table. -/
def INSIDE (ids : IVec S16384x200 32) : IVec S16384x200 1 :=
  Host.reduce IntOp.andi (andi (cmpi .sge (START ids) (broadcastInDim S16384x200x1 ![] bcast_S_S16384x200x1 (constantI S_ 32 0#32)))
    (cmpi .sle (START ids) (broadcastInDim S16384x200x1 ![0, 1, 2] bcast_S1x1x1_S16384x200x1_0_1_2 (broadcastInDim S1x1x1 ![2] bcast_S1_S1x1x1_2 (constantI S1 32 999999#32)))))
    (constantI S_ 1 1#1) reducesTo_S16384x200x1_S16384x200_d2 h_S_
/-- The table rows that the ids name. -/
def ROWS (ids : IVec S16384x200 32) (tab : FVec Ideal S1000000x64 .f32) : FVec Ideal S16384x200x64 .f32 :=
  select (broadcastInDim S16384x200x64 ![0, 1] bcast_S16384x200_S16384x200x64_0_1 (INSIDE ids))
    (Host.gather gather_S1000000x64_S16384x200x1_S16384x200x64_2_0_n_n_0_2_164 tab (START ids))
    (broadcastInDim S16384x200x64 ![] bcast_S_S16384x200x64 (constant S_ .f32 0x7FC00000#32))
/-- One at a nonzero id, zero at another. -/
def MASK (ids : IVec S16384x200 32) : FVec Ideal S16384x200x1 .f32 :=
  uitofp .f32 (broadcastInDim S16384x200x1 ![0, 1] bcast_S16384x200_S16384x200x1_0_1 (cmpi .ne ids (broadcastInDim S16384x200 ![] bcast_S_S16384x200 (constantI S_ 32 0#32))))
/-- The reference's result. -/
def OUT (ids : IVec S16384x200 32) (tab : FVec Ideal S1000000x64 .f32) : FVec Ideal S16384x64 .f32 :=
  Host.divf (Host.reduceAdd (mulf (ROWS ids tab) (broadcastInDim S16384x200x64 ![0, 1, 2] bcast_S16384x200x1_S16384x200x64_0_1_2 (MASK ids)))
      (constant S_ .f32 0x00000000#32) reducesTo_S16384x200x64_S16384x64_d1 h_S_)
    (broadcastInDim S16384x64 ![0, 1] bcast_S16384x1_S16384x64_0_1 (maximumf (broadcastInDim S16384x1 ![] bcast_S_S16384x1 (id (constant S_ .f32 0x3F800000#32)))
      (Host.reduceAdd (MASK ids) (constant S_ .f32 0x00000000#32) reducesTo_S16384x200x1_S16384x1_d1 h_S_)))

variable (ids : IVec S16384x200 32) (tab : FVec Ideal S1000000x64 .f32)

/-- A word of a row number is not negative. -/
theorem not_neg (w : BitVec 32) (h : w.toNat < 1000000) : IntOp.cmpi .slt w 0#32 = 0#1 := by
  unfold IntOp.cmpi
  show BitVec.ofBool (w.slt 0#32) = 0#1
  rw [show w.slt 0#32 = false from by
    rw [BitVec.slt_eq_decide, decide_eq_false_iff_not, BitVec.toInt_eq_toNat_of_lt (by omega)]
    simp]
  rfl

/-- An id in range is its own row number. -/
theorem start_apply (h : ∀ j, (ids j).toNat < 1000000) (n : Fin 16384) (l : Fin 200) (u : Fin 1) : START ids (ix3 n l u) = ids (ix2 n l) := by
  show Scalar.select (IntOp.cmpi .slt (ids _) 0#32) _ (ids _) = _
  rw [not_neg _ (h _)]
  refine congrArg ids (funext fun a => Fin.ext ?_)
  match a with
  | ⟨0, _⟩ => rfl
  | ⟨1, _⟩ => rfl

/-- Every id in range is inside the table. -/
theorem inside_apply (h : ∀ j, (ids j).toNat < 1000000) (j : S16384x200.Idx) : INSIDE ids j = 1#1 := by
  refine Host.reduce_andi_one _ _ _ _ j rfl fun i => ?_
  have hi : START ids i = ids (ix2 (i 0) (i 1)) := by
    rw [← start_apply ids h (i 0) (i 1) (i 2)]
    refine congrArg (START ids) (funext fun a => ?_)
    match a with
    | ⟨0, _⟩ => rfl
    | ⟨1, _⟩ => rfl
    | ⟨2, _⟩ => rfl
  show IntOp.andi (IntOp.cmpi .sge (START ids i) 0#32) (IntOp.cmpi .sle (START ids i) 999999#32) = 1#1
  rw [hi]
  have hw := h (ix2 (i 0) (i 1))
  generalize ids (ix2 (i 0) (i 1)) = w at hw
  refine IntOp.andi_eq_one.2 ⟨?_, ?_⟩
  · rw [IntOp.cmpi_sge, BitVec.toInt_eq_toNat_of_lt (x := w) (by omega), BitVec.toInt_zero]
    exact Int.natCast_nonneg _
  · unfold IntOp.cmpi
    show BitVec.ofBool (w.sle 999999#32) = 1#1
    rw [show w.sle 999999#32 = true from by
      rw [BitVec.sle_eq_decide, decide_eq_true_eq, BitVec.toInt_eq_toNat_of_lt (by omega)]
      show (w.toNat : ℤ) ≤ 999999
      omega]
    rfl

/-- The gather of table rows, read at an index. -/
theorem gather_apply (st : IVec S16384x200x1 32) (n : Fin 16384) (l : Fin 200) (c : Fin 64) :
    Host.gather gather_S1000000x64_S16384x200x1_S16384x200x64_2_0_n_n_0_2_164 tab st (ix3 n l c)
      = tab (ix2 (⟨min (st (ix3 n l 0)).toInt.toNat 999999, by omega⟩ : Fin 1000000) c) := by
  unfold Host.gather
  refine congrArg tab (funext fun a => Fin.ext ?_)
  match a with
  | ⟨0, _⟩ =>
    show (gather_S1000000x64_S16384x200x1_S16384x200x64_2_0_n_n_0_2_164.start (ix3 n l c) st (0 : Fin 2)
      + gather_S1000000x64_S16384x200x1_S16384x200x64_2_0_n_n_0_2_164.batchCoord (ix3 n l c) (0 : Fin 2)
      + gather_S1000000x64_S16384x200x1_S16384x200x64_2_0_n_n_0_2_164.offCoord (ix3 n l c) (0 : Fin 2)) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x64_S16384x200x1_S16384x200x64_2_0_n_n_0_2_164.startIndexMap from List.mem_singleton.mpr rfl)]
    have hsi : gather_S1000000x64_S16384x200x1_S16384x200x64_2_0_n_n_0_2_164.siIdx (ix3 n l c)
        ⟨List.idxOf (0 : Fin 2) gather_S1000000x64_S16384x200x1_S16384x200x64_2_0_n_n_0_2_164.startIndexMap, List.idxOf_lt_length_iff.2 (List.mem_singleton.mpr rfl)⟩
          = ix3 n l 0 := by
      funext b; refine Fin.ext ?_
      match b with
      | ⟨0, _⟩ => rfl
      | ⟨1, _⟩ => rfl
      | ⟨2, _⟩ => rfl
    rw [hsi]
    rfl
  | ⟨1, _⟩ =>
    show (gather_S1000000x64_S16384x200x1_S16384x200x64_2_0_n_n_0_2_164.start (ix3 n l c) st (1 : Fin 2)
      + gather_S1000000x64_S16384x200x1_S16384x200x64_2_0_n_n_0_2_164.batchCoord (ix3 n l c) (1 : Fin 2)
      + gather_S1000000x64_S16384x200x1_S16384x200x64_2_0_n_n_0_2_164.offCoord (ix3 n l c) (1 : Fin 2)) = _
    rw [GatherDims.batchCoord_eq_zero _ _ _ List.not_mem_nil]
    unfold GatherDims.start
    rw [dif_neg (show (1 : Fin 2) ∉ gather_S1000000x64_S16384x200x1_S16384x200x64_2_0_n_n_0_2_164.startIndexMap from by decide)]
    simp only [Nat.add_zero, Nat.zero_add]
    rfl

/-- The row of an id in range. -/
theorem rows_apply (h : ∀ j, (ids j).toNat < 1000000) (n : Fin 16384) (l : Fin 200) (c : Fin 64) :
    ROWS ids tab (ix3 n l c) = tab (ix2 (⟨(ids (ix2 n l)).toNat, h _⟩ : Fin 1000000) c) := by
  have es : ∀ (P : IVec S16384x200 1) (q r : FVec Ideal S16384x200x64 .f32), (∀ j, P j = 1#1) →
      select (broadcastInDim S16384x200x64 ![0, 1] bcast_S16384x200_S16384x200x64_0_1 P) q r (ix3 n l c) = q (ix3 n l c) := by
    intro P q r hP
    unfold select broadcastInDim
    rw [hP]
    rfl
  refine (es _ _ _ (inside_apply ids h)).trans ?_
  rw [gather_apply]
  refine congrArg tab (congrArg (fun z : Fin 1000000 => ix2 z c) (Fin.ext ?_))
  have := h (ix2 n l)
  show min (START ids (ix3 n l 0)).toInt.toNat 999999 = (ids (ix2 n l)).toNat
  rw [start_apply ids h, BitVec.toInt_eq_toNat_of_lt (by omega)]
  omega

/-- The mask at an index. -/
theorem mask_apply (n : Fin 16384) (l : Fin 200) (u : Fin 1) : MASK ids (ix3 n l u) = (((bit (ids (ix2 n l)) : ℕ) : ℝ) : EReal) := by
  have e : ∀ x : S16384x200.Idx, x = ix2 n l → (((IntOp.cmpi .ne (ids x) 0#32).toNat : ℝ) : EReal) = (((bit (ids (ix2 n l)) : ℕ) : ℝ) : EReal) := by
    rintro x rfl; rw [ne_toNat]
  refine e _ (funext fun a => Fin.ext ?_)
  match a with
  | ⟨0, _⟩ => rfl
  | ⟨1, _⟩ => rfl

/-- A sum of counts, in extended reals. -/
theorem coe_sum {n : ℕ} (f : Fin n → ℕ) : ∑ l, (((f l : ℕ) : ℝ) : EReal) = (((∑ l, f l : ℕ) : ℝ) : EReal) := by
  induction n with
  | zero => simp
  | succ n ih => rw [Fin.sum_univ_castSucc, Fin.sum_univ_castSucc, ih]; push_cast; rfl

/-- The sum over the ids, at an index. -/
theorem sum_rows (v : FVec Ideal S16384x200x64 .f32) (z : FVec Ideal S_ .f32) (hz : ∀ j, z j = (0 : EReal)) (n : Fin 16384) (c : Fin 64) :
    Host.reduceAdd v z reducesTo_S16384x200x64_S16384x64_d1 h_S_ (ix2 n c) = ∑ l : Fin 200, (v (ix3 n l c) : EReal) := by
  rw [ValueIdx.hostReduceAdd_apply, hz]
  refine (Ideal.hostReduceAdd_r3_a1 _ v 0 (ix2 n c)).trans ?_
  rw [zero_add]
  rfl

/-- The same for the mask's column. -/
theorem sum_mask (v : FVec Ideal S16384x200x1 .f32) (z : FVec Ideal S_ .f32) (hz : ∀ j, z j = (0 : EReal)) (n : Fin 16384) (u : Fin 1) :
    Host.reduceAdd v z reducesTo_S16384x200x1_S16384x1_d1 h_S_ (ix2 n u) = ∑ l : Fin 200, (v (ix3 n l u) : EReal) := by
  rw [ValueIdx.hostReduceAdd_apply, hz]
  refine (Ideal.hostReduceAdd_r3_a1 _ v 0 (ix2 n u)).trans ?_
  rw [zero_add]
  rfl

/-- A column spread over the lanes. -/
theorem spread_mask (v : FVec Ideal S16384x200x1 .f32) (n : Fin 16384) (l : Fin 200) (c : Fin 64) :
    broadcastInDim S16384x200x64 ![0, 1, 2] bcast_S16384x200x1_S16384x200x64_0_1_2 v (ix3 n l c) = v (ix3 n l 0) := by
  unfold broadcastInDim
  refine congrArg v (funext fun a => Fin.ext ?_)
  match a with
  | ⟨0, _⟩ => rfl
  | ⟨1, _⟩ => rfl
  | ⟨2, _⟩ => rfl

/-- The count spread over the lanes. -/
theorem spread_count (v : FVec Ideal S16384x1 .f32) (n : Fin 16384) (c : Fin 64) :
    broadcastInDim S16384x64 ![0, 1] bcast_S16384x1_S16384x64_0_1 v (ix2 n c) = v (ix2 n 0) := by
  unfold broadcastInDim
  refine congrArg v (funext fun a => Fin.ext ?_)
  match a with
  | ⟨0, _⟩ => rfl
  | ⟨1, _⟩ => rfl

/-- The sums' initial value. -/
theorem zero_scalar (j : S_.Idx) : (constant (F := Ideal) S_ .f32 0x00000000#32) j = (0 : EReal) := Ideal.ofBits_zero_f32

/-- The larger of a scalar and a vector. -/
theorem max_scalar (z : FVec Ideal S_ .f32) (k : EReal) (hz : ∀ j, z j = k) (v : FVec Ideal S16384x1 .f32) (j : S16384x1.Idx) :
    maximumf (broadcastInDim S16384x1 ![] bcast_S_S16384x1 z) v j = max k (v j) := by
  unfold maximumf broadcastInDim
  rw [hz]
  rfl

/-- A product at an index. -/
theorem mul_apply (a b : FVec Ideal S16384x200x64 .f32) (j : S16384x200x64.Idx) : mulf a b j = (a j * b j : EReal) := rfl

/-- The reference's result for ids in range and a zero row 0: a zero id's row adds nothing. -/
theorem out_apply (h : ∀ j, (ids j).toNat < 1000000) (hz : ∀ c : Fin 64, tab (ix2 (⟨0, by decide⟩ : Fin 1000000) c) = (0 : EReal)) (n : Fin 16384) (c : Fin 64) :
    OUT ids tab (ix2 n c) = Ideal.div (∑ l : Fin 200, (tab (ix2 (⟨(ids (ix2 n l)).toNat, h _⟩ : Fin 1000000) c) : EReal))
      (max (((∑ l : Fin 200, bit (ids (ix2 n l)) : ℕ) : ℝ) : EReal) 1) := by
  unfold OUT
  rw [ValueIdx.hostDivf_apply, sum_rows _ _ zero_scalar, spread_count, max_scalar (id (constant S_ .f32 0x3F800000#32)) 1 (fun _ => Ideal.ofBits_one_f32), sum_mask _ _ zero_scalar, max_comm]
  refine congrArg₂ Ideal.div (Finset.sum_congr rfl fun l _ => ?_) (congrArg (max · (1 : EReal)) ?_)
  · rw [mul_apply, rows_apply ids tab h, spread_mask, mask_apply]
    by_cases h0 : ids (ix2 n l) = 0#32
    · have hr : (tab (ix2 (⟨(ids (ix2 n l)).toNat, h _⟩ : Fin 1000000) c) : EReal) = 0 := by
        rw [← hz c]
        refine congrArg tab (congrArg (fun z : Fin 1000000 => ix2 z c) (Fin.ext ?_))
        show (ids (ix2 n l)).toNat = 0
        rw [h0]; rfl
      rw [hr, zero_mul]
    · rw [show bit (ids (ix2 n l)) = 1 from if_neg h0, Nat.cast_one, EReal.coe_one, mul_one]
  · rw [Finset.sum_congr rfl fun l _ => mask_apply ids n l 0]
    exact coe_sum (fun l => bit (ids (ix2 n l)))

end Cert.Proof.Ref

end
-- ==== Proof.HeadRef.lean ====
/-
  The reference in extended reals: row by row, the same head of the pooled rows.
-/
module

public import proofs.«01_k».proof.Proof.HeadRun
public import proofs.«01_k».proof.Proof.RefVal
public import proofs.«01_k».proof.Proof.Gen.ReferenceIdeal.Run
public import Idealize.ShloMosaic.Lib.StackMember

@[expose] public section

noncomputable section

namespace Cert.Proof.HeadRef

open Cert.ReferenceIdeal Cert.ReferenceIdeal.Gen Cert.Proof.HeadRow
open Idealize.ShloMosaic Idealize.ShloMosaic.TcCoe Idealize.ShloMosaic.StableHlo
open scoped BigOperators

/-- One number at every entry of a column. -/
abbrev colc (b : BitVec 32) : FVec Ideal S16384x1 .f32 := broadcastInDim S16384x1 ![] bcast_S_S16384x1 (constant (F := Ideal) S_ .f32 b)
/-- One number at every entry of an array. -/
abbrev arrc (b : BitVec 32) : FVec Ideal S16384x64 .f32 := broadcastInDim S16384x64 ![] bcast_S_S16384x64 (constant (F := Ideal) S_ .f32 b)
/-- A column along the rows. -/
abbrev spread (v : FVec Ideal S16384x1 .f32) : FVec Ideal S16384x64 .f32 := broadcastInDim S16384x64 ![0, 1] bcast_S16384x1_S16384x64_0_1 v
/-- The sums of the rows, as a column. -/
def rsum (v : FVec Ideal S16384x64 .f32) : FVec Ideal S16384x1 .f32 :=
  broadcastInDim S16384x1 ![0] bcast_S16384_S16384x1_0 (Host.reduceAdd v (constant S_ .f32 0x00000000#32) reducesTo_S16384x64_S16384_d1 h_S_)
/-- The means of the rows. -/
def rmean (v : FVec Ideal S16384x64 .f32) : FVec Ideal S16384x1 .f32 := Host.divf (rsum v) (colc 0x42800000#32)
/-- The array less its rows' means. -/
def rcen (v : FVec Ideal S16384x64 .f32) : FVec Ideal S16384x64 .f32 := subf v (spread (rmean v))
/-- The roots of the rows' variances. -/
def rdev (v : FVec Ideal S16384x64 .f32) : FVec Ideal S16384x1 .f32 :=
  Host.sqrt (addf (rmean (mulf (rcen v) (rcen v))) (colc 0x3727C5AC#32))
/-- A list along the rows. -/
def rrow (v : FVec Ideal S64 .f32) : FVec Ideal S16384x64 .f32 :=
  broadcastInDim S16384x64 ![0, 1] bcast_S1x64_S16384x64_0_1 (broadcastInDim S1x64 ![1] bcast_S64_S1x64_1 v)
/-- The normalized array. -/
def rnorm (x : FVec Ideal S16384x64 .f32) (γ β : FVec Ideal S64 .f32) : FVec Ideal S16384x64 .f32 :=
  addf (mulf (Host.divf (rcen x) (spread (rdev x))) (rrow γ)) (rrow β)
/-- The projected array. -/
def rproj (x : FVec Ideal S16384x64 .f32) (γ β : FVec Ideal S64 .f32) (w : FVec Ideal S64x64 .f32) (b : FVec Ideal S64 .f32) : FVec Ideal S16384x64 .f32 :=
  addf (Host.dotGeneral dot_S16384x64_S64x64_S16384x64_1_0_0_1_n_n none (rnorm x γ β) (transpose S64x64 [1, 0] w transposes_S64x64_S64x64_1_0)) (rrow b)
/-- The array over the square root of two. -/
def rq (p : FVec Ideal S16384x64 .f32) : FVec Ideal S16384x64 .f32 :=
  Host.divf p (broadcastInDim S16384x64 ![] bcast_S_S16384x64 (id (Host.sqrt (constant (F := Ideal) S_ .f32 0x40000000#32))))
/-- The quotient that the polynomial is taken of. -/
def rt (q : FVec Ideal S16384x64 .f32) : FVec Ideal S16384x64 .f32 :=
  Host.divf (arrc 0x3F800000#32) (addf (arrc 0x3F800000#32) (mulf (arrc 0x3EA7BA05#32) (Host.absf q)))
/-- The polynomial. -/
def rpoly (t : FVec Ideal S16384x64 .f32) : FVec Ideal S16384x64 .f32 :=
  mulf (addf (mulf (addf (mulf (addf (mulf (addf (mulf (arrc 0x3F87DC22#32) t) (arrc 0xBFBA00E3#32)) t) (arrc 0x3FB5F0E3#32)) t) (arrc 0xBE91A98E#32)) t)
    (arrc 0x3E827906#32)) t
/-- The activations. -/
def ract (p : FVec Ideal S16384x64 .f32) : FVec Ideal S16384x64 .f32 :=
  mulf (mulf (arrc 0x3F000000#32) p) (addf (arrc 0x3F800000#32) (mulf (Host.sign (rq p)) (subf (arrc 0x3F800000#32)
    (mulf (rpoly (rt (rq p))) (Host.exp (Host.negf (mulf (rq p) (rq p))))))))
/-- The rows' norms, or the small constant where it is more. -/
def rden (g : FVec Ideal S16384x64 .f32) : FVec Ideal S16384x1 .f32 :=
  maximumf (broadcastInDim S16384x1 ![] bcast_S_S16384x1 (id (constant (F := Ideal) S_ .f32 0x2B8CBCCC#32))) (Host.sqrt (rsum (mulf g g)))
/-- The rows, each over its norm. -/
def rnrm (g : FVec Ideal S16384x64 .f32) : FVec Ideal S16384x64 .f32 := Host.divf g (spread (rden g))

/-- A column along the rows, read at an entry. -/
theorem spread_apply (v : FVec Ideal S16384x1 .f32) (n : Fin 16384) (k : Fin 64) : spread v (ix2 n k) = v (ix2 n (0 : Fin 1)) :=
  broadcastInDim_apply _ bcast_S16384x1_S16384x64_0_1 v _ _ fun a => match a with | ⟨0, _⟩ => rfl | ⟨1, _⟩ => rfl
/-- A row's sum. -/
theorem rsum_apply (v : FVec Ideal S16384x64 .f32) (n : Fin 16384) : rsum v (ix2 n (0 : Fin 1)) = ∑ k, v (ix2 n k) :=
  (broadcastInDim_apply _ bcast_S16384_S16384x1_0 _ _ (ix1 n) fun a => match a with | ⟨0, _⟩ => rfl).trans
    (host_sum v reducesTo_S16384x64_S16384_d1 h_S_ n)
/-- A row's mean. -/
theorem rmean_apply (v : FVec Ideal S16384x64 .f32) (n : Fin 16384) : rmean v (ix2 n (0 : Fin 1)) = mean fun k => v (ix2 n k) := by
  show Ideal.div (rsum v (ix2 n (0 : Fin 1))) (Ideal.ofBits .f32 0x42800000#32) = _
  rw [rsum_apply]
  rfl
/-- An entry less its row's mean. -/
theorem rcen_apply (v : FVec Ideal S16384x64 .f32) (n : Fin 16384) (k : Fin 64) : rcen v (ix2 n k) = cen (fun k => v (ix2 n k)) k := by
  show v (ix2 n k) - spread (rmean v) (ix2 n k) = _
  rw [spread_apply, rmean_apply]
  rfl
/-- The root of a row's variance. -/
theorem rdev_apply (v : FVec Ideal S16384x64 .f32) (n : Fin 16384) :
    rdev v (ix2 n (0 : Fin 1)) = Ideal.sqrt (var (fun k => v (ix2 n k)) + Ideal.ofBits .f32 0x3727C5AC#32) := by
  show Ideal.sqrt (rmean (mulf (rcen v) (rcen v)) (ix2 n (0 : Fin 1)) + Ideal.ofBits .f32 0x3727C5AC#32) = _
  rw [rmean_apply]
  show Ideal.sqrt (mean (fun k => rcen v (ix2 n k) * rcen v (ix2 n k)) + _) = _
  simp only [rcen_apply]
  rfl
/-- A list along the rows, read at an entry. -/
theorem rrow_apply (v : FVec Ideal S64 .f32) (n : Fin 16384) (k : Fin 64) : rrow v (ix2 n k) = v (ix1 k) :=
  (broadcastInDim_apply _ bcast_S1x64_S16384x64_0_1 _ _ (ix2 (0 : Fin 1) k) fun a => match a with | ⟨0, _⟩ => rfl | ⟨1, _⟩ => rfl).trans
    (broadcastInDim_apply _ bcast_S64_S1x64_1 v _ (ix1 k) fun a => match a with | ⟨0, _⟩ => rfl)
/-- The product with a matrix's rows. -/
theorem rdot (l : FVec Ideal S16384x64 .f32) (w : FVec Ideal S64x64 .f32) (n : Fin 16384) (j : Fin 64) :
    Host.dotGeneral dot_S16384x64_S64x64_S16384x64_1_0_0_1_n_n none l (transpose S64x64 [1, 0] w transposes_S64x64_S64x64_1_0) (ix2 n j)
      = ∑ k, l (ix2 n k) * w (ix2 j k) := by
  refine (StackMember.dotGeneral_plain_apply none l (transpose S64x64 [1, 0] w transposes_S64x64_S64x64_1_0) n j).trans ?_
  refine Finset.sum_congr rfl fun k _ => ?_
  refine congrArg₂ (· * ·) rfl ?_
  refine congrArg w (funext fun a => Fin.ext ?_)
  match a with
  | ⟨0, _⟩ => rfl
  | ⟨1, _⟩ => rfl

variable (x : FVec Ideal S16384x64 .f32) (γ β : FVec Ideal S64 .f32) (w : FVec Ideal S64x64 .f32) (b : FVec Ideal S64 .f32)

/-- The normalized array at an entry. -/
theorem rnorm_apply (n : Fin 16384) (k : Fin 64) :
    rnorm x γ β (ix2 n k) = xn (fun k => γ (ix1 k)) (fun k => β (ix1 k)) (fun k => x (ix2 n k)) k := by
  show Ideal.div (rcen x (ix2 n k)) (spread (rdev x) (ix2 n k)) * rrow γ (ix2 n k) + rrow β (ix2 n k) = _
  rw [rcen_apply, spread_apply, rdev_apply, rrow_apply, rrow_apply]
  rfl
/-- The projected array at an entry. -/
theorem rproj_apply (n : Fin 16384) (j : Fin 64) :
    rproj x γ β w b (ix2 n j)
      = proj (fun k => γ (ix1 k)) (fun k => β (ix1 k)) (fun j k => w (ix2 j k)) (fun k => b (ix1 k)) (fun k => x (ix2 n k)) j := by
  show Host.dotGeneral dot_S16384x64_S64x64_S16384x64_1_0_0_1_n_n none (rnorm x γ β) (transpose S64x64 [1, 0] w transposes_S64x64_S64x64_1_0) (ix2 n j)
    + rrow b (ix2 n j) = _
  rw [rdot, rrow_apply]
  simp only [rnorm_apply]
  rfl

/-- The constant two. -/
theorem two : Ideal.ofBits .f32 0x40000000#32 = ((2 : ℝ) : EReal) := by
  simp [Ideal.ofBits, Ideal.ieee, -EReal.coe_mul]; norm_num

/-- Over the square root of two is times its inverse. -/
theorem rq_apply (p : FVec Ideal S16384x64 .f32) (i : S16384x64.Idx) : rq p i = p i * (((Real.sqrt 2)⁻¹ : ℝ) : EReal) := by
  show Ideal.div (p i) (Ideal.sqrt (Ideal.ofBits .f32 0x40000000#32)) = _
  rw [two, Ideal.sqrt_coe, if_neg (by norm_num), Ideal.div_coe (Real.sqrt_pos.mpr (by norm_num)).ne', one_div]

/-- The activations at one entry. -/
theorem ract_apply (p : FVec Ideal S16384x64 .f32) (i : S16384x64.Idx) : ract p i = act (p i) := by
  have h : ∀ q : FVec Ideal S16384x64 .f32, q i = p i * (((Real.sqrt 2)⁻¹ : ℝ) : EReal) →
      mulf (mulf (arrc 0x3F000000#32) p) (addf (arrc 0x3F800000#32) (mulf (Host.sign q) (subf (arrc 0x3F800000#32)
        (mulf (rpoly (rt q)) (Host.exp (Host.negf (mulf q q))))))) i = act (p i) := by
    intro q hq
    unfold act
    rw [← hq]
    rfl
  exact h (rq p) (rq_apply p i)

/-- A maximum, read at an entry. -/
theorem max_at (v w : FVec Ideal S16384x1 .f32) (i : S16384x1.Idx) : maximumf v w i = max (v i : EReal) (w i : EReal) := rfl
/-- A root, read at an entry. -/
theorem sqrt_at (v : FVec Ideal S16384x1 .f32) (i : S16384x1.Idx) : Host.sqrt v i = Ideal.sqrt (v i) := rfl
/-- A quotient, read at an entry. -/
theorem div_at (v w : FVec Ideal S16384x64 .f32) (i : S16384x64.Idx) : Host.divf v w i = Ideal.div (v i) (w i) := rfl
/-- A constant column, read at an entry. -/
theorem const_at (z : BitVec 32) (i : S16384x1.Idx) :
    broadcastInDim S16384x1 ![] bcast_S_S16384x1 (id (constant (F := Ideal) S_ .f32 z)) i = Ideal.ofBits .f32 z := rfl

/-- A row over its norm at one entry. -/
theorem rnrm_apply (g : FVec Ideal S16384x64 .f32) (n : Fin 16384) (j : Fin 64) : rnrm g (ix2 n j) = unit (fun j => g (ix2 n j)) j := by
  unfold rnrm rden
  rw [div_at, spread_apply, max_at, const_at, sqrt_at, rsum_apply, max_comm]
  rfl

/-- The reference's pooled rows. -/
theorem pool_eq (V : Valuation τ sig (Elt Ideal)) :
    Cert.ReferenceIdeal.Value.res_main_v11 (F := Ideal) V
      = Ref.OUT (V (Proc.devRef .tc main_arg0)) (V (Proc.devRef .tc main_arg1)) := rfl

/-- The reference's projected rows. -/
theorem proj_eq (V : Valuation τ sig (Elt Ideal)) :
    Cert.ReferenceIdeal.Value.res_main_v40 (F := Ideal) V
      = rproj (Cert.ReferenceIdeal.Value.res_main_v11 (F := Ideal) V) (V (Proc.devRef .tc main_arg2)) (V (Proc.devRef .tc main_arg3))
          (V (Proc.devRef .tc main_arg4)) (V (Proc.devRef .tc main_arg5)) := by
  unfold Cert.ReferenceIdeal.Value.res_main_v40 Cert.ReferenceIdeal.Value.res_main_v17 Cert.ReferenceIdeal.Value.res_main_v15
  generalize Cert.ReferenceIdeal.Value.res_main_v11 (F := Ideal) V = x
  rfl

/-- The reference's activations. -/
theorem act_eq (V : Valuation τ sig (Elt Ideal)) :
    Cert.ReferenceIdeal.Value.res_main_v78 (F := Ideal) V = ract (Cert.ReferenceIdeal.Value.res_main_v40 (F := Ideal) V) := by
  unfold Cert.ReferenceIdeal.Value.res_main_v78 Cert.ReferenceIdeal.Value.res_main_v53 Cert.ReferenceIdeal.Value.res_main_v46
  generalize Cert.ReferenceIdeal.Value.res_main_v40 (F := Ideal) V = x
  rfl

/-- The reference's result, in layers. -/
theorem res_eq (m : (ℓ : Loc nD τ sig) → Buf (Elt Ideal) ℓ) (c : Dev nD) :
    rnrm (Cert.ReferenceIdeal.Value.res_main_v78 (F := Ideal) (launchContents m c))
      = rnrm (ract (rproj (Ref.OUT (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5)))) := by
  rw [act_eq, proj_eq, pool_eq]

/-- The layers are the head of the rows. -/
theorem layers_eq : rnrm (ract (rproj x γ β w b)) = HeadRun.headArr x γ β w b := by
  have h : ∀ (n : Fin 16384) (j : Fin 64), rnrm (ract (rproj x γ β w b)) (ix2 n j) = HeadRun.headArr x γ β w b (ix2 n j) := by
    intro n j
    rw [rnrm_apply]
    simp only [ract_apply, rproj_apply]
    rfl
  funext i
  have ei : i = ix2 (i 0 : Fin 16384) (i 1 : Fin 64) := by
    funext a
    match a with
    | ⟨0, _⟩ => rfl
    | ⟨1, _⟩ => rfl
  rw [ei]
  exact h (i 0 : Fin 16384) (i 1 : Fin 64)

end Cert.Proof.HeadRef

end
-- ==== Proof.Algebraic.lean ====
/-
  The idealized kernel and the reference leave the same result: both give, for ids in range and a zero row 0 of the table,
  the head of the pooled rows, a pooled row being the sum of the table rows its ids name over the number of its nonzero
  ids, at least one.
-/
module

public import proofs.«01_k».proof.Proof.FramesIdeal
public import proofs.«01_k».proof.Proof.HeadRef

@[expose] public section

noncomputable section

namespace Cert.Proof

open Idealize.ShloMosaic Idealize.SL.Sem
open Cert.Proof.PoolIdeal (bit)

attribute [local instance] Cert.KernelIdeal.Gen.facts Cert.ReferenceIdeal.Gen.facts Pre.facts₁ Pre.facts₂

/-- The padded table in one of the table's own lanes. -/
theorem pad_apply (x : FVec Ideal Cert.KernelIdeal.S1000000x64 .f32) (r : Fin 1000000) (k : ℕ) (c : Fin 64) (hk : k = c.val) :
    PoolIdeal.PAD (F := Ideal) x (PoolIdeal.tix r k) = x (ix2 r c) := by
  subst hk
  unfold PoolIdeal.PAD pad
  have hc := c.isLt
  rw [dif_pos (by
    intro a
    match a with
    | ⟨0, _⟩ => exact ⟨Nat.zero_le _, Nat.mod_one _, (Nat.div_one _).trans_lt r.isLt⟩
    | ⟨1, _⟩ => exact ⟨Nat.zero_le _, Nat.mod_one _, (Nat.div_one _).trans_lt (show c.val % 128 - 0 < 64 by omega)⟩)]
  refine congrArg x (funext fun a => Fin.ext ?_)
  match a with
  | ⟨0, _⟩ => simp [PoolIdeal.tix, ix2]
  | ⟨1, _⟩ => simp [PoolIdeal.tix, ix2]; omega

/-- The kernel's value: the same quotient. -/
theorem pool_apply (ids : IVec Cert.KernelIdeal.S16384x200 32) (tab : FVec Ideal Cert.KernelIdeal.S1000000x64 .f32) (h : ∀ j, (ids j).toNat < 1000000)
    (n : Fin 16384) (c : Fin 64) :
    PoolIdeal.RES (F := Ideal) (PoolIdeal.PAD tab) ids (ix2 n c) = Ideal.div (∑ l : Fin 200, (tab (ix2 (⟨(ids (ix2 n l)).toNat, h _⟩ : Fin 1000000) c) : EReal))
      (max (((∑ l : Fin 200, bit (ids (ix2 n l)) : ℕ) : ℝ) : EReal) 1) := by
  have hg : ∀ l : Fin 200, PoolIdeal.gix n.val l.val = ix2 n l := fun l => funext fun a => Fin.ext (by
    match a with
    | ⟨0, _⟩ => exact Nat.mod_eq_of_lt n.isLt
    | ⟨1, _⟩ => exact Nat.mod_eq_of_lt l.isLt)
  show Ideal.div (PoolIdeal.accV (F := Ideal) (PoolIdeal.PAD tab) (fun l => ids (PoolIdeal.gix n.val l)) (16 * (c.val / 16)) 200 (PoolIdeal.lane c.val))
    (PoolIdeal.den (F := Ideal) (fun l => ids (PoolIdeal.gix n.val l)) (PoolIdeal.lane c.val)) = _
  rw [PoolIdeal.accV_apply, PoolIdeal.den_apply, Finset.sum_range, Finset.sum_range]
  refine congrArg₂ Ideal.div (Finset.sum_congr rfl fun l _ => ?_) (congrArg (fun k : ℕ => max (((k : ℝ)) : EReal) 1) (Finset.sum_congr rfl fun l _ => ?_))
  · rw [pad_apply tab _ _ c (by
      show 16 * (c.val / 16) + c.val % 16 = c.val
      omega)]
    refine congrArg tab (congrArg (fun z : Fin 1000000 => ix2 z c) (Fin.ext ?_))
    rw [PoolIdeal.trow_val (h _), hg]
  · rw [hg]

/-- The two pooled arrays are one. -/
theorem value_eq (ids : IVec Cert.KernelIdeal.S16384x200 32) (tab : FVec Ideal Cert.KernelIdeal.S1000000x64 .f32)
    (γ β : FVec Ideal Cert.KernelIdeal.S64 .f32) (w : FVec Ideal Cert.KernelIdeal.S64x64 .f32) (b : FVec Ideal Cert.KernelIdeal.S64 .f32)
    (h : Cert.Pre_ids_in_rows_pad_row_zero.fn (F := Ideal) ids tab γ β w b = fun _ => 1#1) :
    Ref.OUT ids tab = PoolIdeal.RES (F := Ideal) (PoolIdeal.PAD tab) ids := by
  obtain ⟨h1, h2⟩ := Pre.both ids tab γ β w b h
  have hz : ∀ c : Fin 64, tab (ix2 (⟨0, by decide⟩ : Fin 1000000) c) = (0 : EReal) := by
    intro c
    have e := h2 c
    have hi : (ValueIdx.ix2 (⟨0, by decide⟩ : Fin 1000000) c : Cert.KernelIdeal.S1000000x64.Idx) = ix2 (⟨0, by decide⟩ : Fin 1000000) c := by
      funext a
      match a with
      | ⟨0, _⟩ => rfl
      | ⟨1, _⟩ => rfl
    rw [hi] at e
    have e' : BitVec.ofBool (decide ((tab (ix2 (⟨0, by decide⟩ : Fin 1000000) c) : EReal) = Ideal.ofBits .f32 0#32)) = 1#1 := e
    rw [Ideal.ofBits_zero_f32] at e'
    by_contra hne
    rw [decide_eq_false hne] at e'
    exact absurd e' (by decide)
  funext x
  have hx : x = ix2 (x 0) (x 1) := by
    funext a
    match a with
    | ⟨0, _⟩ => rfl
    | ⟨1, _⟩ => rfl
  rw [hx]
  exact (Ref.out_apply ids tab h1 hz (x 0) (x 1)).trans (pool_apply ids tab h1 (x 0) (x 1)).symm

/-- Naming the constant, and reading the sign by a comparison, are sound. -/
theorem preserves : Cert.preserves_Kernel_KernelIdeal :=
  ⟨IdealRules.named_const.statement Cert.KernelIdeal.κ "inv_sqrt2" .f32 0x3F3504F3#32 (((Real.sqrt 2)⁻¹ : ℝ) : EReal) rfl,
    IdealRules.sign_bit.statement Cert.KernelIdeal.S2048x64 .f32⟩

/-- The idealized kernel refines the reference. -/
theorem algebraic : Cert.algebraic_KernelIdeal_ReferenceIdeal_pre_ids_in_rows_pad_row_zero := by
  intro m g m' g' hpre hagree
  refine ⟨fun c => HeadRun.OUTV m c, HeadRun.run m g (ok_ideal_zero m hpre), ?_⟩
  refine (θ_run Cert.ReferenceIdeal.defs _ _).mono (fun _ h c => ⟨(h c).1.trans ?_, (h c).2⟩) (Cert.ReferenceIdeal.Value.run (F := Ideal) m' g')
  refine (HeadRef.res_eq m' c).trans ((HeadRef.layers_eq _ _ _ _ _).trans ?_)
  obtain ⟨h0, h1, h2, h3, h4, h5⟩ := hagree c
  rw [h0, h1, h2, h3, h4, h5]
  exact congrArg (fun x => HeadRun.headArr x _ _ _ _) (value_eq _ _ _ _ _ _ (hpre c))

end Cert.Proof

end
-- ==== Proof.HeadCallVal.lean ====
/-
  The head's kernel in extended reals: what its body stores is, row by row, the head of the block's rows.
-/
module

public import proofs.«01_k».proof.Proof.HeadRow
public import proofs.«01_k».proof.Proof.Gen.HeadIdeal.Frame

@[expose] public section

noncomputable section

namespace Cert.Proof.HeadCallVal

open Cert.HeadIdeal Cert.HeadIdeal.Gen Cert.Proof.HeadRow
open Idealize.ShloMosaic
open scoped BigOperators

/-- A column over a block's rows, read at an entry. -/
theorem col {α : Type} (v : S2048x1.Idx → α) (h : S2048x1.Broadcasts S2048x64) (r : Fin 2048) (k : Fin 64) :
    broadcastTo S2048x64 v h (ix2 r k) = v (ix2 r (0 : Fin 1)) :=
  broadcastTo_apply v h _ _ fun a => match a with | ⟨0, _⟩ => rfl | ⟨1, _⟩ => rfl

/-- A row over a block's rows, read at an entry. -/
theorem row {α : Type} (v : S1x64.Idx → α) (h : S1x64.Broadcasts S2048x64) (r : Fin 2048) (k : Fin 64) :
    broadcastTo S2048x64 v h (ix2 r k) = v (ix2 (0 : Fin 1) k) :=
  broadcastTo_apply v h _ _ fun a => match a with | ⟨0, _⟩ => rfl | ⟨1, _⟩ => rfl

/-- A row at its own shape is itself. -/
theorem same {α : Type} (v : S1x64.Idx → α) (h : S1x64.ShapeCasts S1x64) (k : Fin 64) :
    shapeCast S1x64 v h (ix2 (0 : Fin 1) k) = v (ix2 (0 : Fin 1) k) := shapeCast_apply v h _ _ rfl

/-- A list of numbers as a column, read at an entry. -/
theorem tall {α : Type} (v : S2048.Idx → α) (h : S2048.ShapeCasts S2048x1) (r : Fin 2048) :
    shapeCast S2048x1 v h (ix2 r (0 : Fin 1)) = v (ix1 r) :=
  shapeCast_apply v h _ _ (by
    rw [Shape.rowMajor_val_two, Shape.rowMajor_val_one]
    show r.val = r.val * 1 + 0
    omega)

/-- The product with the rows of a matrix. -/
theorem dot (l : FVec Ideal S2048x64 .f32) (w : FVec Ideal S64x64 .f32) (r : Fin 2048) (j : Fin 64) :
    matmul dot_S2048x64_S64x64_S2048x64_1_1_0_0_n_n (some .fp32) l w (constant S2048x64 .f32 0x00000000#32) (ix2 r j)
      = ∑ k, l (ix2 r k) * w (ix2 j k) := by
  refine (Ideal.matmul_transposedRhs_apply (some .fp32) l w (constant S2048x64 .f32 0x00000000#32) r j).trans ?_
  show Ideal.ofBits .f32 0x00000000#32 + _ = _
  rw [Ideal.ofBits_zero_f32, zero_add]
  rfl

/-- The sums of a block's rows. -/
def ksum (v : FVec Ideal S2048x64 .f32) : FVec Ideal S2048 .f32 :=
  multiReduction .add [1] S2048 v 0x00000000#32 reduces_S2048x64_S2048 (.inl rfl) rfl

/-- The sum of a block's row. -/
theorem sums (v : FVec Ideal S2048x64 .f32) (r : Fin 2048) : ksum v (ix1 r) = ∑ k, v (ix2 r k) :=
  kernel_sum v reduces_S2048x64_S2048 (.inl rfl) rfl r

/-- The named constant is one over the square root of two. -/
theorem inv_sqrt2 : Named.named (F := Ideal) κ "inv_sqrt2" (φ := .f32) 0x3F3504F3#32 = (((Real.sqrt 2)⁻¹ : ℝ) : EReal) :=
  IdealRules.named_const.ideal_named_scalar _ _ _ _ rfl

variable (P0 : FVec Ideal S2048x64 .f32) (P1 P2 : FVec Ideal S1x64 .f32) (P3 : FVec Ideal S64x64 .f32) (P4 : FVec Ideal S1x64 .f32)

/-- The means of a block's rows, along each row. -/
def kmean (v : FVec Ideal S2048x64 .f32) : FVec Ideal S2048x1 .f32 :=
  divf (shapeCast S2048x1 (ksum v) shapeCasts_S2048_S2048x1) (broadcast S2048x1 (Scalar.ofBits .f32 0x42800000#32))
/-- A block less its rows' means. -/
def kcen (v : FVec Ideal S2048x64 .f32) : FVec Ideal S2048x64 .f32 := subf v (broadcastTo S2048x64 (kmean v) broadcasts_S2048x1_S2048x64)
/-- The roots of the rows' variances. -/
def kdev (v : FVec Ideal S2048x64 .f32) : FVec Ideal S2048x1 .f32 :=
  sqrt (addf (kmean (mulf (kcen v) (kcen v))) (broadcast S2048x1 (Scalar.ofBits .f32 0x3727C5AC#32)))
/-- A row over a block's rows. -/
def krow (v : FVec Ideal S1x64 .f32) : FVec Ideal S2048x64 .f32 :=
  broadcastTo S2048x64 (shapeCast S1x64 v shapeCasts_S1x64_S1x64) broadcasts_S1x64_S2048x64
/-- The normalized block. -/
def knorm : FVec Ideal S2048x64 .f32 :=
  addf (mulf (divf (kcen P0) (broadcastTo S2048x64 (kdev P0) broadcasts_S2048x1_S2048x64)) (krow P1)) (krow P2)

/-- A row's mean in a block. -/
theorem kmean_apply (v : FVec Ideal S2048x64 .f32) (r : Fin 2048) : kmean v (ix2 r (0 : Fin 1)) = mean fun k => v (ix2 r k) := by
  show Ideal.div (shapeCast S2048x1 (ksum v) shapeCasts_S2048_S2048x1 (ix2 r (0 : Fin 1))) (Ideal.ofBits .f32 0x42800000#32) = _
  rw [tall, sums]
  rfl
/-- A block's entry less its row's mean. -/
theorem kcen_apply (v : FVec Ideal S2048x64 .f32) (r : Fin 2048) (k : Fin 64) : kcen v (ix2 r k) = cen (fun k => v (ix2 r k)) k := by
  show v (ix2 r k) - broadcastTo S2048x64 (kmean v) broadcasts_S2048x1_S2048x64 (ix2 r k) = _
  rw [col, kmean_apply]
  rfl
/-- The root of a row's variance in a block. -/
theorem kdev_apply (v : FVec Ideal S2048x64 .f32) (r : Fin 2048) :
    kdev v (ix2 r (0 : Fin 1)) = Ideal.sqrt (var (fun k => v (ix2 r k)) + Ideal.ofBits .f32 0x3727C5AC#32) := by
  show Ideal.sqrt (kmean (mulf (kcen v) (kcen v)) (ix2 r (0 : Fin 1)) + Ideal.ofBits .f32 0x3727C5AC#32) = _
  rw [kmean_apply]
  show Ideal.sqrt (mean (fun k => kcen v (ix2 r k) * kcen v (ix2 r k)) + _) = _
  simp only [kcen_apply]
  rfl
/-- A row over a block's rows, at its own shape, read at an entry. -/
theorem krow_apply (v : FVec Ideal S1x64 .f32) (r : Fin 2048) (k : Fin 64) : krow v (ix2 r k) = v (ix2 (0 : Fin 1) k) := by
  unfold krow
  rw [row, same]
/-- The normalized block at an entry. -/
theorem knorm_apply (r : Fin 2048) (k : Fin 64) :
    knorm P0 P1 P2 (ix2 r k) = xn (fun k => P1 (ix2 (0 : Fin 1) k)) (fun k => P2 (ix2 (0 : Fin 1) k)) (fun k => P0 (ix2 r k)) k := by
  show Ideal.div (kcen P0 (ix2 r k)) (broadcastTo S2048x64 (kdev P0) broadcasts_S2048x1_S2048x64 (ix2 r k)) * krow P1 (ix2 r k) + krow P2 (ix2 r k) = _
  rw [col, kcen_apply, kdev_apply, krow_apply, krow_apply]
  rfl

/-- The projected block, in layers. -/
theorem pay1_eq : k0_pay1 (F := Ideal) P0 P1 P2 P3 P4
    = addf (matmul dot_S2048x64_S64x64_S2048x64_1_1_0_0_n_n (some .fp32) (knorm P0 P1 P2) P3 (constant S2048x64 .f32 0x00000000#32)) (krow P4) := rfl

/-- The projected rows. -/
theorem pay1_apply (r : Fin 2048) (j : Fin 64) :
    k0_pay1 (F := Ideal) P0 P1 P2 P3 P4 (ix2 r j)
      = proj (fun k => P1 (ix2 (0 : Fin 1) k)) (fun k => P2 (ix2 (0 : Fin 1) k)) (fun j k => P3 (ix2 j k))
          (fun k => P4 (ix2 (0 : Fin 1) k)) (fun k => P0 (ix2 r k)) j := by
  rw [pay1_eq]
  show matmul dot_S2048x64_S64x64_S2048x64_1_1_0_0_n_n (some .fp32) (knorm P0 P1 P2) P3 (constant S2048x64 .f32 0x00000000#32) (ix2 r j)
    + krow P4 (ix2 r j) = _
  rw [dot, krow_apply]
  simp only [knorm_apply]
  rfl

/-- The activation with its exponent by the size, as the kernel has it. -/
def kact (p : EReal) : EReal :=
  let q := p * (((Real.sqrt 2)⁻¹ : ℝ) : EReal)
  Ideal.ofBits .f32 0x3F000000#32 * p * (Ideal.ofBits .f32 0x3F800000#32
    + Ideal.sign q * (Ideal.ofBits .f32 0x3F800000#32
      - poly (tq q) * Ideal.exp ((Ideal.ofBits .f32 0x00000000#32 - max q (-q)) * max q (-q))))

/-- It is the activation. -/
theorem kact_eq (p : EReal) : kact p = act p := by
  unfold kact act HeadRow.erf
  simp only [Ideal.ofBits_zero_f32, neg_size_sq]

/-- The activations of a block. -/
def gvec (p : FVec Ideal S2048x64 .f32) : FVec Ideal S2048x64 .f32 :=
  have v32 : FVec Ideal S2048x64 .f32 := mulf (broadcast S2048x64 (Scalar.ofBits .f32 0x3F000000#32)) p
  have v34 : FVec Ideal S2048x64 .f32 := mulf p (broadcast S2048x64 (Named.named κ "inv_sqrt2" 0x3F3504F3#32))
  have v35 : FVec Ideal S2048x64 .f32 := absf v34
  have v37 : FVec Ideal S2048x64 .f32 := mulf (broadcast S2048x64 (Scalar.ofBits .f32 0x3EA7BA05#32)) v35
  have v38 : FVec Ideal S2048x64 .f32 := broadcast S2048x64 (Scalar.ofBits .f32 0x3F800000#32)
  have v39 : FVec Ideal S2048x64 .f32 := addf v38 v37
  have cst_18 : Ideal .f32 := Scalar.ofBits .f32 0x3F800000#32
  have v40 : FVec Ideal S2048x64 .f32 := broadcast S2048x64 cst_18
  have v41 : FVec Ideal S2048x64 .f32 := divf v40 v39
  have cst_19 : Ideal .f32 := Scalar.ofBits .f32 0x3F87DC22#32
  have v42 : FVec Ideal S2048x64 .f32 := broadcast S2048x64 cst_19
  have v43 : FVec Ideal S2048x64 .f32 := mulf v42 v41
  have cst_20 : Ideal .f32 := Scalar.ofBits .f32 0xBFBA00E3#32
  have v44 : FVec Ideal S2048x64 .f32 := broadcast S2048x64 cst_20
  have v45 : FVec Ideal S2048x64 .f32 := addf v43 v44
  have v46 : FVec Ideal S2048x64 .f32 := mulf v45 v41
  have cst_21 : Ideal .f32 := Scalar.ofBits .f32 0x3FB5F0E3#32
  have v47 : FVec Ideal S2048x64 .f32 := broadcast S2048x64 cst_21
  have v48 : FVec Ideal S2048x64 .f32 := addf v46 v47
  have v49 : FVec Ideal S2048x64 .f32 := mulf v48 v41
  have cst_22 : Ideal .f32 := Scalar.ofBits .f32 0xBE91A98E#32
  have v50 : FVec Ideal S2048x64 .f32 := broadcast S2048x64 cst_22
  have v51 : FVec Ideal S2048x64 .f32 := addf v49 v50
  have v52 : FVec Ideal S2048x64 .f32 := mulf v51 v41
  have cst_23 : Ideal .f32 := Scalar.ofBits .f32 0x3E827906#32
  have v53 : FVec Ideal S2048x64 .f32 := broadcast S2048x64 cst_23
  have v54 : FVec Ideal S2048x64 .f32 := addf v52 v53
  have v55 : FVec Ideal S2048x64 .f32 := mulf v54 v41
  have cst_24 : Ideal .f32 := Scalar.ofBits .f32 0x00000000#32
  have v56 : FVec Ideal S2048x64 .f32 := broadcast S2048x64 cst_24
  have v57 : FVec Ideal S2048x64 .f32 := subf v56 v35
  have v58 : FVec Ideal S2048x64 .f32 := mulf v57 v35
  have v59 : FVec Ideal S2048x64 .f32 := exp v58
  have v60 : FVec Ideal S2048x64 .f32 := mulf v55 v59
  have cst_25 : Ideal .f32 := Scalar.ofBits .f32 0x3F800000#32
  have v61 : FVec Ideal S2048x64 .f32 := broadcast S2048x64 cst_25
  have v62 : FVec Ideal S2048x64 .f32 := subf v61 v60
  have v68 : FVec Ideal S2048x64 .f32 := select (cmpf .olt v34 (constant S2048x64 .f32 0x00000000#32)) (constant S2048x64 .f32 0xBF800000#32) (constant S2048x64 .f32 0x3F800000#32)
  have v69 : FVec Ideal S2048x64 .f32 := absf v34
  have cst_26 : Ideal .f32 := Scalar.ofBits .f32 0x00000000#32
  have v70 : FVec Ideal S2048x64 .f32 := broadcast S2048x64 cst_26
  have v71 : IVec S2048x64 1 := cmpf .ogt v69 v70
  have v72 : FVec Ideal S2048x64 .f32 := select v71 v68 v34
  have v73 : FVec Ideal S2048x64 .f32 := mulf v72 v62
  have cst_27 : Ideal .f32 := Scalar.ofBits .f32 0x3F800000#32
  have v74 : FVec Ideal S2048x64 .f32 := broadcast S2048x64 cst_27
  have v75 : FVec Ideal S2048x64 .f32 := addf v74 v73
  have v76 : FVec Ideal S2048x64 .f32 := mulf v32 v75
  v76

/-- A block's rows, each over its norm. -/
def nvec (g : FVec Ideal S2048x64 .f32) : FVec Ideal S2048x64 .f32 :=
  divf g (broadcastTo S2048x64 (maximumf (sqrt (shapeCast S2048x1 (ksum (mulf g g)) shapeCasts_S2048_S2048x1))
    (broadcast S2048x1 (Scalar.ofBits .f32 0x2B8CBCCC#32))) broadcasts_S2048x1_S2048x64)

/-- The activations at one entry. -/
theorem gvec_apply (p : FVec Ideal S2048x64 .f32) (i : S2048x64.Idx) : gvec p i = act (p i) := by
  rw [← kact_eq]
  show _ = Ideal.ofBits .f32 0x3F000000#32 * p i * (Ideal.ofBits .f32 0x3F800000#32
    + Ideal.sign (p i * (((Real.sqrt 2)⁻¹ : ℝ) : EReal)) * (Ideal.ofBits .f32 0x3F800000#32
      - poly (tq (p i * (((Real.sqrt 2)⁻¹ : ℝ) : EReal))) * Ideal.exp ((Ideal.ofBits .f32 0x00000000#32
        - max (p i * (((Real.sqrt 2)⁻¹ : ℝ) : EReal)) (-(p i * (((Real.sqrt 2)⁻¹ : ℝ) : EReal))))
          * max (p i * (((Real.sqrt 2)⁻¹ : ℝ) : EReal)) (-(p i * (((Real.sqrt 2)⁻¹ : ℝ) : EReal))))))
  rw [← inv_sqrt2, ← Ideal.jnp_sign_eq_sign_f32]
  rfl

/-- A row over its norm at one entry. -/
theorem nvec_apply (g : FVec Ideal S2048x64 .f32) (r : Fin 2048) (j : Fin 64) : nvec g (ix2 r j) = unit (fun j => g (ix2 r j)) j := by
  show Ideal.div (g (ix2 r j)) (broadcastTo S2048x64 (maximumf (sqrt (shapeCast S2048x1 (ksum (mulf g g)) shapeCasts_S2048_S2048x1))
    (broadcast S2048x1 (Scalar.ofBits .f32 0x2B8CBCCC#32))) broadcasts_S2048x1_S2048x64 (ix2 r j)) = _
  rw [col]
  show Ideal.div _ (max (Ideal.sqrt (shapeCast S2048x1 (ksum (mulf g g)) shapeCasts_S2048_S2048x1 (ix2 r (0 : Fin 1)))) (Ideal.ofBits .f32 0x2B8CBCCC#32)) = _
  rw [tall, sums]
  rfl

/-- The stored block, from the loaded ones. -/
theorem out_eq : k0_pay7 (k0_pay2 P0 P1 P2 P3 P4) (k0_pay3 P0 P1 P2 P3 P4) (k0_pay4 P0 P1 P2 P3 P4) (k0_pay5 P0 P1 P2 P3 P4)
    (k0_pay6 (F := Ideal)) = nvec (gvec (k0_pay1 P0 P1 P2 P3 P4)) := rfl

/-- The stored block at one entry. -/
theorem out_apply (r : Fin 2048) (j : Fin 64) :
    k0_pay7 (k0_pay2 P0 P1 P2 P3 P4) (k0_pay3 P0 P1 P2 P3 P4) (k0_pay4 P0 P1 P2 P3 P4) (k0_pay5 P0 P1 P2 P3 P4) (k0_pay6 (F := Ideal)) (ix2 r j)
      = head (fun k => P1 (ix2 (0 : Fin 1) k)) (fun k => P2 (ix2 (0 : Fin 1) k)) (fun j k => P3 (ix2 j k))
          (fun k => P4 (ix2 (0 : Fin 1) k)) (fun k => P0 (ix2 r k)) j := by
  rw [out_eq, nvec_apply]
  simp only [gvec_apply, pay1_apply]
  rfl

end Cert.Proof.HeadCallVal

end
-- ==== Proof.HeadCallRun.lean ====
/-
  The head's kernel run in extended reals: the result array holds, row by row, the head of the first argument's rows.
-/
module

public import proofs.«01_k».proof.Proof.HeadCallVal
public import Idealize.ShloMosaic.Lib.Pipeline.Value
public import Idealize.ShloMosaic.Lib.Quiescent

@[expose] public section

noncomputable section

namespace Cert.Proof.HeadCallRun

open Cert.HeadIdeal Cert.HeadIdeal.Gen Cert.Proof.HeadRow Cert.Proof.HeadCallVal
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The head of the rows of a whole array. -/
def headArr (x : FVec Ideal S16384x64 .f32) (γ β : FVec Ideal S64 .f32) (w : FVec Ideal S64x64 .f32) (b : FVec Ideal S64 .f32) :
    FVec Ideal S16384x64 .f32 :=
  fun i => head (fun k => γ (ix1 k)) (fun k => β (ix1 k)) (fun j k => w (ix2 j k)) (fun k => b (ix1 k)) (fun k => x (ix2 (i 0 : Fin 16384) k)) (i 1 : Fin 64)

/-- The head of the arguments at launch. -/
abbrev G (c : Dev nD) : Buf (Elt Ideal) ((c : Thread nD τ).loc main_v3) :=
  headArr (m ((c : Thread nD τ).loc main_arg0)) (m ((c : Thread nD τ).loc main_arg1)) (m ((c : Thread nD τ).loc main_arg2))
    (m ((c : Thread nD τ).loc main_arg3)) (m ((c : Thread nD τ).loc main_arg4))

/-- The offsets of a whole block are zero. -/
theorem hz : (![0, 0] : Fin 2 → Nat) = fun _ => 0 := funext fun a => by fin_cases a <;> rfl

/-- A list as one row. -/
theorem wide {α : Type} (v : S64.Idx → α) (h : S64.ShapeCasts S1x64) (k : Fin 64) : shapeCast S1x64 v h (ix2 (0 : Fin 1) k) = v (ix1 k) :=
  shapeCast_apply v h _ _ (by
    rw [Shape.rowMajor_val_two, Shape.rowMajor_val_one]
    show k.val = 0 * 64 + k.val
    omega)

/-- The second argument as one row, at launch. -/
theorem V_v0 (c : Dev nD) : V m c main_v0 = shapeCast S1x64 (m ((c : Thread nD τ).loc main_arg1)) shapeCasts_S64_S1x64 := by
  dsimp only [V, hostOps0]
  after_results
  rfl
/-- The third argument as one row, at launch. -/
theorem V_v1 (c : Dev nD) : V m c main_v1 = shapeCast S1x64 (m ((c : Thread nD τ).loc main_arg2)) shapeCasts_S64_S1x64 := by
  dsimp only [V, hostOps0]
  after_results
  rfl
/-- The fifth argument as one row, at launch. -/
theorem V_v2 (c : Dev nD) : V m c main_v2 = shapeCast S1x64 (m ((c : Thread nD τ).loc main_arg4)) shapeCasts_S64_S1x64 := by
  dsimp only [V, hostOps0]
  after_results
  rfl

/-- Which block of the array a grid point has. -/
theorem idx0 : ∀ t : Fin grid0.N, win0_0.index t 0 = t.val ∧ win0_0.index t 1 = 0 ∧ win0_5.index t 0 = t.val ∧ win0_5.index t 1 = 0 := by decide +kernel
/-- The other arguments have one block each. -/
theorem idxs : ∀ t : Fin grid0.N, win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0 := by decide +kernel

/-- There are eight grid points. -/
theorem lt8 (t : Fin cfg0.N) : t.val < 8 := lt_of_lt_of_eq t.isLt N_0

/-- The array's row of a block's row. -/
abbrev grow (t : Fin cfg0.N) (r : Fin 2048) : Fin 16384 := ⟨2048 * t.val + r.val, by have := lt8 t; omega⟩

/-- The block of the first argument. -/
theorem blk0 (c : Dev nD) (t : Fin cfg0.N) (r : Fin 2048) (k : Fin 64) :
    iblk m c 0 t (ix2 r k) = m ((c : Thread nD τ).loc main_arg0) (ix2 (grow t r) k) := by
  show V m c main_arg0 (((cfg0.win 0).blk t).view.emb (ix2 r k)) = _
  rw [V_main_arg0]
  refine congrArg _ (funext fun a => Fin.ext ?_)
  match a with
  | ⟨0, _⟩ =>
    show win0_0.index t 0 * 2048 + 1 * r.val = 2048 * t.val + r.val
    rw [(idx0 t).1]; omega
  | ⟨1, _⟩ =>
    show win0_0.index t 1 * 64 + 1 * k.val = k.val
    rw [(idx0 t).2.1]; omega

/-- The second argument's one block. -/
theorem blk1 (c : Dev nD) (t : Fin cfg0.N) (k : Fin 64) :
    iblk m c 1 t (ix2 (0 : Fin 1) k) = m ((c : Thread nD τ).loc main_arg1) (ix1 k) := by
  refine Eq.trans ?_ ((congrFun (V_v0 m c) (ix2 (0 : Fin 1) k)).trans (wide _ _ k))
  show V m c main_v0 (((cfg0.win 1).blk t).view.emb (ix2 (0 : Fin 1) k)) = _
  refine congrArg _ (funext fun a => Fin.ext ?_)
  match a with
  | ⟨0, _⟩ =>
    show win0_1.index t 0 * 1 + 1 * 0 = 0
    rw [(idxs t).1]
  | ⟨1, _⟩ =>
    show win0_1.index t 1 * 64 + 1 * k.val = k.val
    rw [(idxs t).2.1]; omega

/-- The third argument's one block. -/
theorem blk2 (c : Dev nD) (t : Fin cfg0.N) (k : Fin 64) :
    iblk m c 2 t (ix2 (0 : Fin 1) k) = m ((c : Thread nD τ).loc main_arg2) (ix1 k) := by
  refine Eq.trans ?_ ((congrFun (V_v1 m c) (ix2 (0 : Fin 1) k)).trans (wide _ _ k))
  show V m c main_v1 (((cfg0.win 2).blk t).view.emb (ix2 (0 : Fin 1) k)) = _
  refine congrArg _ (funext fun a => Fin.ext ?_)
  match a with
  | ⟨0, _⟩ =>
    show win0_2.index t 0 * 1 + 1 * 0 = 0
    rw [(idxs t).2.2.1]
  | ⟨1, _⟩ =>
    show win0_2.index t 1 * 64 + 1 * k.val = k.val
    rw [(idxs t).2.2.2.1]; omega

/-- The fourth argument's one block. -/
theorem blk3 (c : Dev nD) (t : Fin cfg0.N) (j k : Fin 64) :
    iblk m c 3 t (ix2 j k) = m ((c : Thread nD τ).loc main_arg3) (ix2 j k) := by
  show V m c main_arg3 (((cfg0.win 3).blk t).view.emb (ix2 j k)) = _
  rw [V_main_arg3]
  refine congrArg _ (funext fun a => Fin.ext ?_)
  match a with
  | ⟨0, _⟩ =>
    show win0_3.index t 0 * 64 + 1 * j.val = j.val
    rw [(idxs t).2.2.2.2.1]; omega
  | ⟨1, _⟩ =>
    show win0_3.index t 1 * 64 + 1 * k.val = k.val
    rw [(idxs t).2.2.2.2.2.1]; omega

/-- The fifth argument's one block. -/
theorem blk4 (c : Dev nD) (t : Fin cfg0.N) (k : Fin 64) :
    iblk m c 4 t (ix2 (0 : Fin 1) k) = m ((c : Thread nD τ).loc main_arg4) (ix1 k) := by
  refine Eq.trans ?_ ((congrFun (V_v2 m c) (ix2 (0 : Fin 1) k)).trans (wide _ _ k))
  show V m c main_v2 (((cfg0.win 4).blk t).view.emb (ix2 (0 : Fin 1) k)) = _
  refine congrArg _ (funext fun a => Fin.ext ?_)
  match a with
  | ⟨0, _⟩ =>
    show win0_4.index t 0 * 1 + 1 * 0 = 0
    rw [(idxs t).2.2.2.2.2.2.1]
  | ⟨1, _⟩ =>
    show win0_4.index t 1 * 64 + 1 * k.val = k.val
    rw [(idxs t).2.2.2.2.2.2.2]; omega

/-- What the body leaves at a block's entry. -/
theorem out_at (c : Dev nD) (t : Fin cfg0.N) (r : Fin 2048) (j : Fin 64) :
    out0_5 (iblk m c 0 t) (iblk m c 1 t) (iblk m c 2 t) (iblk m c 3 t) (iblk m c 4 t) (ix2 r j) = G m c (ix2 (grow t r) j) := by
  unfold out0_5
  rw [View.canon_unit_zero hz, View.ld_unit_zero hz, View.ld_unit_zero hz, View.ld_unit_zero hz, View.ld_unit_zero hz, View.ld_unit_zero hz]
  refine (out_apply (iblk m c 0 t) (iblk m c 1 t) (iblk m c 2 t) (iblk m c 3 t) (iblk m c 4 t) r j).trans ?_
  simp only [blk0, blk1, blk2, blk3, blk4]
  rfl

/-- What a grid point writes back is its block of the whole array's head. -/
theorem flushed_eq (c : Dev nD) (t : Fin cfg0.N) : (dats m 0 c).flushed 5 t = ((cfg0.win 5).blk t).view.read (Elt Ideal) (G m c) := by
  show (cfg0.win 5).cut (grid0.coords t) ((dats m 0 c).after 5 t) = _
  rw [after0_5]
  funext y
  have ey : (y : S2048x64.Idx) = ix2 (y 0 : Fin 2048) (y 1 : Fin 64) := by
    funext a
    match a with
    | ⟨0, _⟩ => rfl
    | ⟨1, _⟩ => rfl
  refine (congrArg (out0_5 (iblk m c 0 t) (iblk m c 1 t) (iblk m c 2 t) (iblk m c 3 t) (iblk m c 4 t)) ey).trans ?_
  refine (out_at m c t (y 0 : Fin 2048) (y 1 : Fin 64)).trans ?_
  show _ = G m c (((cfg0.win 5).blk t).view.emb y)
  refine congrArg _ (funext fun a => Fin.ext ?_)
  match a with
  | ⟨0, _⟩ =>
    show 2048 * t.val + (y 0).val = win0_5.index t 0 * 2048 + 1 * (y 0).val
    rw [(idx0 t).2.2.1]; omega
  | ⟨1, _⟩ =>
    show (y 1).val = win0_5.index t 1 * 64 + 1 * (y 1).val
    rw [(idx0 t).2.2.2]; omega

/-- Which entries of the array a grid point's block has. -/
theorem mem_blk (t : Fin cfg0.N) (i : S16384x64.Idx) (h : t.val * 2048 ≤ (i 0 : Nat) ∧ (i 0 : Nat) < t.val * 2048 + 2048) :
    i ∈ ((cfg0.win 5).blk t).view.set := by
  show i ∈ ((View.whole main_v3).slice (win0_5.rect t)).set
  rw [View.set_slice_whole, Rect.mem_set_unit]
  intro a
  match a with
  | ⟨0, _⟩ =>
    show win0_5.index t 0 * 2048 ≤ (i 0 : Nat) ∧ (i 0 : Nat) < win0_5.index t 0 * 2048 + 2048
    rw [(idx0 t).2.2.1]; exact h
  | ⟨1, _⟩ =>
    show win0_5.index t 1 * 64 ≤ (i 1 : Nat) ∧ (i 1 : Nat) < win0_5.index t 1 * 64 + 64
    have h1 : (i 1 : Nat) < 64 := (i 1).isLt
    rw [(idx0 t).2.2.2]; omega

/-- The blocks cover the array. -/
theorem cover (i : S16384x64.Idx) : ∃ t : Fin cfg0.N, (cfg0.win 5).flush t = true ∧ i ∈ ((cfg0.win 5).blk t).view.set := by
  have h0 : (i 0 : Nat) < 16384 := (i 0).isLt
  have hN : cfg0.N = 8 := N_0
  refine ⟨⟨(i 0 : Nat) / 2048, by omega⟩, flush0_5 _, mem_blk _ i ?_⟩
  dsimp only
  omega

/-- The result array after the run. -/
theorem final (c : Dev nD) : (dats m 0 c).arrAt 5 cfg0.N = G m c :=
  (dats m 0 c).arrAt_eq_of_cover 5 (G m c) (fun t _ => flushed_eq m c t) cover

/-- The run: the result array holds the head of the rows, and the arguments are unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.Proof.HeadCallRun

end
-- ==== Proof.HeadCallRef.lean ====
/-
  The head's reference in extended reals: row by row, the same head of the argument's rows.
-/
module

public import proofs.«01_k».proof.Proof.HeadCallRun
public import proofs.«01_k».proof.Proof.Gen.HeadReferenceIdeal.Run
public import Idealize.ShloMosaic.Lib.StackMember

@[expose] public section

noncomputable section

namespace Cert.Proof.HeadCallRef

open Cert.HeadReferenceIdeal Cert.HeadReferenceIdeal.Gen Cert.Proof.HeadRow
open Idealize.ShloMosaic
open scoped BigOperators

/-- One number at every entry of a column. -/
abbrev colc (b : BitVec 32) : FVec Ideal S16384x1 .f32 := broadcastInDim S16384x1 ![] bcast_S_S16384x1 (constant (F := Ideal) S_ .f32 b)
/-- One number at every entry of an array. -/
abbrev arrc (b : BitVec 32) : FVec Ideal S16384x64 .f32 := broadcastInDim S16384x64 ![] bcast_S_S16384x64 (constant (F := Ideal) S_ .f32 b)
/-- A column along the rows. -/
abbrev spread (v : FVec Ideal S16384x1 .f32) : FVec Ideal S16384x64 .f32 := broadcastInDim S16384x64 ![0, 1] bcast_S16384x1_S16384x64_0_1 v
/-- The sums of the rows, as a column. -/
def rsum (v : FVec Ideal S16384x64 .f32) : FVec Ideal S16384x1 .f32 :=
  broadcastInDim S16384x1 ![0] bcast_S16384_S16384x1_0 (Host.reduceAdd v (constant S_ .f32 0x00000000#32) reducesTo_S16384x64_S16384_d1 h_S_)
/-- The means of the rows. -/
def rmean (v : FVec Ideal S16384x64 .f32) : FVec Ideal S16384x1 .f32 := Host.divf (rsum v) (colc 0x42800000#32)
/-- The array less its rows' means. -/
def rcen (v : FVec Ideal S16384x64 .f32) : FVec Ideal S16384x64 .f32 := subf v (spread (rmean v))
/-- The roots of the rows' variances. -/
def rdev (v : FVec Ideal S16384x64 .f32) : FVec Ideal S16384x1 .f32 :=
  Host.sqrt (addf (rmean (mulf (rcen v) (rcen v))) (colc 0x3727C5AC#32))
/-- A list along the rows. -/
def rrow (v : FVec Ideal S64 .f32) : FVec Ideal S16384x64 .f32 :=
  broadcastInDim S16384x64 ![0, 1] bcast_S1x64_S16384x64_0_1 (broadcastInDim S1x64 ![1] bcast_S64_S1x64_1 v)
/-- The normalized array. -/
def rnorm (x : FVec Ideal S16384x64 .f32) (γ β : FVec Ideal S64 .f32) : FVec Ideal S16384x64 .f32 :=
  addf (mulf (Host.divf (rcen x) (spread (rdev x))) (rrow γ)) (rrow β)
/-- The projected array. -/
def rproj (x : FVec Ideal S16384x64 .f32) (γ β : FVec Ideal S64 .f32) (w : FVec Ideal S64x64 .f32) (b : FVec Ideal S64 .f32) : FVec Ideal S16384x64 .f32 :=
  addf (Host.dotGeneral dot_S16384x64_S64x64_S16384x64_1_0_0_1_n_n none (rnorm x γ β) (transpose S64x64 [1, 0] w transposes_S64x64_S64x64_1_0)) (rrow b)
/-- The array over the square root of two. -/
def rq (p : FVec Ideal S16384x64 .f32) : FVec Ideal S16384x64 .f32 :=
  Host.divf p (broadcastInDim S16384x64 ![] bcast_S_S16384x64 (id (Host.sqrt (constant (F := Ideal) S_ .f32 0x40000000#32))))
/-- The quotient that the polynomial is taken of. -/
def rt (q : FVec Ideal S16384x64 .f32) : FVec Ideal S16384x64 .f32 :=
  Host.divf (arrc 0x3F800000#32) (addf (arrc 0x3F800000#32) (mulf (arrc 0x3EA7BA05#32) (Host.absf q)))
/-- The polynomial. -/
def rpoly (t : FVec Ideal S16384x64 .f32) : FVec Ideal S16384x64 .f32 :=
  mulf (addf (mulf (addf (mulf (addf (mulf (addf (mulf (arrc 0x3F87DC22#32) t) (arrc 0xBFBA00E3#32)) t) (arrc 0x3FB5F0E3#32)) t) (arrc 0xBE91A98E#32)) t)
    (arrc 0x3E827906#32)) t
/-- The activations. -/
def ract (p : FVec Ideal S16384x64 .f32) : FVec Ideal S16384x64 .f32 :=
  mulf (mulf (arrc 0x3F000000#32) p) (addf (arrc 0x3F800000#32) (mulf (Host.sign (rq p)) (subf (arrc 0x3F800000#32)
    (mulf (rpoly (rt (rq p))) (Host.exp (Host.negf (mulf (rq p) (rq p))))))))
/-- The rows' norms, or the small constant where it is more. -/
def rden (g : FVec Ideal S16384x64 .f32) : FVec Ideal S16384x1 .f32 :=
  maximumf (broadcastInDim S16384x1 ![] bcast_S_S16384x1 (id (constant (F := Ideal) S_ .f32 0x2B8CBCCC#32))) (Host.sqrt (rsum (mulf g g)))
/-- The rows, each over its norm. -/
def rnrm (g : FVec Ideal S16384x64 .f32) : FVec Ideal S16384x64 .f32 := Host.divf g (spread (rden g))

/-- A column along the rows, read at an entry. -/
theorem spread_apply (v : FVec Ideal S16384x1 .f32) (n : Fin 16384) (k : Fin 64) : spread v (ix2 n k) = v (ix2 n (0 : Fin 1)) :=
  broadcastInDim_apply _ bcast_S16384x1_S16384x64_0_1 v _ _ fun a => match a with | ⟨0, _⟩ => rfl | ⟨1, _⟩ => rfl
/-- A row's sum. -/
theorem rsum_apply (v : FVec Ideal S16384x64 .f32) (n : Fin 16384) : rsum v (ix2 n (0 : Fin 1)) = ∑ k, v (ix2 n k) :=
  (broadcastInDim_apply _ bcast_S16384_S16384x1_0 _ _ (ix1 n) fun a => match a with | ⟨0, _⟩ => rfl).trans
    (host_sum v reducesTo_S16384x64_S16384_d1 h_S_ n)
/-- A row's mean. -/
theorem rmean_apply (v : FVec Ideal S16384x64 .f32) (n : Fin 16384) : rmean v (ix2 n (0 : Fin 1)) = mean fun k => v (ix2 n k) := by
  show Ideal.div (rsum v (ix2 n (0 : Fin 1))) (Ideal.ofBits .f32 0x42800000#32) = _
  rw [rsum_apply]
  rfl
/-- An entry less its row's mean. -/
theorem rcen_apply (v : FVec Ideal S16384x64 .f32) (n : Fin 16384) (k : Fin 64) : rcen v (ix2 n k) = cen (fun k => v (ix2 n k)) k := by
  show v (ix2 n k) - spread (rmean v) (ix2 n k) = _
  rw [spread_apply, rmean_apply]
  rfl
/-- The root of a row's variance. -/
theorem rdev_apply (v : FVec Ideal S16384x64 .f32) (n : Fin 16384) :
    rdev v (ix2 n (0 : Fin 1)) = Ideal.sqrt (var (fun k => v (ix2 n k)) + Ideal.ofBits .f32 0x3727C5AC#32) := by
  show Ideal.sqrt (rmean (mulf (rcen v) (rcen v)) (ix2 n (0 : Fin 1)) + Ideal.ofBits .f32 0x3727C5AC#32) = _
  rw [rmean_apply]
  show Ideal.sqrt (mean (fun k => rcen v (ix2 n k) * rcen v (ix2 n k)) + _) = _
  simp only [rcen_apply]
  rfl
/-- A list along the rows, read at an entry. -/
theorem rrow_apply (v : FVec Ideal S64 .f32) (n : Fin 16384) (k : Fin 64) : rrow v (ix2 n k) = v (ix1 k) :=
  (broadcastInDim_apply _ bcast_S1x64_S16384x64_0_1 _ _ (ix2 (0 : Fin 1) k) fun a => match a with | ⟨0, _⟩ => rfl | ⟨1, _⟩ => rfl).trans
    (broadcastInDim_apply _ bcast_S64_S1x64_1 v _ (ix1 k) fun a => match a with | ⟨0, _⟩ => rfl)
/-- The product with a matrix's rows. -/
theorem rdot (l : FVec Ideal S16384x64 .f32) (w : FVec Ideal S64x64 .f32) (n : Fin 16384) (j : Fin 64) :
    Host.dotGeneral dot_S16384x64_S64x64_S16384x64_1_0_0_1_n_n none l (transpose S64x64 [1, 0] w transposes_S64x64_S64x64_1_0) (ix2 n j)
      = ∑ k, l (ix2 n k) * w (ix2 j k) := by
  refine (StackMember.dotGeneral_plain_apply none l (transpose S64x64 [1, 0] w transposes_S64x64_S64x64_1_0) n j).trans ?_
  refine Finset.sum_congr rfl fun k _ => ?_
  refine congrArg₂ (· * ·) rfl ?_
  refine congrArg w (funext fun a => Fin.ext ?_)
  match a with
  | ⟨0, _⟩ => rfl
  | ⟨1, _⟩ => rfl

variable (x : FVec Ideal S16384x64 .f32) (γ β : FVec Ideal S64 .f32) (w : FVec Ideal S64x64 .f32) (b : FVec Ideal S64 .f32)

/-- The normalized array at an entry. -/
theorem rnorm_apply (n : Fin 16384) (k : Fin 64) :
    rnorm x γ β (ix2 n k) = xn (fun k => γ (ix1 k)) (fun k => β (ix1 k)) (fun k => x (ix2 n k)) k := by
  show Ideal.div (rcen x (ix2 n k)) (spread (rdev x) (ix2 n k)) * rrow γ (ix2 n k) + rrow β (ix2 n k) = _
  rw [rcen_apply, spread_apply, rdev_apply, rrow_apply, rrow_apply]
  rfl
/-- The projected array at an entry. -/
theorem rproj_apply (n : Fin 16384) (j : Fin 64) :
    rproj x γ β w b (ix2 n j)
      = proj (fun k => γ (ix1 k)) (fun k => β (ix1 k)) (fun j k => w (ix2 j k)) (fun k => b (ix1 k)) (fun k => x (ix2 n k)) j := by
  show Host.dotGeneral dot_S16384x64_S64x64_S16384x64_1_0_0_1_n_n none (rnorm x γ β) (transpose S64x64 [1, 0] w transposes_S64x64_S64x64_1_0) (ix2 n j)
    + rrow b (ix2 n j) = _
  rw [rdot, rrow_apply]
  simp only [rnorm_apply]
  rfl

/-- The constant two. -/
theorem two : Ideal.ofBits .f32 0x40000000#32 = ((2 : ℝ) : EReal) := by
  simp [Ideal.ofBits, Ideal.ieee, -EReal.coe_mul]; norm_num

/-- Over the square root of two is times its inverse. -/
theorem rq_apply (p : FVec Ideal S16384x64 .f32) (i : S16384x64.Idx) : rq p i = p i * (((Real.sqrt 2)⁻¹ : ℝ) : EReal) := by
  show Ideal.div (p i) (Ideal.sqrt (Ideal.ofBits .f32 0x40000000#32)) = _
  rw [two, Ideal.sqrt_coe, if_neg (by norm_num), Ideal.div_coe (Real.sqrt_pos.mpr (by norm_num)).ne', one_div]

/-- The activations at one entry. -/
theorem ract_apply (p : FVec Ideal S16384x64 .f32) (i : S16384x64.Idx) : ract p i = act (p i) := by
  have h : ∀ q : FVec Ideal S16384x64 .f32, q i = p i * (((Real.sqrt 2)⁻¹ : ℝ) : EReal) →
      mulf (mulf (arrc 0x3F000000#32) p) (addf (arrc 0x3F800000#32) (mulf (Host.sign q) (subf (arrc 0x3F800000#32)
        (mulf (rpoly (rt q)) (Host.exp (Host.negf (mulf q q))))))) i = act (p i) := by
    intro q hq
    unfold act
    rw [← hq]
    rfl
  exact h (rq p) (rq_apply p i)

/-- A maximum, read at an entry. -/
theorem max_at (v w : FVec Ideal S16384x1 .f32) (i : S16384x1.Idx) : maximumf v w i = max (v i : EReal) (w i : EReal) := rfl
/-- A root, read at an entry. -/
theorem sqrt_at (v : FVec Ideal S16384x1 .f32) (i : S16384x1.Idx) : Host.sqrt v i = Ideal.sqrt (v i) := rfl
/-- A quotient, read at an entry. -/
theorem div_at (v w : FVec Ideal S16384x64 .f32) (i : S16384x64.Idx) : Host.divf v w i = Ideal.div (v i) (w i) := rfl
/-- A constant column, read at an entry. -/
theorem const_at (z : BitVec 32) (i : S16384x1.Idx) :
    broadcastInDim S16384x1 ![] bcast_S_S16384x1 (id (constant (F := Ideal) S_ .f32 z)) i = Ideal.ofBits .f32 z := rfl

/-- A row over its norm at one entry. -/
theorem rnrm_apply (g : FVec Ideal S16384x64 .f32) (n : Fin 16384) (j : Fin 64) : rnrm g (ix2 n j) = unit (fun j => g (ix2 n j)) j := by
  unfold rnrm rden
  rw [div_at, spread_apply, max_at, const_at, sqrt_at, rsum_apply, max_comm]
  rfl

/-- The reference's result, in layers. -/
theorem res_eq (m : (ℓ : Loc nD τ sig) → Buf (Elt Ideal) ℓ) (c : Dev nD) :
    Cert.HeadReferenceIdeal.Value.res_out0 m c
      = rnrm (ract (rproj (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))) := by
  unfold Cert.HeadReferenceIdeal.Value.res_out0 Cert.HeadReferenceIdeal.Value.res_main_v70
  rfl

/-- The layers are the head of the rows. -/
theorem layers_eq : rnrm (ract (rproj x γ β w b)) = HeadCallRun.headArr x γ β w b := by
  have h : ∀ (n : Fin 16384) (j : Fin 64), rnrm (ract (rproj x γ β w b)) (ix2 n j) = HeadCallRun.headArr x γ β w b (ix2 n j) := by
    intro n j
    rw [rnrm_apply]
    simp only [ract_apply, rproj_apply]
    rfl
  funext i
  have ei : i = ix2 (i 0 : Fin 16384) (i 1 : Fin 64) := by
    funext a
    match a with
    | ⟨0, _⟩ => rfl
    | ⟨1, _⟩ => rfl
  rw [ei]
  exact h (i 0 : Fin 16384) (i 1 : Fin 64)

end Cert.Proof.HeadCallRef

end
-- ==== Proof.HeadCall.lean ====
/-
  The head's claims: its programs end with their semaphores at rest, its rewritten constant and sign are sound, and in
  extended reals kernel and reference give one result.
-/
module

public import proofs.«01_k».proof.Defs
public import proofs.«01_k».proof.Proof.HeadCallRef
public import proofs.«01_k».proof.Proof.Gen.Head.Frame

@[expose] public section

noncomputable section

namespace Cert.Proof

open Idealize.ShloMosaic Idealize.SL.Sem

/-- The head's kernel ends, with its arguments unchanged and its semaphores at rest. -/
theorem frame_head : Cert.quiescent_Head := fun m g _ => Cert.Head.Gen.frame m g

/-- The same of the kernel with its constant named. -/
theorem frame_head_ideal : Cert.quiescent_HeadIdeal := fun m g _ => Cert.HeadIdeal.Gen.frame m g

/-- The same of the head's reference. -/
theorem frame_head_reference : Cert.quiescent_HeadReferenceIdeal := fun m g _ =>
  (θ_run Cert.HeadReferenceIdeal.defs _ _).mono (fun r h => ⟨fun c => (h c).2, Idealize.ShloMosaic.sem_eq_zero_of_no_sems (by decide) r.2⟩)
    (Cert.HeadReferenceIdeal.Value.run (F := Ideal) m g)

/-- Naming the constant, and reading the sign by a comparison, are sound. -/
theorem preserves_head : Cert.preserves_Head_HeadIdeal :=
  ⟨IdealRules.named_const.statement Cert.HeadIdeal.κ "inv_sqrt2" .f32 0x3F3504F3#32 (((Real.sqrt 2)⁻¹ : ℝ) : EReal) rfl,
    IdealRules.sign_bit.statement Cert.HeadIdeal.S2048x64 .f32⟩

/-- In extended reals the head's kernel and its reference give one result. -/
theorem algebraic_head : Cert.algebraic_HeadIdeal_HeadReferenceIdeal := by
  intro m g m' g' _ hagree
  refine ⟨fun c => HeadCallRun.G m c, HeadCallRun.run m g, ?_⟩
  refine (θ_run Cert.HeadReferenceIdeal.defs _ _).mono (fun r h c => ⟨(h c).1.trans ?_, (h c).2⟩) (Cert.HeadReferenceIdeal.Value.run (F := Ideal) m' g')
  refine (HeadCallRef.res_eq m' c).trans ((HeadCallRef.layers_eq _ _ _ _ _).trans ?_)
  obtain ⟨h0, h1, h2, h3, h4⟩ := hagree c
  rw [h0, h1, h2, h3, h4]

end Cert.Proof

end
-- ==== Proof.RelayoutVal.lean ====
/-
  The relayout in extended reals: what its body stores has the block's columns, two to a row of 128.
-/
module

public import proofs.«01_k».proof.Proof.HeadRow
public import proofs.«01_k».proof.Proof.Gen.RelayoutIdeal.Skeleton
public import proofs.«01_k».proof.Proof.Gen.RelayoutReferenceIdeal.Run
public import Idealize.ShloMosaic.Lib.Pointwise.Contract

@[expose] public section

noncomputable section

namespace Cert.Proof.RelayoutVal

open Cert.RelayoutIdeal Cert.RelayoutIdeal.Gen
open Idealize.ShloMosaic
open scoped BigOperators

/-- The table's row that a lane of the result has. -/
abbrev lane (l : Fin 128) : Fin 64 := ⟨l.val % 64, Nat.mod_lt _ (by omega)⟩

/-- The block's column that a row and a lane of the result's block have. -/
abbrev col (r : Fin 1024) (l : Fin 128) : Fin 2048 := ⟨2 * r.val + l.val / 64, by omega⟩

/-- The unit matrix that the kernel multiplies by. -/
def eye : FVec Ideal S64x64 .f32 :=
  mulf (broadcast S64x64 (Scalar.ofBits .f32 0x3F800000#32))
    (sitofp .f32 (extui 32 (cmpi .eq (iota .tc S64x64 32 [0] iota_S64x64_d0_w32) (iota .tc S64x64 32 [1] iota_S64x64_d1_w32)) natLt_1_32))

/-- The bits of one are one. -/
theorem one : Ideal.ofBits .f32 0x3F800000#32 = 1 := by
  simp [Ideal.ofBits, Ideal.ieee, BitVec.toNat]
  rw [← EReal.coe_mul]
  norm_num

/-- Two numbers of 64 have the same 32 bits if and only if they are equal. -/
theorem bits_eq (k j : Fin 64) : BitVec.ofNat 32 k.val = BitVec.ofNat 32 j.val ↔ k = j := by
  refine ⟨fun h => Fin.ext ?_, fun h => h ▸ rfl⟩
  have := congrArg BitVec.toNat h
  simp only [BitVec.toNat_ofNat] at this
  omega

/-- An entry of the unit matrix. -/
theorem eye_apply (k j : Fin 64) : eye (ix2 k j) = if k = j then 1 else 0 := by
  show Ideal.ofBits .f32 0x3F800000#32 * ((((IntOp.cmpi .eq (iota .tc S64x64 32 [0] iota_S64x64_d0_w32 (ix2 k j))
    (iota .tc S64x64 32 [1] iota_S64x64_d1_w32 (ix2 k j))).setWidth 32).toInt : ℝ) : EReal) = _
  rw [one, one_mul, iota_single_apply, iota_single_apply]
  show ((((IntOp.cmpi .eq (BitVec.ofNat 32 k.val) (BitVec.ofNat 32 j.val)).setWidth 32).toInt : ℝ) : EReal) = _
  by_cases h : k = j
  · subst h
    simp [IntOp.cmpi]
  · have h' : ¬ BitVec.ofNat 32 k.val = BitVec.ofNat 32 j.val := fun e => h ((bits_eq k j).1 e)
    simp [IntOp.cmpi, h, beq_eq_false_iff_ne.2 h']

/-- The block's product with the unit matrix: the block with its rows and columns exchanged. -/
theorem turned (x : FVec Ideal S64x2048 .f32) (q : Fin 2048) (j : Fin 64) :
    matmul dot_S64x2048_S64x64_S2048x64_0_0_1_1_n_n (some .fp32) x eye (constant S2048x64 .f32 0x00000000#32) (ix2 q j) = x (ix2 j q) := by
  refine (Ideal.matmul_apply₁_of dot_S64x2048_S64x64_S2048x64_0_0_1_1_n_n (a := 0) rfl (K := 64) rfl x eye _ (ix2 q j)
    (fun k => ix2 k q) (fun k => ix2 k j) ?_ ?_).trans ?_
  · intro k
    funext a; apply Fin.ext
    match a with
    | ⟨0, _⟩ => rfl
    | ⟨1, _⟩ => rfl
  · intro k
    funext a; apply Fin.ext
    match a with
    | ⟨0, _⟩ => rfl
    | ⟨1, _⟩ => rfl
  show Ideal.ofBits .f32 0x00000000#32 + _ = _
  rw [Ideal.ofBits_zero_f32, zero_add]
  simp only [eye_apply, mul_ite, mul_one, mul_zero, Finset.sum_ite_eq', Finset.mem_univ, if_true]

/-- The exchanged block with its rows two and two. -/
theorem pairs (v : FVec Ideal S2048x64 .f32) (r : Fin 1024) (p : Fin 2) (j : Fin 64) :
    shapeCast S1024x2x64 v shapeCasts_S2048x64_S1024x2x64 (ix3 r p j) = v (ix2 (⟨2 * r.val + p.val, by omega⟩ : Fin 2048) j) :=
  shapeCast_apply v _ _ _ (by
    rw [Shape.rowMajor_val_three, Shape.rowMajor_val_two]
    show (2 * r.val + p.val) * 64 + j.val = (r.val * 2 + p.val) * 64 + j.val
    omega)

/-- One of each two rows. -/
theorem half (v : FVec Ideal S1024x1x64 .f32) (r : Fin 1024) (j : Fin 64) :
    shapeCast S1024x64 v shapeCasts_S1024x1x64_S1024x64 (ix2 r j) = v (ix3 r (0 : Fin 1) j) :=
  shapeCast_apply v _ _ _ (by
    rw [Shape.rowMajor_val_three, Shape.rowMajor_val_two]
    show (r.val * 1 + 0) * 64 + j.val = r.val * 64 + j.val
    omega)

/-- What the body stores, at a row and a lane of the block. -/
theorem pay_apply (x : FVec Ideal S64x2048 .f32) (r : Fin 1024) (l : Fin 128) : k0_pay1 (F := Ideal) x (ix2 r l) = x (ix2 (lane l) (col r l)) := by
  let w : FVec Ideal S1024x2x64 .f32 := shapeCast S1024x2x64
    (matmul dot_S64x2048_S64x64_S2048x64_0_0_1_1_n_n (some .fp32) x eye (constant S2048x64 .f32 0x00000000#32)) shapeCasts_S2048x64_S1024x2x64
  have hw : ∀ (p : Fin 2) (j : Fin 64), w (ix3 r p j) = x (ix2 j (⟨2 * r.val + p.val, by omega⟩ : Fin 2048)) := fun p j =>
    (pairs _ r p j).trans (turned x _ j)
  show concatenate S1024x128 1
    [⟨S1024x64, shapeCast S1024x64 (extractStridedSlice S1024x1x64 ![0, 0, 0] w slices_S1024x2x64_o0_0_0_S1024x1x64) shapeCasts_S1024x1x64_S1024x64⟩,
     ⟨S1024x64, shapeCast S1024x64 (extractStridedSlice S1024x1x64 ![0, 1, 0] w slices_S1024x2x64_o0_1_0_S1024x1x64) shapeCasts_S1024x1x64_S1024x64⟩]
    concatenates_S1024x64_S1024x64_S1024x128_d1 (ix2 r l) = _
  by_cases hl : l.val < 64
  · refine (concatenate_pair_apply_left (t := S1024x128) (s₁ := S1024x64) (s₂ := S1024x64) 1 _ _ _ (ix2 r l) rfl (ix2 r (⟨l.val, hl⟩ : Fin 64)) fun b => match b with | ⟨0, _⟩ => rfl | ⟨1, _⟩ => rfl).trans ?_
    refine (half _ r _).trans ((extractStridedSlice_apply _ w _ _ (ix3 r (0 : Fin 2) (⟨l.val, hl⟩ : Fin 64)) fun a =>
      match a with
      | ⟨0, _⟩ => (Nat.zero_add _).symm
      | ⟨1, _⟩ => rfl
      | ⟨2, _⟩ => (Nat.zero_add _).symm).trans ((hw _ _).trans ?_))
    refine congrArg x (Shape.idx_ext₂ ?_ ?_)
    · show l.val = l.val % 64
      omega
    · show 2 * r.val + 0 = 2 * r.val + l.val / 64
      omega
  · have hl' : l.val - 64 < 64 := by omega
    refine (concatenate_pair_apply_right (t := S1024x128) (s₁ := S1024x64) (s₂ := S1024x64) 1 _ _ _ (ix2 r l) rfl rfl (ix2 r (⟨l.val - 64, hl'⟩ : Fin 64))
      (fun b hb => match b, hb with | ⟨0, _⟩, _ => rfl | ⟨1, _⟩, hb => absurd rfl hb) ?_).trans ?_
    · show l.val - 64 + 64 = l.val
      omega
    refine (half _ r _).trans ((extractStridedSlice_apply _ w _ _ (ix3 r (1 : Fin 2) (⟨l.val - 64, hl'⟩ : Fin 64)) fun a =>
      match a with
      | ⟨0, _⟩ => (Nat.zero_add _).symm
      | ⟨1, _⟩ => rfl
      | ⟨2, _⟩ => (Nat.zero_add _).symm).trans ((hw _ _).trans ?_))
    refine congrArg x (Shape.idx_ext₂ ?_ ?_)
    · show l.val - 64 = l.val % 64
      omega
    · show 2 * r.val + 1 = 2 * r.val + l.val / 64
      omega

/-- The table's column that a row and a lane of the result have. -/
abbrev gcol (i : Fin 500000) (l : Fin 128) : Fin 1000000 := ⟨2 * i.val + l.val / 64, by omega⟩

/-- The whole table relaid: its columns, two to a row of 128. -/
def relaid (x : FVec Ideal S64x1000000 .f32) : FVec Ideal S500000x128 .f32 :=
  fun i => x (ix2 (lane (i 1 : Fin 128)) (gcol (i 0 : Fin 500000) (i 1 : Fin 128)))

/-- The reference's exchange of rows and columns and its reshape give the relaid table. -/
theorem reference_eq (x : FVec Ideal S64x1000000 .f32) :
    shapeCast Cert.RelayoutReferenceIdeal.S500000x128
      (transpose Cert.RelayoutReferenceIdeal.S1000000x64 [1, 0] x Cert.RelayoutReferenceIdeal.Gen.facts.transposes_S64x1000000_S1000000x64_1_0)
      Cert.RelayoutReferenceIdeal.Gen.facts.shapeCasts_S1000000x64_S500000x128 = relaid x := by
  funext i
  obtain ⟨r, l, rfl⟩ : ∃ (r : Fin 500000) (l : Fin 128), i = ix2 r l :=
    ⟨i 0, i 1, funext fun a => match a with | ⟨0, _⟩ => rfl | ⟨1, _⟩ => rfl⟩
  refine (shapeCast_apply _ _ _ (ix2 (gcol r l) (lane l)) ?_).trans
    (transpose_apply _ x _ _ (ix2 (lane l) (gcol r l)) fun b => match b with | ⟨0, _⟩ => rfl | ⟨1, _⟩ => rfl)
  rw [Shape.rowMajor_val_two, Shape.rowMajor_val_two]
  show (2 * r.val + l.val / 64) * 64 + l.val % 64 = r.val * 128 + l.val
  omega

end Cert.Proof.RelayoutVal

end
-- ==== Proof.RelayoutRun.lean ====
/-
  The relayout run in extended reals: the result array holds the table's columns, two to a row of 128. The last block
  overhangs the table's end, and what is stated of it is the part inside.
-/
module

public import proofs.«01_k».proof.Proof.RelayoutVal
public import proofs.«01_k».proof.Proof.Gen.RelayoutIdeal.Frame
public import Idealize.ShloMosaic.Lib.Pipeline.Value
public import Idealize.ShloMosaic.Lib.Quiescent
public import Idealize.ShloMosaic.Lib.Claim

@[expose] public section

set_option maxRecDepth 16384

noncomputable section

namespace Cert.Proof.RelayoutRun

open Cert.RelayoutIdeal Cert.RelayoutIdeal.Gen Cert.Proof.RelayoutVal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-- The relaid table at launch. -/
abbrev G (c : Dev nD) : Buf (Elt Ideal) ((c : Thread nD τ).loc main_v0) := relaid (m ((c : Thread nD τ).loc main_arg0))

/-! ## The blocks -/

/-- Which block of its array a grid point has, and how much of it is inside. -/
theorem sizes : ∀ t : Fin grid0.N, win0_0.index t 0 = 0 ∧ win0_0.index t 1 = t.val ∧ win0_1.index t 0 = t.val ∧ win0_1.index t 1 = 0
    ∧ win0_0.xsize (grid0.coords t) 0 = 64 ∧ win0_0.xsize (grid0.coords t) 1 = min 2048 (1000000 - 2048 * t.val)
    ∧ win0_1.xsize (grid0.coords t) 0 = min 1024 (500000 - 1024 * t.val) ∧ win0_1.xsize (grid0.coords t) 1 = 128 := by decide +kernel

/-- The part of the result's block inside the array is moved. -/
theorem moved1 (t : Fin cfg0.N) (r : Fin 1024) (l : Fin 128) :
    win0_1.moved (grid0.coords t) (ix2 r l) = true ↔ 1024 * t.val + r.val < 500000 := by
  rw [Window.moved_iff]
  obtain ⟨-, -, -, -, -, -, h0, h1⟩ := sizes t
  refine ⟨fun h => ?_, fun h a => ?_⟩
  · have := h 0
    change r.val < win0_1.xsize (grid0.coords t) 0 at this
    omega
  · match a with
    | ⟨0, _⟩ =>
      show r.val < win0_1.xsize (grid0.coords t) 0
      omega
    | ⟨1, _⟩ =>
      show l.val < win0_1.xsize (grid0.coords t) 1
      omega

/-- The part of the table's block inside the table is moved. -/
theorem moved0 (t : Fin cfg0.N) (j : Fin 64) (q : Fin 2048) (h : 2048 * t.val + q.val < 1000000) :
    win0_0.moved (grid0.coords t) (ix2 j q) = true := by
  rw [Window.moved_iff]
  obtain ⟨-, -, -, -, h0, h1, -, -⟩ := sizes t
  intro a
  match a with
  | ⟨0, _⟩ =>
    show j.val < win0_0.xsize (grid0.coords t) 0
    omega
  | ⟨1, _⟩ =>
    show q.val < win0_0.xsize (grid0.coords t) 1
    omega

/-- What the staged block of the table holds, whatever is past the table's end. -/
abbrev staged (c : Dev nD) (t : Fin cfg0.N) (d : S64x2048.Idx → Elt Ideal .f32) : S64x2048.Idx → Elt Ideal .f32 :=
  win0_0.fill (grid0.coords t) d (iblk m c 0 t)

/-- A staged entry that is inside the table. -/
theorem staged_apply (c : Dev nD) (t : Fin cfg0.N) (d : S64x2048.Idx → Elt Ideal .f32) (j : Fin 64) (q : Fin 2048)
    (h : 2048 * t.val + q.val < 1000000) :
    staged m c t d (ix2 j q) = m ((c : Thread nD τ).loc main_arg0) (ix2 j (⟨2048 * t.val + q.val, h⟩ : Fin 1000000)) := by
  refine (dif_pos (moved0 t j q h)).trans ?_
  refine congrArg (m ((c : Thread nD τ).loc main_arg0)) (Shape.idx_ext₂ ?_ ?_)
  · show win0_0.index t 0 * 64 + 1 * j.val = j.val
    rw [(sizes t).1]; omega
  · show win0_0.index t 1 * 2048 + 1 * q.val = 2048 * t.val + q.val
    rw [(sizes t).2.1]; omega

/-- The part inside the array of what the body stores is the block of the relaid table. -/
theorem stored_eq (c : Dev nD) (t : Fin cfg0.N) (d : S64x2048.Idx → Elt Ideal .f32) :
    k0_pay1 (F := Ideal) (staged m c t d)
      = win0_1.fill (grid0.coords t) (k0_pay1 (F := Ideal) (staged m c t d)) ((win0_1.blk t).view.read (Elt Ideal) (G m c)) := by
  funext j
  obtain ⟨r, l, rfl⟩ : ∃ (r : Fin 1024) (l : Fin 128), j = ix2 r l :=
    ⟨j 0, j 1, funext fun a => match a with | ⟨0, _⟩ => rfl | ⟨1, _⟩ => rfl⟩
  by_cases hm : win0_1.moved (grid0.coords t) (ix2 r l) = true
  · have hr := (moved1 t r l).1 hm
    refine Eq.trans ?_ (dif_pos hm).symm
    refine (pay_apply _ r l).trans ((staged_apply m c t d (lane l) (col r l) (by show 2048 * t.val + (2 * r.val + l.val / 64) < 1000000; omega)).trans ?_)
    refine congrArg (m ((c : Thread nD τ).loc main_arg0)) (Shape.idx_ext₂ ?_ ?_)
    · show l.val % 64 = (win0_1.index t 1 * 128 + 1 * l.val) % 64
      rw [(sizes t).2.2.2.1]; omega
    · show 2048 * t.val + (2 * r.val + l.val / 64) = 2 * (win0_1.index t 0 * 1024 + 1 * r.val) + (win0_1.index t 1 * 128 + 1 * l.val) / 64
      rw [(sizes t).2.2.1, (sizes t).2.2.2.1]; omega
  · exact (by unfold Window.fill; exact dif_neg hm : win0_1.fill (grid0.coords t) (k0_pay1 (F := Ideal) (staged m c t d))
      ((win0_1.blk t).view.read (Elt Ideal) (G m c)) (ix2 r l) = _).symm

/-! ## The body -/

abbrev r0_0 : Rect S64x2048 := Rect.unit (s := S64x2048) ![0, 0] S64x2048.size inb_S64x2048_S64x2048_0_0
abbrev r0_1 : Rect S1024x128 := Rect.unit (s := S1024x128) ![0, 0] S1024x128.size inb_S1024x128_S1024x128_0_0

/-- The offsets of a whole block are zero. -/
theorem hz : (![0, 0] : Fin 2 → Nat) = fun _ => 0 := funext fun a => by fin_cases a <;> rfl

/-- The one store covers the block. -/
theorem cover0_1 (p : Vec Ideal S1024x128 .f32) (y : S1024x128.Idx) :
    ∃ pc ∈ ([⟨r0_1, p⟩] : List (View.Piece (Elt Ideal) S1024x128 .f32)), y ∈ pc.1.set :=
  View.cover_of_tiled [⟨r0_1, p⟩] S1024x128.size (by rfl) y

/-- What the store leaves, -/
def out (x : Vec Ideal S64x2048 .f32) : Vec Ideal S1024x128 .f32 := View.canon [⟨r0_1, k0_pay1 (View.ld x r0_0)⟩]
/-- which is what the body stores. -/
theorem out_eq (x : Vec Ideal S64x2048 .f32) : out x = k0_pay1 (F := Ideal) x := by
  unfold out
  rw [View.canon_unit_zero hz, View.ld_unit_zero hz]

set_option maxHeartbeats 1000000 in
/-- The body on a staged block of the table and a block of the result. -/
theorem sound_kernel (c : Dev nD) (E : Set ℕ) (i : grid0.Coords) (arg1 : Memref sig .tc .vmem S64x2048 .f32) (harg1 : arg1.IsWhole)
    (arg2 : Memref sig .tc .vmem S1024x128 .f32) (harg2 : arg2.IsWhole) (x : Vec Ideal S64x2048 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k0_pay1 (F := Ideal) x)) -∗ K ⟨⟩))
      ⊢ wp frame (wpE (defs₀ (F := Ideal)) Variants.none c none) E (cc0__relayout_body i arg1 harg1 arg2 harg2) K := by
  simp only [cc0__relayout_body_eq_skeleton]; unfold cc0__relayout_body_skel
  rw [← out_eq x]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The run -/

/-- Zeros past the end of the table's block, -/
abbrev zero0 : S64x2048.Idx → Elt Ideal .f32 := fun _ => Scalar.ofBits (F := Ideal) .f32 0#32
/-- and past the end of the result's. -/
abbrev zero1 : S1024x128.Idx → Elt Ideal .f32 := fun _ => Scalar.ofBits (F := Ideal) .f32 0#32

/-- The proof data: after the body the table's buffer has its block and the result's its block of the relaid table, each
    filled out past the end with zeros that nothing reads. -/
def dats (_ : Fin 1) (c : Dev nD) : Dat τ (Elt Ideal) Unit ℕ (UR sig nD τ) ℕ cfg0 c where
  A w := V m c (Pipeline.arrRef spec0 w)
  after w t := match w with
    | ⟨0, _⟩ => staged m c t zero0
    | ⟨1, _⟩ => win0_1.fill (grid0.coords t) zero1 ((win0_1.blk t).view.read (Elt Ideal) (G m c))
  Φ _ := Pipeline.ΦA spec0 c
  q _ := fullShare
  owed _ := 0

/-- The arrays at launch. -/
theorem A_eq (c : Dev nD) (w : Fin cfg0.W) : (dats m 0 c).A w = V m c (Pipeline.arrRef spec0 w) := by
  dsimp only [dats]

/-- What the body finds in the table's buffer. -/
theorem before_0 (c : Dev nD) (t : Fin cfg0.N) (d) : (dats m 0 c).before 0 t d = staged m c t d := by
  unfold Dat.before; rw [if_pos (fetch0_0 t)]; rfl

/-- The body table's row at a grid point. -/
theorem defs₀_row (t : Fin cfg0.N) : defs₀ (F := Ideal) .tc cfg0.body (cfg0.bodyArgs t (cfg0.slots t)) = bodyAt0 t := by
  unfold defs₀; rw [Defs.onTc_tc]

/-- The body's obligation at every grid point. -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0]
  iapply (sound_kernel c Set.univ (grid0.coords t) _ _ _ _ (staged m c t d0) _)
  isplitl [H0]; · iexact H0
  isplitl [H1]; · iexists _; iexact H1
  iintro ⟨H0, H1⟩
  isplitl [HΦ]; · iexact HΦ
  isplitl [Ho]; · iexact Ho
  have h0 : win0_0.cut (grid0.coords t) (staged m c t zero0) = iblk m c 0 t := win0_0.cut_fill _ _ _
  have h1 : win0_1.cut (grid0.coords t) (win0_1.fill (grid0.coords t) zero1 ((win0_1.blk t).view.read (Elt Ideal) (G m c)))
      = (win0_1.blk t).view.read (Elt Ideal) (G m c) := win0_1.cut_fill _ _ _
  isplitl [H0]
  · iexists d0
    change _ ⊢ owns (c : Thread nD τ) (st0_0 t) fullShare (win0_0.fill (grid0.coords t) d0
      (win0_0.cut (grid0.coords t) (staged m c t zero0)))
    rw [h0]; try iexact H0
  · iexists (k0_pay1 (F := Ideal) (staged m c t d0))
    change _ ⊢ owns (c : Thread nD τ) (st0_1 t) fullShare (win0_1.fill (grid0.coords t) (k0_pay1 (F := Ideal) (staged m c t d0))
      (win0_1.cut (grid0.coords t) (win0_1.fill (grid0.coords t) zero1 ((win0_1.blk t).view.read (Elt Ideal) (G m c)))))
    rw [h1, ← stored_eq m c t d0]; try iexact H1

set_option backward.isDefEq.respectTransparency.types false in
set_option maxHeartbeats 800000 in
/-- The run ends with the arrays as the proof data say and the semaphores at rest. -/
theorem run_main : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The run ends with the table unchanged and the semaphores at rest. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- What a grid point writes back is its block of the relaid table. -/
theorem flushed_eq (c : Dev nD) (t : Fin cfg0.N) : (dats m 0 c).flushed 1 t = ((cfg0.win 1).blk t).view.read (Elt Ideal) (G m c) :=
  win0_1.cut_fill _ _ _

/-- The blocks cover the array. -/
theorem cover (i : S500000x128.Idx) : ∃ t : Fin cfg0.N, (cfg0.win 1).flush t = true ∧ i ∈ ((cfg0.win 1).blk t).view.set := by
  have h0 : (i 0 : Nat) < 500000 := (i 0).isLt
  have h1 : (i 1 : Nat) < 128 := (i 1).isLt
  have hN : cfg0.N = 489 := N_0
  refine ⟨⟨(i 0 : Nat) / 1024, by omega⟩, flush0_1 _, ?_⟩
  generalize ht : (⟨(i 0 : Nat) / 1024, by omega⟩ : Fin cfg0.N) = t
  have hv : (i 0 : Nat) / 1024 = t.val := congrArg Fin.val ht
  obtain ⟨-, -, e0, e1, -, -, s0, s1⟩ := sizes t
  show i ∈ ((View.whole main_v0).slice (win0_1.rect t)).set
  rw [View.set_slice_whole, Rect.mem_set_unit]
  intro a
  match a with
  | ⟨0, _⟩ =>
    show win0_1.index t 0 * 1024 ≤ (i 0 : Nat) ∧ (i 0 : Nat) < win0_1.index t 0 * 1024 + win0_1.xsize (grid0.coords t) 0
    rw [e0, s0]; omega
  | ⟨1, _⟩ =>
    show win0_1.index t 1 * 128 ≤ (i 1 : Nat) ∧ (i 1 : Nat) < win0_1.index t 1 * 128 + win0_1.xsize (grid0.coords t) 1
    rw [e1, s1]; omega

/-- The result array after the run. -/
theorem final (c : Dev nD) : (dats m 0 c).arrAt 1 cfg0.N = G m c :=
  (dats m 0 c).arrAt_eq_of_cover 1 (G m c) (fun t _ => flushed_eq m c t) cover

/-- The run: the result array holds the relaid table, and the table is unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0) :=
  (θ_run defs _ _).mono (fun r h c => ⟨((h.1 c).1 1).trans (final m c),
      ((h.1 c).1 0).trans (((dats m 0 c).arrAt_in 0 rfl _).trans ((A_eq m c 0).trans (V_main_arg0 m c)))⟩)
    (run_main m ρ)

end Cert.Proof.RelayoutRun

end
-- ==== Proof.RelayoutBits.lean ====
/-
  The relayout as it is: its run ends with the table unchanged and its semaphores at rest, whatever the result holds.
-/
module

public import proofs.«01_k».proof.Proof.Gen.Relayout.Skeleton
public import proofs.«01_k».proof.Proof.Gen.Relayout.Frame
public import Idealize.ShloMosaic.Lib.Quiescent
public import Idealize.ShloMosaic.Lib.Claim

@[expose] public section

set_option maxRecDepth 16384

noncomputable section

namespace Cert.Proof.RelayoutBits

open Cert.Relayout Cert.Relayout.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on a staged block of the table and a block of the result: it leaves the first as it was. -/
theorem sound_kernel (c : Dev nD) (E : Set ℕ) (i : grid0.Coords) (arg1 : Memref sig .tc .vmem S64x2048 .f32) (harg1 : arg1.IsWhole)
    (arg2 : Memref sig .tc .vmem S1024x128 .f32) (harg2 : arg2.IsWhole) (x : Vec F S64x2048 .f32) (K : PUnit → sProp 𝕄) :
    iprop(owns (c : Thread nD τ) arg1 fullShare x ∗ (∃ d, owns (c : Thread nD τ) arg2 fullShare d)
        ∗ (iprop(owns (c : Thread nD τ) arg1 fullShare x ∗ (∃ d, owns (c : Thread nD τ) arg2 fullShare d)) -∗ K ⟨⟩))
      ⊢ wp frame (wpE (defs₀ (F := F)) Variants.none c none) E (cc0__relayout_body i arg1 harg1 arg2 harg2) K := by
  simp only [cc0__relayout_body_eq_skeleton]; unfold cc0__relayout_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; iexists _; isplitr
  swap; · iexact H1
  ipureintro
  rfl

/-- What the staged block of the table holds, whatever is past the table's end. -/
abbrev staged (c : Dev nD) (t : Fin cfg0.N) (d : S64x2048.Idx → Elt F .f32) : S64x2048.Idx → Elt F .f32 :=
  win0_0.fill (grid0.coords t) d (iblk m c 0 t)

/-- Zeros past the end of the table's block, -/
abbrev zero0 : S64x2048.Idx → Elt F .f32 := fun _ => Scalar.ofBits (F := F) .f32 0#32
/-- and in the result's. -/
abbrev zero1 : S1024x128.Idx → Elt F .f32 := fun _ => Scalar.ofBits (F := F) .f32 0#32

/-- The proof data: the table's buffer has its block; nothing is said of the result's. -/
def dats (_ : Fin 1) (c : Dev nD) : Dat τ (Elt F) Unit ℕ (UR sig nD τ) ℕ cfg0 c where
  A w := V m c (Pipeline.arrRef spec0 w)
  after w t := match w with
    | ⟨0, _⟩ => staged m c t zero0
    | ⟨1, _⟩ => zero1
  Φ _ := Pipeline.ΦA spec0 c
  q _ := fullShare
  owed _ := 0

/-- The arrays at launch. -/
theorem A_eq (c : Dev nD) (w : Fin cfg0.W) : (dats m 0 c).A w = V m c (Pipeline.arrRef spec0 w) := by
  dsimp only [dats]

/-- What the body finds in the table's buffer. -/
theorem before_0 (c : Dev nD) (t : Fin cfg0.N) (d) : (dats m 0 c).before 0 t d = staged m c t d := by
  unfold Dat.before; rw [if_pos (fetch0_0 t)]; rfl

/-- The body table's row at a grid point. -/
theorem defs₀_row (t : Fin cfg0.N) : defs₀ (F := F) .tc cfg0.body (cfg0.bodyArgs t (cfg0.slots t)) = bodyAt0 t := by
  unfold defs₀; rw [Defs.onTc_tc]

/-- The window of which nothing is said: the result's. -/
def fgt : Fin cfg0.W → Bool := fun | ⟨0, _⟩ => false | ⟨1, _⟩ => true

/-- The body's obligation at every grid point. -/
theorem body_obligation (c : Dev nD) : BodyObligationLoose (dats m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0]
  iapply (sound_kernel c Set.univ (grid0.coords t) _ _ _ _ (staged m c t d0) _)
  isplitl [H0]; · iexact H0
  isplitl [H1]; · iexists _; iexact H1
  iintro ⟨H0, H1⟩
  isplitl [HΦ]; · iexact HΦ
  isplitl [Ho]; · iexact Ho
  have h0 : win0_0.cut (grid0.coords t) (staged m c t zero0) = iblk m c 0 t := win0_0.cut_fill _ _ _
  isplitl [H0]
  · iexists d0
    change _ ⊢ owns (c : Thread nD τ) (st0_0 t) fullShare (win0_0.fill (grid0.coords t) d0
      (win0_0.cut (grid0.coords t) (staged m c t zero0)))
    rw [h0]; try iexact H0
  · iexact H1

set_option backward.isDefEq.respectTransparency.types false in
set_option maxHeartbeats 800000 in
/-- The run ends with the table as launched and the semaphores at rest. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The run ends with the table unchanged and the semaphores at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h.1.arr_in c 0 rfl).trans ((A_eq m c 0).trans (V_main_arg0 m c)), h.2⟩) (run_main m ρ)

end Cert.Proof.RelayoutBits

end
-- ==== Proof.Relayout.lean ====
/-
  The relayout's claims: its programs end with their semaphores at rest, nothing is rewritten in it, and in extended
  reals kernel and reference give one result.
-/
module

public import proofs.«01_k».proof.Defs
public import proofs.«01_k».proof.Proof.RelayoutRun
public import proofs.«01_k».proof.Proof.RelayoutBits

@[expose] public section

noncomputable section

namespace Cert.Proof

open Idealize.ShloMosaic Idealize.SL.Sem

/-- The relayout's kernel ends, with its argument unchanged and its semaphores at rest. -/
theorem frame_relayout : Cert.quiescent_Relayout := fun m g _ => RelayoutBits.frame m g

/-- The same of the kernel in extended reals. -/
theorem frame_relayout_ideal : Cert.quiescent_RelayoutIdeal := fun m g _ => RelayoutRun.frame m g

/-- The same of the relayout's reference. -/
theorem frame_relayout_reference : Cert.quiescent_RelayoutReferenceIdeal := fun m g _ =>
  (θ_run Cert.RelayoutReferenceIdeal.defs _ _).mono (fun r h => ⟨fun c => (h c).2, Idealize.ShloMosaic.sem_eq_zero_of_no_sems (by decide) r.2⟩)
    (Cert.RelayoutReferenceIdeal.Value.run (F := Ideal) m g)

/-- Nothing is rewritten in the relayout. -/
theorem preserves_relayout : Cert.preserves_Relayout_RelayoutIdeal := trivial

/-- In extended reals the relayout's kernel and its reference give one result. -/
theorem algebraic_relayout : Cert.algebraic_RelayoutIdeal_RelayoutReferenceIdeal := by
  intro m g m' g' _ hagree
  refine ⟨fun c => RelayoutRun.G m c, RelayoutRun.run m g, ?_⟩
  refine (θ_run Cert.RelayoutReferenceIdeal.defs _ _).mono (fun r h c => ⟨(h c).1.trans ?_, (h c).2⟩)
    (Cert.RelayoutReferenceIdeal.Value.run (F := Ideal) m' g')
  refine (RelayoutVal.reference_eq _).trans ?_
  rw [hagree c]

end Cert.Proof

end
-- ==== Proof.lean ====
/-
  The proof of `Cert.Claim`, for the pooling and the head after it as one program, for the head alone and
  for the relayout alone: the frames of the kernel, of its ideal model and of the reference, the preservation, and the
  ideal kernel's refinement of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Head
public import proofs.«01_k».proof.Proof.Gen.HeadIdeal
public import proofs.«01_k».proof.Proof.Gen.HeadReferenceIdeal
public import proofs.«01_k».proof.Proof.Gen.Relayout
public import proofs.«01_k».proof.Proof.Gen.RelayoutIdeal
public import proofs.«01_k».proof.Proof.Gen.RelayoutReferenceIdeal
public import proofs.«01_k».proof.Proof.FramesBits
public import proofs.«01_k».proof.Proof.FramesIdeal
public import proofs.«01_k».proof.Proof.Algebraic
public import proofs.«01_k».proof.Proof.HeadCall
public import proofs.«01_k».proof.Proof.Relayout

@[expose] public section

noncomputable section

namespace Cert.Proof

/-- Every claim about the kernel. -/
theorem claim : Cert.Claim :=
  ⟨Cert.Kernel.Gen.facts, Cert.KernelIdeal.Gen.facts, Cert.ReferenceIdeal.Gen.facts, Cert.Head.Gen.facts,
    Cert.HeadIdeal.Gen.facts, Cert.HeadReferenceIdeal.Gen.facts, Cert.Relayout.Gen.facts, Cert.RelayoutIdeal.Gen.facts,
    Cert.RelayoutReferenceIdeal.Gen.facts, Pre.facts₁, Pre.facts₂,
    frame_bits, frame_ideal, frame_ideal_zero, frame_reference, frame_reference_zero, frame_head, frame_head_ideal, frame_head_reference,
    frame_relayout, frame_relayout_ideal, frame_relayout_reference, preserves, algebraic, preserves_head, algebraic_head,
    preserves_relayout, algebraic_relayout⟩

end Cert.Proof

end
